-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : FVec F S512x64 .f32) (main_arg2 : IVec S1024x1 32) (main_arg3 : FVec F S4x512x1024 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Pre_routes_in_range_ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : FVec F S512x64 .f32) (main_arg2 : IVec S1024x1 32) (main_arg3 : FVec F S64x512x1024 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S1024x1024 : Shape := ⟨2, ![1024, 1024]⟩
abbrev S28x48x1024 : Shape := ⟨3, ![28, 48, 1024]⟩
abbrev S7 : Shape := ⟨1, ![7]⟩
abbrev S_ : Shape := ⟨0, ![]⟩
abbrev S1x1024 : Shape := ⟨2, ![1, 1024]⟩
abbrev S64x1024 : Shape := ⟨2, ![64, 1024]⟩
abbrev S1024 : Shape := ⟨1, ![1024]⟩
abbrev S48x1024 : Shape := ⟨2, ![48, 1024]⟩
abbrev S48x512 : Shape := ⟨2, ![48, 512]⟩
abbrev S12x512 : Shape := ⟨2, ![12, 512]⟩
abbrev S1x512x1024 : Shape := ⟨3, ![1, 512, 1024]⟩
abbrev S512x1024 : Shape := ⟨2, ![512, 1024]⟩
abbrev S12x1024 : Shape := ⟨2, ![12, 1024]⟩
abbrev S1x48x1024 : Shape := ⟨3, ![1, 48, 1024]⟩
abbrev S1 : Shape := ⟨1, ![1]⟩
abbrev S1344x1024 : Shape := ⟨2, ![1344, 1024]⟩
abbrev S7x48x1024 : Shape := ⟨3, ![7, 48, 1024]⟩
abbrev S336x1024 : Shape := ⟨2, ![336, 1024]⟩
abbrev S21x48x1024 : Shape := ⟨3, ![21, 48, 1024]⟩
abbrev S1008x1024 : Shape := ⟨2, ![1008, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S4x512x1024, .f32⟩
  | .local _ .vmem, ⟨2, _⟩ => ⟨S1024x1, .i32⟩
  | .local _ .vmem, ⟨3, _⟩ => ⟨S1024x1024, .f32⟩
  | .local _ .vmem, ⟨4, _⟩ => ⟨S28x48x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_15 : BitVec 32 := 0#32
  let v38 : BitVec 1 := Scalar.cmpi .ne v20 c0_i32_15
  let v39 : BitVec 32 := Scalar.extui v38
  let c0_i32_16 : BitVec 32 := 0#32
  let v40 : BitVec 1 := Scalar.cmpi .ne v39 c0_i32_16
  v40

def k0_dev1 (d0 : Dev nD) : Nat :=
  let c0_i32_301 : BitVec 32 := 0#32
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v519 : BitVec 32 := Scalar.addi c0_i32_298 v3
  let c1_i32_300 : BitVec 32 := 1#32
  let v520 : BitVec 32 := Scalar.muli v519 c1_i32_300
  let v521 : BitVec 32 := Scalar.addi c0_i32_301 v520
  v521.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_17 : BitVec 32 := 1#32
  let v41 : BitVec 1 := Scalar.cmpi .ne v20 c1_i32_17
  let v42 : BitVec 32 := Scalar.extui v41
  let c0_i32_18 : BitVec 32 := 0#32
  let v43 : BitVec 1 := Scalar.cmpi .ne v42 c0_i32_18
  v43

def k0_dev2 (d0 : Dev nD) : Nat :=
  let c0_i32_301 : BitVec 32 := 0#32
  let c4_i32_298 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v519 : BitVec 32 := Scalar.addi c4_i32_298 v3
  let c1_i32_300 : BitVec 32 := 1#32
  let v520 : BitVec 32 := Scalar.muli v519 c1_i32_300
  let v521 : BitVec 32 := Scalar.addi c0_i32_301 v520
  v521.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_19 : BitVec 32 := 2#32
  let v44 : BitVec 1 := Scalar.cmpi .ne v20 c2_i32_19
  let v45 : BitVec 32 := Scalar.extui v44
  let c0_i32_20 : BitVec 32 := 0#32
  let v46 : BitVec 1 := Scalar.cmpi .ne v45 c0_i32_20
  v46

def k0_dev3 (d0 : Dev nD) : Nat :=
  let c0_i32_300 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v519 : BitVec 32 := Scalar.addi c8_i32 v3
  let c1_i32_299 : BitVec 32 := 1#32
  let v520 : BitVec 32 := Scalar.muli v519 c1_i32_299
  let v521 : BitVec 32 := Scalar.addi c0_i32_300 v520
  v521.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_21 : BitVec 32 := 3#32
  let v47 : BitVec 1 := Scalar.cmpi .ne v20 c3_i32_21
  let v48 : BitVec 32 := Scalar.extui v47
  let c0_i32_22 : BitVec 32 := 0#32
  let v49 : BitVec 1 := Scalar.cmpi .ne v48 c0_i32_22
  v49

def k0_dev4 (d0 : Dev nD) : Nat :=
  let c0_i32_301 : BitVec 32 := 0#32
  let c12_i32_298 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v519 : BitVec 32 := Scalar.addi c12_i32_298 v3
  let c1_i32_300 : BitVec 32 := 1#32
  let v520 : BitVec 32 := Scalar.muli v519 c1_i32_300
  let v521 : BitVec 32 := Scalar.addi c0_i32_301 v520
  v521.toNat
def k0_dev5 (d0 : Dev nD) : Nat :=
  let c0_i32_25 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_24 : BitVec 32 := 1#32
  let v50 : BitVec 32 := Scalar.muli v24 c1_i32_24
  let v51 : BitVec 32 := Scalar.addi c0_i32_25 v50
  v51.toNat
def k0_dev6 (d0 : Dev nD) : Nat :=
  let c0_i32_28 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_27 : BitVec 32 := 1#32
  let v52 : BitVec 32 := Scalar.muli v28 c1_i32_27
  let v53 : BitVec 32 := Scalar.addi c0_i32_28 v52
  v53.toNat
def k0_dev7 (d0 : Dev nD) : Nat :=
  let c0_i32_31 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_30 : BitVec 32 := 1#32
  let v54 : BitVec 32 := Scalar.muli v32 c1_i32_30
  let v55 : BitVec 32 := Scalar.addi c0_i32_31 v54
  v55.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32 : BitVec 32 := 4294967293#32
  let v197 : BitVec 32 := Scalar.addi v20 c_m3_i32
  let c0_i32_80 : BitVec 32 := 0#32
  let v198 : BitVec 1 := Scalar.cmpi .sge v197 c0_i32_80
  let c3_i32_81 : BitVec 32 := 3#32
  let v199 : BitVec 1 := Scalar.cmpi .sle v197 c3_i32_81
  let v200 : BitVec 1 := Scalar.andi v198 v199
  let v201 : BitVec 32 := Scalar.extui v200
  let c0_i32_82 : BitVec 32 := 0#32
  let v202 : BitVec 1 := Scalar.cmpi .ne v201 c0_i32_82
  v202

def k0_dev8 (d0 : Dev nD) : Nat :=
  let c0_i32_305 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_298 : BitVec 32 := 4294967293#32
  let v519 : BitVec 32 := Scalar.addi v20 c_m3_i32_298
  let v520 : BitVec 32 := Scalar.muli c4_i32_299 v519
  let c4_i32 : BitVec 32 := 4#32
  let v3 : BitVec 32 := Scalar.remsi v2 c4_i32
  let v521 : BitVec 32 := Scalar.addi v520 v3
  let c1_i32_304 : BitVec 32 := 1#32
  let v522 : BitVec 32 := Scalar.muli v521 c1_i32_304
  let v523 : BitVec 32 := Scalar.addi c0_i32_305 v522
  v523.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32 : BitVec 32 := 4294967294#32
  let v203 : BitVec 32 := Scalar.addi v20 c_m2_i32
  let c0_i32_83 : BitVec 32 := 0#32
  let v204 : BitVec 1 := Scalar.cmpi .sge v203 c0_i32_83
  let c3_i32_84 : BitVec 32 := 3#32
  let v205 : BitVec 1 := Scalar.cmpi .sle v203 c3_i32_84
  let v206 : BitVec 1 := Scalar.andi v204 v205
  let v207 : BitVec 32 := Scalar.extui v206
  let c0_i32_85 : BitVec 32 := 0#32
  let v208 : BitVec 1 := Scalar.cmpi .ne v207 c0_i32_85
  v208

def k0_dev9 (d0 : Dev nD) : Nat :=
  let c0_i32_304 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_298 : BitVec 32 := 4294967294#32
  let v519 : BitVec 32 := Scalar.addi v20 c_m2_i32_298
  let v520 : BitVec 32 := Scalar.muli c4_i32_299 v519
  let c4_i32 : BitVec 32 := 4#32
  let v3 : BitVec 32 := Scalar.remsi v2 c4_i32
  let v521 : BitVec 32 := Scalar.addi v520 v3
  let c1_i32_303 : BitVec 32 := 1#32
  let v522 : BitVec 32 := Scalar.muli v521 c1_i32_303
  let v523 : BitVec 32 := Scalar.addi c0_i32_304 v522
  v523.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_86 : BitVec 32 := 4294967295#32
  let v209 : BitVec 32 := Scalar.addi v20 c_m1_i32_86
  let c0_i32_87 : BitVec 32 := 0#32
  let v210 : BitVec 1 := Scalar.cmpi .sge v209 c0_i32_87
  let c3_i32_88 : BitVec 32 := 3#32
  let v211 : BitVec 1 := Scalar.cmpi .sle v209 c3_i32_88
  let v212 : BitVec 1 := Scalar.andi v210 v211
  let v213 : BitVec 32 := Scalar.extui v212
  let c0_i32_89 : BitVec 32 := 0#32
  let v214 : BitVec 1 := Scalar.cmpi .ne v213 c0_i32_89
  v214

def k0_dev10 (d0 : Dev nD) : Nat :=
  let c0_i32_305 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_298 : BitVec 32 := 4294967295#32
  let v519 : BitVec 32 := Scalar.addi v20 c_m1_i32_298
  let v520 : BitVec 32 := Scalar.muli c4_i32_299 v519
  let c4_i32 : BitVec 32 := 4#32
  let v3 : BitVec 32 := Scalar.remsi v2 c4_i32
  let v521 : BitVec 32 := Scalar.addi v520 v3
  let c1_i32_304 : BitVec 32 := 1#32
  let v522 : BitVec 32 := Scalar.muli v521 c1_i32_304
  let v523 : BitVec 32 := Scalar.addi c0_i32_305 v522
  v523.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_90 : BitVec 32 := 1#32
  let v215 : BitVec 32 := Scalar.addi v20 c1_i32_90
  let c0_i32_91 : BitVec 32 := 0#32
  let v216 : BitVec 1 := Scalar.cmpi .sge v215 c0_i32_91
  let c3_i32_92 : BitVec 32 := 3#32
  let v217 : BitVec 1 := Scalar.cmpi .sle v215 c3_i32_92
  let v218 : BitVec 1 := Scalar.andi v216 v217
  let v219 : BitVec 32 := Scalar.extui v218
  let c0_i32_93 : BitVec 32 := 0#32
  let v220 : BitVec 1 := Scalar.cmpi .ne v219 c0_i32_93
  v220

def k0_dev11 (d0 : Dev nD) : Nat :=
  let c0_i32_305 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_298 : BitVec 32 := 1#32
  let v519 : BitVec 32 := Scalar.addi v20 c1_i32_298
  let v520 : BitVec 32 := Scalar.muli c4_i32_299 v519
  let c4_i32 : BitVec 32 := 4#32
  let v3 : BitVec 32 := Scalar.remsi v2 c4_i32
  let v521 : BitVec 32 := Scalar.addi v520 v3
  let c1_i32_304 : BitVec 32 := 1#32
  let v522 : BitVec 32 := Scalar.muli v521 c1_i32_304
  let v523 : BitVec 32 := Scalar.addi c0_i32_305 v522
  v523.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_94 : BitVec 32 := 2#32
  let v221 : BitVec 32 := Scalar.addi v20 c2_i32_94
  let c0_i32_95 : BitVec 32 := 0#32
  let v222 : BitVec 1 := Scalar.cmpi .sge v221 c0_i32_95
  let c3_i32_96 : BitVec 32 := 3#32
  let v223 : BitVec 1 := Scalar.cmpi .sle v221 c3_i32_96
  let v224 : BitVec 1 := Scalar.andi v222 v223
  let v225 : BitVec 32 := Scalar.extui v224
  let c0_i32_97 : BitVec 32 := 0#32
  let v226 : BitVec 1 := Scalar.cmpi .ne v225 c0_i32_97
  v226

def k0_dev12 (d0 : Dev nD) : Nat :=
  let c0_i32_304 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_298 : BitVec 32 := 2#32
  let v519 : BitVec 32 := Scalar.addi v20 c2_i32_298
  let v520 : BitVec 32 := Scalar.muli c4_i32_299 v519
  let c4_i32 : BitVec 32 := 4#32
  let v3 : BitVec 32 := Scalar.remsi v2 c4_i32
  let v521 : BitVec 32 := Scalar.addi v520 v3
  let c1_i32_303 : BitVec 32 := 1#32
  let v522 : BitVec 32 := Scalar.muli v521 c1_i32_303
  let v523 : BitVec 32 := Scalar.addi c0_i32_304 v522
  v523.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_98 : BitVec 32 := 3#32
  let v227 : BitVec 32 := Scalar.addi v20 c3_i32_98
  let c0_i32_99 : BitVec 32 := 0#32
  let v228 : BitVec 1 := Scalar.cmpi .sge v227 c0_i32_99
  let c3_i32_100 : BitVec 32 := 3#32
  let v229 : BitVec 1 := Scalar.cmpi .sle v227 c3_i32_100
  let v230 : BitVec 1 := Scalar.andi v228 v229
  let v231 : BitVec 32 := Scalar.extui v230
  let c0_i32_101 : BitVec 32 := 0#32
  let v232 : BitVec 1 := Scalar.cmpi .ne v231 c0_i32_101
  v232

def k0_dev13 (d0 : Dev nD) : Nat :=
  let c0_i32_305 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_298 : BitVec 32 := 3#32
  let v519 : BitVec 32 := Scalar.addi v20 c3_i32_298
  let v520 : BitVec 32 := Scalar.muli c4_i32_299 v519
  let c4_i32 : BitVec 32 := 4#32
  let v3 : BitVec 32 := Scalar.remsi v2 c4_i32
  let v521 : BitVec 32 := Scalar.addi v520 v3
  let c1_i32_304 : BitVec 32 := 1#32
  let v522 : BitVec 32 := Scalar.muli v521 c1_i32_304
  let v523 : BitVec 32 := Scalar.addi c0_i32_305 v522
  v523.toNat
def k0_dev14 (d0 : Dev nD) : Nat :=
  let c0_i32_106 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_105 : BitVec 32 := 1#32
  let v233 : BitVec 32 := Scalar.muli v24 c1_i32_105
  let v234 : BitVec 32 := Scalar.addi c0_i32_106 v233
  v234.toNat
def k0_dev15 (d0 : Dev nD) : Nat :=
  let c0_i32_115 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_114 : BitVec 32 := 1#32
  let v243 : BitVec 32 := Scalar.muli v28 c1_i32_114
  let v244 : BitVec 32 := Scalar.addi c0_i32_115 v243
  v244.toNat
def k0_dev16 (d0 : Dev nD) : Nat :=
  let c0_i32_124 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_123 : BitVec 32 := 1#32
  let v253 : BitVec 32 := Scalar.muli v32 c1_i32_123
  let v254 : BitVec 32 := Scalar.addi c0_i32_124 v253
  v254.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_129 : BitVec 32 := 4294967293#32
  let v269 : BitVec 32 := Scalar.addi v20 c_m3_i32_129
  let c0_i32_130 : BitVec 32 := 0#32
  let v270 : BitVec 1 := Scalar.cmpi .sge v269 c0_i32_130
  let c3_i32_131 : BitVec 32 := 3#32
  let v271 : BitVec 1 := Scalar.cmpi .sle v269 c3_i32_131
  let v272 : BitVec 1 := Scalar.andi v270 v271
  let v273 : BitVec 32 := Scalar.extui v272
  let c0_i32_132 : BitVec 32 := 0#32
  let v274 : BitVec 1 := Scalar.cmpi .ne v273 c0_i32_132
  v274

def k0_dev17 (d0 : Dev nD) : Nat :=
  let c0_i32_313 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_312 : BitVec 32 := 1#32
  let v527 : BitVec 32 := Scalar.muli v24 c1_i32_312
  let v528 : BitVec 32 := Scalar.addi c0_i32_313 v527
  v528.toNat
def k0_dev18 (d0 : Dev nD) : Nat :=
  let c0_i32_322 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_321 : BitVec 32 := 1#32
  let v537 : BitVec 32 := Scalar.muli v28 c1_i32_321
  let v538 : BitVec 32 := Scalar.addi c0_i32_322 v537
  v538.toNat
def k0_dev19 (d0 : Dev nD) : Nat :=
  let c0_i32_331 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_330 : BitVec 32 := 1#32
  let v547 : BitVec 32 := Scalar.muli v32 c1_i32_330
  let v548 : BitVec 32 := Scalar.addi c0_i32_331 v547
  v548.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_133 : BitVec 32 := 4294967294#32
  let v275 : BitVec 32 := Scalar.addi v20 c_m2_i32_133
  let c0_i32_134 : BitVec 32 := 0#32
  let v276 : BitVec 1 := Scalar.cmpi .sge v275 c0_i32_134
  let c3_i32_135 : BitVec 32 := 3#32
  let v277 : BitVec 1 := Scalar.cmpi .sle v275 c3_i32_135
  let v278 : BitVec 1 := Scalar.andi v276 v277
  let v279 : BitVec 32 := Scalar.extui v278
  let c0_i32_136 : BitVec 32 := 0#32
  let v280 : BitVec 1 := Scalar.cmpi .ne v279 c0_i32_136
  v280

def k0_dev20 (d0 : Dev nD) : Nat :=
  let c0_i32_312 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_311 : BitVec 32 := 1#32
  let v527 : BitVec 32 := Scalar.muli v24 c1_i32_311
  let v528 : BitVec 32 := Scalar.addi c0_i32_312 v527
  v528.toNat
def k0_dev21 (d0 : Dev nD) : Nat :=
  let c0_i32_321 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_320 : BitVec 32 := 1#32
  let v537 : BitVec 32 := Scalar.muli v28 c1_i32_320
  let v538 : BitVec 32 := Scalar.addi c0_i32_321 v537
  v538.toNat
def k0_dev22 (d0 : Dev nD) : Nat :=
  let c0_i32_330 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_329 : BitVec 32 := 1#32
  let v547 : BitVec 32 := Scalar.muli v32 c1_i32_329
  let v548 : BitVec 32 := Scalar.addi c0_i32_330 v547
  v548.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_137 : BitVec 32 := 4294967295#32
  let v281 : BitVec 32 := Scalar.addi v20 c_m1_i32_137
  let c0_i32_138 : BitVec 32 := 0#32
  let v282 : BitVec 1 := Scalar.cmpi .sge v281 c0_i32_138
  let c3_i32_139 : BitVec 32 := 3#32
  let v283 : BitVec 1 := Scalar.cmpi .sle v281 c3_i32_139
  let v284 : BitVec 1 := Scalar.andi v282 v283
  let v285 : BitVec 32 := Scalar.extui v284
  let c0_i32_140 : BitVec 32 := 0#32
  let v286 : BitVec 1 := Scalar.cmpi .ne v285 c0_i32_140
  v286

def k0_dev23 (d0 : Dev nD) : Nat :=
  let c0_i32_312 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_311 : BitVec 32 := 1#32
  let v527 : BitVec 32 := Scalar.muli v24 c1_i32_311
  let v528 : BitVec 32 := Scalar.addi c0_i32_312 v527
  v528.toNat
def k0_dev24 (d0 : Dev nD) : Nat :=
  let c0_i32_321 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_320 : BitVec 32 := 1#32
  let v537 : BitVec 32 := Scalar.muli v28 c1_i32_320
  let v538 : BitVec 32 := Scalar.addi c0_i32_321 v537
  v538.toNat
def k0_dev25 (d0 : Dev nD) : Nat :=
  let c0_i32_331 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_330 : BitVec 32 := 1#32
  let v547 : BitVec 32 := Scalar.muli v32 c1_i32_330
  let v548 : BitVec 32 := Scalar.addi c0_i32_331 v547
  v548.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_141 : BitVec 32 := 1#32
  let v287 : BitVec 32 := Scalar.addi v20 c1_i32_141
  let c0_i32_142 : BitVec 32 := 0#32
  let v288 : BitVec 1 := Scalar.cmpi .sge v287 c0_i32_142
  let c3_i32_143 : BitVec 32 := 3#32
  let v289 : BitVec 1 := Scalar.cmpi .sle v287 c3_i32_143
  let v290 : BitVec 1 := Scalar.andi v288 v289
  let v291 : BitVec 32 := Scalar.extui v290
  let c0_i32_144 : BitVec 32 := 0#32
  let v292 : BitVec 1 := Scalar.cmpi .ne v291 c0_i32_144
  v292

def k0_dev26 (d0 : Dev nD) : Nat :=
  let c0_i32_312 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_311 : BitVec 32 := 1#32
  let v527 : BitVec 32 := Scalar.muli v24 c1_i32_311
  let v528 : BitVec 32 := Scalar.addi c0_i32_312 v527
  v528.toNat
def k0_dev27 (d0 : Dev nD) : Nat :=
  let c0_i32_321 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_320 : BitVec 32 := 1#32
  let v537 : BitVec 32 := Scalar.muli v28 c1_i32_320
  let v538 : BitVec 32 := Scalar.addi c0_i32_321 v537
  v538.toNat
def k0_dev28 (d0 : Dev nD) : Nat :=
  let c0_i32_330 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_329 : BitVec 32 := 1#32
  let v547 : BitVec 32 := Scalar.muli v32 c1_i32_329
  let v548 : BitVec 32 := Scalar.addi c0_i32_330 v547
  v548.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_145 : BitVec 32 := 2#32
  let v293 : BitVec 32 := Scalar.addi v20 c2_i32_145
  let c0_i32_146 : BitVec 32 := 0#32
  let v294 : BitVec 1 := Scalar.cmpi .sge v293 c0_i32_146
  let c3_i32_147 : BitVec 32 := 3#32
  let v295 : BitVec 1 := Scalar.cmpi .sle v293 c3_i32_147
  let v296 : BitVec 1 := Scalar.andi v294 v295
  let v297 : BitVec 32 := Scalar.extui v296
  let c0_i32_148 : BitVec 32 := 0#32
  let v298 : BitVec 1 := Scalar.cmpi .ne v297 c0_i32_148
  v298

def k0_dev29 (d0 : Dev nD) : Nat :=
  let c0_i32_312 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_311 : BitVec 32 := 1#32
  let v527 : BitVec 32 := Scalar.muli v24 c1_i32_311
  let v528 : BitVec 32 := Scalar.addi c0_i32_312 v527
  v528.toNat
def k0_dev30 (d0 : Dev nD) : Nat :=
  let c0_i32_321 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_320 : BitVec 32 := 1#32
  let v537 : BitVec 32 := Scalar.muli v28 c1_i32_320
  let v538 : BitVec 32 := Scalar.addi c0_i32_321 v537
  v538.toNat
def k0_dev31 (d0 : Dev nD) : Nat :=
  let c0_i32_330 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_329 : BitVec 32 := 1#32
  let v547 : BitVec 32 := Scalar.muli v32 c1_i32_329
  let v548 : BitVec 32 := Scalar.addi c0_i32_330 v547
  v548.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_149 : BitVec 32 := 3#32
  let v299 : BitVec 32 := Scalar.addi v20 c3_i32_149
  let c0_i32_150 : BitVec 32 := 0#32
  let v300 : BitVec 1 := Scalar.cmpi .sge v299 c0_i32_150
  let c3_i32_151 : BitVec 32 := 3#32
  let v301 : BitVec 1 := Scalar.cmpi .sle v299 c3_i32_151
  let v302 : BitVec 1 := Scalar.andi v300 v301
  let v303 : BitVec 32 := Scalar.extui v302
  let c0_i32_152 : BitVec 32 := 0#32
  let v304 : BitVec 1 := Scalar.cmpi .ne v303 c0_i32_152
  v304

def k0_dev32 (d0 : Dev nD) : Nat :=
  let c0_i32_312 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_311 : BitVec 32 := 1#32
  let v527 : BitVec 32 := Scalar.muli v24 c1_i32_311
  let v528 : BitVec 32 := Scalar.addi c0_i32_312 v527
  v528.toNat
def k0_dev33 (d0 : Dev nD) : Nat :=
  let c0_i32_321 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_320 : BitVec 32 := 1#32
  let v537 : BitVec 32 := Scalar.muli v28 c1_i32_320
  let v538 : BitVec 32 := Scalar.addi c0_i32_321 v537
  v538.toNat
def k0_dev34 (d0 : Dev nD) : Nat :=
  let c0_i32_330 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.muli c4_i32_11 v20
  let c4_i32 : BitVec 32 := 4#32
  let v3 : BitVec 32 := Scalar.remsi v2 c4_i32
  let c2_i32 : BitVec 32 := 2#32
  let v30 : BitVec 32 := Scalar.addi v3 c2_i32
  let c4_i32_12 : BitVec 32 := 4#32
  let v31 : BitVec 32 := Scalar.remsi v30 c4_i32_12
  let v32 : BitVec 32 := Scalar.addi v29 v31
  let c1_i32_329 : BitVec 32 := 1#32
  let v547 : BitVec 32 := Scalar.muli v32 c1_i32_329
  let v548 : BitVec 32 := Scalar.addi c0_i32_330 v547
  v548.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512x1024 : Shape := ⟨3, ![1024, 512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S64x512x1024, .f32⟩
  | .hbm, ⟨4, _⟩ => ⟨S1024, .i32⟩
  | .hbm, ⟨5, _⟩ => ⟨S1024, .i32⟩
  | .hbm, ⟨6, _⟩ => ⟨S1x1024, .i32⟩
  | .hbm, ⟨7, _⟩ => ⟨S1024x1, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024x512x1024, .f32⟩
  | .hbm, ⟨29, _⟩ => ⟨S1024x1024, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024x1, .i1⟩
  | .hbm, ⟨34, _⟩ => ⟨S_, .f32⟩
  | .hbm, ⟨35, _⟩ => ⟨S_, .f32⟩
  | .hbm, ⟨36, _⟩ => ⟨S1024x1024, .i1⟩
  | .hbm, ⟨37, _⟩ => ⟨S1024x1024, .f32⟩
  | .hbm, ⟨38, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.KI.Base.lean ====
/-
The devices, semaphores, slots and contents of the two-stage all-gather, and the rounds it runs by.

A device is `c = 4 p + q` (plane `p`, place `q` in the plane). Slot `7 k + s` of its scratch takes, from the device `k`
places on in its plane, what that device holds for the plane `p + s - 3`; slots `s < 7` (`k = 0`) come from the devices
of the same place in the other planes, slot 3 is the device's own result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch. -/
def s₀ : MemSt nD τ sig (Elt F) := ⟨m, fun _ => 0, ρ⟩

/-! ## Devices -/

/-- Plane `p + s - 3` exists. -/
def zv (c : Dev nD) (s : ℕ) : Bool := decide (3 ≤ c.val / 4 + s ∧ c.val / 4 + s ≤ 6)
set_option backward.proofsInPublic true in
/-- The device of the same place in plane `p + s - 3`, planes counted modulo 4. -/
def zp (c : Dev nD) (s : ℕ) : Dev nD := ⟨(c.val + 4 * s + 4) % 16, Nat.mod_lt _ (by decide)⟩
set_option backward.proofsInPublic true in
/-- The device `k` places on in the same plane. -/
def pl (c : Dev nD) (k : ℕ) : Dev nD := ⟨4 * (c.val / 4) + (c.val + k) % 4, by have := c.isLt; show _ < 16; have : c.val < 16 := this; omega⟩
set_option backward.proofsInPublic true in
/-- The device of the same place in plane `j`. -/
def pd (c : Dev nD) (j : Fin 4) : Dev nD := ⟨4 * j.val + c.val % 4, by have := j.isLt; show _ < 16; omega⟩

/-- The device whose result slot `j` of `c` takes. -/
def own (c : Dev nD) (j : ℕ) : Dev nD := zp (pl c (4 - j / 7)) (j % 7)

/-! ## Semaphores -/

abbrev barS : Sem sig := (SemArray.scalar (sig.barrier 0 rfl) : Sems sig S_).sem
set_option backward.proofsInPublic true in
/-- Semaphore `s` of the `A`-th array of seven. -/
def sm (A s : ℕ) : DmaSem sig := (⟨(4 + 7 * A + s) % 60, Nat.mod_lt _ (by decide)⟩ : Fin 60)

abbrev barCell (c : Dev nD) : GSem nD τ sig := ((c : Thread nD τ), .reg barS)
abbrev cell (A : ℕ) (c : Dev nD) (s : ℕ) : GSem nD τ sig := ((c : Thread nD τ), .dma (sm A s))

/-- The arrays a transfer `k` places on signals when it has left and when it has landed. -/
def spA (k : ℕ) : ℕ := if k = 1 then 2 else if k = 3 then 4 else 6
def rpA (k : ℕ) : ℕ := if k = 1 then 3 else if k = 3 then 5 else 7

/-! ## Slots -/

abbrev scrM : Memref sig .tc .vmem S28x48x1024 .bf16 := Memref.whole cc0_scratch0

theorem inb_slot (j : ℕ) (h : j < 28) : ∀ a : Fin 3, (![j, 0, 0] : Fin 3 → ℕ) a + S1x48x1024.size a ≤ S28x48x1024.size a := by
  intro a
  match a with
  | ⟨0, _⟩ => show j + 1 ≤ 28; omega
  | ⟨1, _⟩ => exact Nat.le_refl _
  | ⟨2, _⟩ => exact Nat.le_refl _

/-- Slot `j`'s rectangle. -/
abbrev slotR (j : ℕ) (h : j < 28) : Rect S28x48x1024 := Rect.unit (s := S28x48x1024) ![j, 0, 0] S1x48x1024.size (inb_slot j h)
/-- Slot `j` as the transfers name it. -/
abbrev slotM (j : ℕ) (h : j < 28) : Memref sig .tc .vmem S48x1024 .bf16 :=
  (scrM.slice (slotR j h) (fun _ => rfl)).squeeze S48x1024 squeezes_S1x48x1024_S48x1024

/-- The elements of slot `j`. -/
def slotSet (j : ℕ) : Finset S28x48x1024.Idx := Finset.univ.filter fun i => (i 0).val = j

theorem slot_set (j : ℕ) (h : j < 28) : (slotM j h).view.set = slotSet j := by
  refine (View.set_reshape _ _).trans ?_
  show ((View.whole cc0_scratch0).slice (slotR j h)).set = _
  rw [View.set_slice]
  ext i
  have e : (View.whole cc0_scratch0).emb = Function.Embedding.refl _ := rfl
  rw [e, Finset.map_refl, Rect.mem_set_unit]
  unfold slotSet
  rw [Finset.mem_filter]
  constructor
  · intro hh
    have h0 := hh 0
    refine ⟨Finset.mem_univ _, ?_⟩
    have h1 : j ≤ (i 0).val := h0.1
    have h2 : (i 0).val < j + 1 := h0.2
    omega
  · rintro ⟨-, hh⟩ a
    match a with
    | ⟨0, _⟩ =>
      show j ≤ (i 0).val ∧ (i 0).val < j + 1
      omega
    | ⟨1, _⟩ => exact ⟨Nat.zero_le _, by have h1 : (i 1).val < 48 := (i 1).isLt; show (i 1).val < 0 + 48; omega⟩
    | ⟨2, _⟩ => exact ⟨Nat.zero_le _, by have h1 : (i 2).val < 1024 := (i 2).isLt; show (i 2).val < 0 + 1024; omega⟩

/-- What one slot's transfer credits. -/
def N : ℕ := (slotM 0 (by decide)).view.dmaCredit
theorem N_pos : 0 < N := View.dmaCredit_pos (slotM 0 (by decide)).view (by decide)
theorem credit_slot (j : ℕ) (h : j < 28) (x : DmaSem sig) : (slotM j h).view.amount (.dma x) = N := rfl
theorem dmaCredit_slot (j : ℕ) (h : j < 28) : (slotM j h).view.dmaCredit = N := rfl

abbrev BufS : Type := S28x48x1024.Idx → Elt F .bf16

/-- Slot `j` of `c` at contents `f`. -/
def slotAt (c : Dev nD) (j : ℕ) (q : PosShare TreeShare) (f : Buf (Elt F) ((c : Thread nD τ).loc cc0_scratch0)) : sProp 𝕄 :=
  ((c : Thread nD τ).loc cc0_scratch0) ↦[slotSet j]{q} f
/-- Slot `j` of `c`, whole, at any contents. -/
def slotAny (c : Dev nD) (j : ℕ) : sProp 𝕄 := iprop(∃ f, slotAt c j fullShare f)

/-! ## Contents -/

def xst (c : Dev nD) : (cc0_stg0_0 : Ref sig .tc).ty.Contents (Elt F) :=
  (win0_0.blk (0 : Fin 1)).view.read (Elt F) ((s₀ m ρ).mem ((c : Thread nD τ).loc main_arg0))
def wst (c : Dev nD) : (cc0_stg1_0 : Ref sig .tc).ty.Contents (Elt F) :=
  (win0_1.blk (0 : Fin 1)).view.read (Elt F) ((s₀ m ρ).mem ((c : Thread nD τ).loc main_arg3))
def ist (c : Dev nD) : (cc0_stg2_0 : Ref sig .tc).ty.Contents (Elt F) :=
  (win0_2.blk (0 : Fin 1)).view.read (Elt F) ((s₀ m ρ).mem ((c : Thread nD τ).loc main_arg2))

/-- The place in the plane and the plane, as the kernel's words. -/
def qW (c : Dev nD) : BitVec 32 := BitVec.ofNat 32 (c.val % 4)
def pW (c : Dev nD) : BitVec 32 := BitVec.ofNat 32 (c.val / 4)

def iV (c : Dev nD) : Vec F S1024x1 .i32 :=
  (Memref.whole cc0_stg2_0 : Memref sig .tc .vmem S1024x1 .i32).view.readAt (Elt F) (Rect.unit (s := S1024x1) ![0, 0] S1024x1.size inb_S1024x1_S1024x1_0_0).toLoadRect (ist m ρ c)
def xV (c : Dev nD) : Vec F S1024x512 .f32 :=
  (Memref.whole cc0_stg0_0 : Memref sig .tc .vmem S1024x512 .f32).view.readAt (Elt F) (Rect.unit (s := S1024x512) ![0, 0] S1024x512.size inb_S1024x512_S1024x512_0_0).toLoadRect (xst m ρ c)
abbrev wM : Memref sig .tc .vmem S4x512x1024 .f32 := Memref.whole cc0_stg1_0
def wV0 (c : Dev nD) : Vec F S1x512x1024 .f32 :=
  wM.view.readAt (Elt F) (Rect.unit (s := S4x512x1024) ![0, 0, 0] S1x512x1024.size inb_S4x512x1024_S1x512x1024_0_0_0).toLoadRect (wst m ρ c)
def wV1 (c : Dev nD) : Vec F S1x512x1024 .f32 :=
  wM.view.readAt (Elt F) (Rect.unit (s := S4x512x1024) ![1, 0, 0] S1x512x1024.size inb_S4x512x1024_S1x512x1024_1_0_0).toLoadRect (wst m ρ c)
def wV2 (c : Dev nD) : Vec F S1x512x1024 .f32 :=
  wM.view.readAt (Elt F) (Rect.unit (s := S4x512x1024) ![2, 0, 0] S1x512x1024.size inb_S4x512x1024_S1x512x1024_2_0_0).toLoadRect (wst m ρ c)
def wV3 (c : Dev nD) : Vec F S1x512x1024 .f32 :=
  wM.view.readAt (Elt F) (Rect.unit (s := S4x512x1024) ![3, 0, 0] S1x512x1024.size inb_S4x512x1024_S1x512x1024_3_0_0).toLoadRect (wst m ρ c)

/-- Whether a token is kept, and its rank among those of its expert. -/
def keepV (c : Dev nD) : IVec S1x1024 1 := k0_pay7 (k0_pay4 (iV m ρ c)) k0_pay5
def rankV (c : Dev nD) : IVec S1x1024 32 := k0_pay8 (k0_pay4 (iV m ρ c)) k0_pay5
/-- The row within a result, and the slot the token's row lies in from `c`. -/
def rowV (c : Dev nD) : IVec S1x1024 32 :=
  k0_pay14 (rankV m ρ c) (Scalar.select (Scalar.cmpi .eq 4#32 0#32) 1#32 4#32) (k0_pay10 (k0_pay3 (iV m ρ c))) (k0_pay11 (k0_pay3 (iV m ρ c)))
    (k0_pay12 (k0_pay3 (iV m ρ c))) k0_pay13
def slV (c : Dev nD) : IVec S1x1024 32 := k0_pay15 (qW c) (pW c) (k0_pay9 (k0_pay3 (iV m ρ c)))
/-- The row of the whole scratch at which `c` finds each token's result. -/
def gpV (c : Dev nD) : IVec S1x1024 32 := k0_pay17 (keepV m ρ c) (rowV m ρ c) (slV m ρ c) k0_pay16
/-- The result of `c`'s own four experts. -/
def yV (c : Dev nD) : FVec F S48x1024 .bf16 :=
  k0_pay18 (keepV m ρ c) (rowV m ρ c) (slV m ρ c) k0_pay16 (xV m ρ c) (wV0 m ρ c) (wV1 m ρ c) (wV2 m ρ c) (wV3 m ρ c)
def y3 (c : Dev nD) : FVec F S1x48x1024 .bf16 := k0_pay19 (yV m ρ c)
/-- The scratch's contents at entry. -/
def zeroV : FVec F S28x48x1024 .bf16 := k0_pay2 k0_pay1

set_option backward.proofsInPublic true in
/-- The index of a slot's rectangle under an index of the scratch. -/
def inSlot (i : S28x48x1024.Idx) : S1x48x1024.Idx := fun a => match a with
  | ⟨0, _⟩ => (⟨0, by decide⟩ : Fin 1)
  | ⟨1, _⟩ => (i 1)
  | ⟨2, _⟩ => (i 2)

/-- What the scratch holds once everything has landed. -/
def Yall (c : Dev nD) : S28x48x1024.Idx → Elt F .bf16 := fun i =>
  if zv c ((i 0).val % 7) then y3 m ρ (own c (i 0).val) (inSlot i) else zeroV i

theorem inSlot_emb (j : ℕ) (h : j < 28) (a : S1x48x1024.Idx) : inSlot ((slotR j h).emb a) = a := by
  funext x
  match x with
  | ⟨0, _⟩ => exact Fin.ext (by have : (a 0).val < 1 := (a 0).isLt; show 0 = (a 0).val; omega)
  | ⟨1, _⟩ => exact Fin.ext (by show 0 + 1 * (a 1).val = (a 1).val; omega)
  | ⟨2, _⟩ => exact Fin.ext (by show 0 + 1 * (a 2).val = (a 2).val; omega)

theorem emb_slot0 (j : ℕ) (h : j < 28) (a : S1x48x1024.Idx) : (((slotR j h).emb a) 0).val = j := by
  have : (a 0).val < 1 := (a 0).isLt
  show j + 1 * (a 0).val = j
  omega

theorem Yall_emb (c : Dev nD) (j : ℕ) (h : j < 28) (hv : zv c (j % 7) = true) (a : S1x48x1024.Idx) :
    Yall m ρ c ((slotR j h).emb a) = y3 m ρ (own c j) a := by
  unfold Yall
  rw [emb_slot0, if_pos hv, inSlot_emb]

/-- Slot `j` of `c` at share `q`, holding what it holds in the end. -/
def slotY (c : Dev nD) (j : ℕ) (q : PosShare TreeShare) : sProp 𝕄 := slotAt c j q (Yall m ρ c)

/-! ## Guarded assertions -/

def gd (b : Bool) (A : sProp 𝕄) : sProp 𝕄 := if b = true then A else iprop(emp)
def sel (b : Bool) (A B : sProp 𝕄) : sProp 𝕄 := if b = true then A else B

theorem gd_true (A : sProp 𝕄) : gd true A = A := if_pos rfl
theorem gd_false (A : sProp 𝕄) : gd false A = iprop(emp) := if_neg Bool.false_ne_true
theorem sel_true (A B : sProp 𝕄) : sel true A B = A := if_pos rfl
theorem sel_false (A B : sProp 𝕄) : sel false A B = B := if_neg Bool.false_ne_true

omit [FloatOps F] in
instance slotAt_storable (c : Dev nD) (j : ℕ) (q f) : BI.Storable (upEmb : UEmb _ 𝕄) (slotAt (F := F) c j q f) := by unfold slotAt; infer_instance
omit [FloatOps F] in
instance slotAny_storable (c : Dev nD) (j : ℕ) : BI.Storable (upEmb : UEmb _ 𝕄) (slotAny (F := F) c j) := by unfold slotAny; infer_instance
instance slotY_storable (c : Dev nD) (j : ℕ) (q) : BI.Storable (upEmb : UEmb _ 𝕄) (slotY m ρ c j q) := by unfold slotY; infer_instance
omit [FloatOps F] in
instance gd_storable (b : Bool) (A : sProp 𝕄) [BI.Storable (upEmb : UEmb _ 𝕄) A] : BI.Storable (upEmb : UEmb _ 𝕄) (gd b A) := by
  unfold gd; split <;> infer_instance

/-! ## The rounds -/

/-- The `i`-th share of a slot lent to a transfer. -/
abbrev tk (i : ℕ) : PosShare TreeShare := Transfers.shareTokN fullShare i

/-- What one semaphore of `c` hands `c`: semaphore `n % 7` of array `n / 7`. -/
def dmaPay (c : Dev nD) (A s : ℕ) : sProp 𝕄 :=
  if A = 0 then slotY m ρ c 3 (tk (4 + s))
  else if A = 1 then slotY m ρ c s fullShare
  else if A = 2 then slotY m ρ c s (tk 1)
  else if A = 3 then slotY m ρ c (7 * 1 + s) fullShare
  else if A = 4 then slotY m ρ c s (tk 3)
  else if A = 5 then slotY m ρ c (7 * 3 + s) fullShare
  else if A = 6 then slotY m ρ c s (tk 2)
  else slotY m ρ c (7 * 2 + s) fullShare

/-- The slots of `c'` that the device `k` places before it in its plane fills. -/
def planeGift (c' : Dev nD) (k : ℕ) : sProp 𝕄 :=
  bigSep (Finset.range 7) fun s => gd (zv c' s) (slotAny c' (7 * k + s))

/-- What the signal named `d` hands `c`: a signal from plane `d < 4` its slot that `c` fills, a signal from
    `d - 3` places before `c` in its plane the slots that `c` fills there. -/
def barPay (c : Dev nD) (d : Fin 7) : sProp 𝕄 :=
  if h : d.val < 4 then slotAny (pd c ⟨d.val, h⟩) (3 + c.val / 4 - d.val)
  else planeGift (pl c (4 - (d.val - 3))) (4 - (d.val - 3))

omit [FloatOps F] in
instance planeGift_storable (c' : Dev nD) (k : ℕ) : BI.Storable (upEmb : UEmb _ 𝕄) (planeGift (F := F) c' k) := by
  unfold planeGift; infer_instance
omit [FloatOps F] in
instance barPay_storable (c : Dev nD) (d : Fin 7) : BI.Storable (upEmb : UEmb _ 𝕄) (barPay (F := F) c d) := by
  unfold barPay; split <;> infer_instance
instance dmaPay_storable (c : Dev nD) (A s : ℕ) : BI.Storable (upEmb : UEmb _ 𝕄) (dmaPay m ρ c A s) := by
  unfold dmaPay; (repeat' split) <;> infer_instance

/-- The semaphore `A s` of `c` takes a transfer. -/
def vd (c : Dev nD) (A s : ℕ) : Bool := zv c s && (decide (2 ≤ A) || !decide (s = 3))

set_option backward.proofsInPublic true in
/-- The duty a signal from plane `p` carries. -/
def dz (c : Dev nD) : Fin 7 := ⟨c.val / 4, by have : c.val < 16 := c.isLt; omega⟩

def semDuties (c : Dev nD) : SemLoc sig → Finset (Fin 7)
  | .reg b => if b = barS then Finset.univ.erase (dz c) else ∅
  | .dma i => if 4 ≤ i.val ∧ vd c ((i.val - 4) / 7) ((i.val - 4) % 7) = true then {0} else ∅

def semAmount : SemLoc sig → ℕ
  | .reg _ => 1
  | .dma _ => N

def semPay (c : Dev nD) (d : Fin 7) : SemLoc sig → sProp 𝕄
  | .reg _ => barPay c d
  | .dma i => dmaPay m ρ c ((i.val - 4) / 7) ((i.val - 4) % 7)

/-- One round. -/
def sched : Rounds.Schedule (GSem nD τ sig) (Fin 7) 𝕄 where
  duties g r := if r = 0 ∧ g.1.2 = .tc then semDuties g.1.1 g.2 else ∅
  unitless _ := False
  amount g _ _ := semAmount g.2
  payload g _ d := semPay m ρ g.1.1 d g.2
  amount_pos g _ _ _ := by
    show 0 < semAmount g.2
    cases g.2 with
    | reg _ => exact Nat.one_pos
    | dma _ => exact N_pos

instance sched_storable (g : GSem nD τ sig) (r : ℕ) (d : Fin 7) :
    BI.Storable (upEmb : UEmb _ 𝕄) ((sched (F := F) m ρ).payload g r d) := by
  show BI.Storable upEmb (semPay m ρ g.1.1 d g.2)
  cases g.2 with
  | reg _ => unfold semPay; infer_instance
  | dma _ => unfold semPay; infer_instance

theorem sm_val (A s : ℕ) (hA : A < 8) (hs : s < 7) : (sm A s).val = 4 + 7 * A + s := by
  show (4 + 7 * A + s) % 60 = _
  omega

theorem duties_tc (c : Dev nD) (x : SemLoc sig) : (sched (F := F) m ρ).duties ((c : Thread nD τ), x) 0 = semDuties c x := by
  dsimp only [sched]; exact if_pos ⟨rfl, rfl⟩
theorem duties_bar (c : Dev nD) : (sched (F := F) m ρ).duties (barCell c) 0 = Finset.univ.erase (dz c) := by
  refine (duties_tc m ρ c _).trans ?_
  dsimp only [semDuties]; exact if_pos rfl
theorem duties_cell (A : ℕ) (c : Dev nD) (s : ℕ) (hA : A < 8) (hs : s < 7) :
    (sched (F := F) m ρ).duties (cell A c s) 0 = if vd c A s = true then {0} else ∅ := by
  refine (duties_tc m ρ c _).trans ?_
  show (if 4 ≤ (sm A s).val ∧ vd c (((sm A s).val - 4) / 7) (((sm A s).val - 4) % 7) = true then _ else _) = _
  rw [sm_val A s hA hs]
  have e1 : (4 + 7 * A + s - 4) / 7 = A := by omega
  have e2 : (4 + 7 * A + s - 4) % 7 = s := by omega
  rw [e1, e2]
  by_cases h : vd c A s = true
  · rw [if_pos h, if_pos ⟨by omega, h⟩]
  · rw [if_neg h, if_neg fun hh => h hh.2]
theorem duties_later (g : GSem nD τ sig) : ∀ r, 1 ≤ r → (sched (F := F) m ρ).duties g r = ∅ :=
  fun r hr => if_neg fun h => by omega
theorem payload_cell (A : ℕ) (c : Dev nD) (s : ℕ) (hA : A < 8) (hs : s < 7) (d : Fin 7) :
    (sched (F := F) m ρ).payload (cell A c s) 0 d = dmaPay m ρ c A s := by
  show dmaPay m ρ c (((sm A s).val - 4) / 7) (((sm A s).val - 4) % 7) = _
  rw [sm_val A s hA hs]
  have e1 : (4 + 7 * A + s - 4) / 7 = A := by omega
  have e2 : (4 + 7 * A + s - 4) % 7 = s := by omega
  rw [e1, e2]
theorem amount_cell (A : ℕ) (c : Dev nD) (s : ℕ) (d : Fin 7) : (sched (F := F) m ρ).amount (cell A c s) 0 d = N := rfl
theorem expect_cell (A : ℕ) (c : Dev nD) (s : ℕ) (hA : A < 8) (hs : s < 7) (hv : vd c A s = true) :
    (sched (F := F) m ρ).expect (cell A c s) 0 = N := by
  unfold Schedule.expect Schedule.amountOf
  rw [duties_cell m ρ A c s hA hs, if_pos hv, Finset.sum_singleton]; rfl
theorem expect_bar (c : Dev nD) : (sched (F := F) m ρ).expect (barCell c) 0 = 6 := by
  unfold Schedule.expect Schedule.amountOf
  rw [duties_bar]
  refine (Finset.sum_congr rfl fun d _ => (rfl : (sched (F := F) m ρ).amount (barCell c) 0 d = 1)).trans ?_
  refine (Finset.sum_const 1).trans ?_
  rw [Finset.card_erase_of_mem (Finset.mem_univ _), Finset.card_univ, Fintype.card_fin, smul_eq_mul]

/-! ## The cells -/

abbrev CI : Type := Option (Fin 56)
set_option backward.proofsInPublic true in
abbrev osem : Fin 56 → SemLoc sig := fun i => .dma (⟨4 + i.val, by have := i.isLt; show _ < 60; omega⟩ : Fin 60)
abbrev csem : CI → SemLoc sig := fun | none => .reg barS | some i => osem i
abbrev kcell (ck : Dev nD × CI) : GSem nD τ sig := ((ck.1 : Thread nD τ), csem ck.2)
set_option backward.proofsInPublic true in
/-- The place of semaphore `A s` among the 56. -/
def ix (A s : ℕ) : Fin 56 := ⟨(7 * A + s) % 56, Nat.mod_lt _ (by decide)⟩

theorem osem_ix (A s : ℕ) (hA : A < 8) (hs : s < 7) : osem (ix A s) = .dma (sm A s) := by
  refine congrArg SemLoc.dma (Fin.ext ?_)
  rw [sm_val A s hA hs]
  show 4 + (7 * A + s) % 56 = _
  omega

/-- The level of a cell: what leaves below the handshake, the handshake below what comes from another plane, that
    below what comes from the same plane. -/
def lvSem : SemLoc sig → ℕ
  | .reg _ => 1
  | .dma i => if i.val < 4 then 0 else if (i.val - 4) / 7 = 1 then 2 else if (i.val - 4) / 7 % 2 = 1 then 3 else 0
def L (g : GSem nD τ sig) : Finset Unit := if g.1.2 = .tc then {()} else ∅
def lv (g : GSem nD τ sig) (_ : Unit) : ℕ := lvSem g.2

/-! ## What a device owes, in the order it pays -/

def tal (t : Bool × GSem nD τ sig × ℕ) : CellTallies nD τ sig Unit := if t.1 = true then tallyAt t.2.1 () t.2.2 else 0
def OL : List (Bool × GSem nD τ sig × ℕ) → CellTallies nD τ sig Unit
  | [] => 0
  | t :: ts => OL ts + tal t

abbrev dueZ (c : Dev nD) (s : ℕ) : Bool × GSem nD τ sig × ℕ := (zv c s, cell 1 (zp c s) (6 - s), N)
abbrev dueP (c : Dev nD) (k s : ℕ) : Bool × GSem nD τ sig × ℕ := (zv c s, cell (rpA k) (pl c k) s, N)
abbrev dueS (c : Dev nD) (j : Fin 4) : Bool × GSem nD τ sig × ℕ := (!decide (c.val / 4 = j.val), barCell (pd c j), 1)
abbrev dueB (c : Dev nD) (k : ℕ) : Bool × GSem nD τ sig × ℕ := (true, barCell (pl c k), 1)

def duesP (c : Dev nD) : List ℕ → List (Bool × GSem nD τ sig × ℕ)
  | [] => []
  | s :: ss => dueP c 1 s :: dueP c 3 s :: dueP c 2 s :: duesP c ss
def duesZ (c : Dev nD) : List ℕ → List (Bool × GSem nD τ sig × ℕ)
  | [] => duesP c [3, 0, 1, 2, 4, 5, 6]
  | s :: ss => dueZ c s :: duesZ c ss
abbrev afterBar (c : Dev nD) : List (Bool × GSem nD τ sig × ℕ) := duesZ c [0, 1, 2, 4, 5, 6]
def dues (c : Dev nD) : List (Bool × GSem nD τ sig × ℕ) :=
  dueS c 0 :: dueS c 1 :: dueS c 2 :: dueS c 3 :: dueB c 1 :: dueB c 3 :: dueB c 2 :: afterBar c

/-- `c` still owes `l`. -/
def owesE (c : Dev nD) (l : List (Bool × GSem nD τ sig × ℕ)) : sProp 𝕄 := iprop(∃ W, owes (c : Thread nD τ) (OL l) W)

/-- Every cell's invariant and reached round, and the levels. -/
def PER (K : Dev nD × CI → ℕ) : sProp 𝕄 :=
  iprop((bigSep Finset.univ fun ck => cellInv ER (sched m ρ) (K ck) (kcell ck)) ∗ (bigSep Finset.univ fun ck : Dev nD × CI => reached ER (kcell ck) 0)
    ∗ levAts L lv)
instance PER_persistent (K : Dev nD × CI → ℕ) : Persistent (PER m ρ K) := by unfold PER; infer_instance

end Cert.KernelIdeal.Moe
end
-- ==== Proof.KI.Core.lean ====
/-
One signal, one transfer and one wait of the gather, each at an arbitrary device.
-/
module

public import proofs.«01_k».proof.Proof.KI.Base

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ)

/-! ## The persistent facts -/

theorem per_at (ck : Dev nD × CI) : PER m ρ K ⊢ iprop(cellInv ER (sched m ρ) (K ck) (kcell ck) ∗ reached ER (kcell ck) 0) := by
  unfold PER
  iintro ⟨#HI, #HR, -⟩
  isplitr
  · iapply (show bigSep Finset.univ (fun ck => cellInv ER (sched m ρ) (K ck) (kcell ck)) ⊢ _ from bigSep_elim (Finset.mem_univ ck)); iexact HI
  · iapply (show bigSep Finset.univ (fun ck : Dev nD × CI => (reached ER (kcell ck) 0 : sProp 𝕄)) ⊢ _ from bigSep_elim (Finset.mem_univ ck)); iexact HR

theorem per_cell (A : ℕ) (c : Dev nD) (s : ℕ) (hA : A < 8) (hs : s < 7) :
    PER m ρ K ⊢ iprop(cellInv ER (sched m ρ) (K (c, some (ix A s))) (cell A c s) ∗ reached ER (cell A c s) 0) := by
  have h := per_at m ρ K (c, some (ix A s))
  have e : kcell (c, some (ix A s)) = cell A c s := congrArg (Prod.mk (c : Thread nD τ)) (osem_ix A s hA hs)
  rw [e] at h
  exact h

theorem per_bar (c : Dev nD) : PER m ρ K ⊢ iprop(cellInv ER (sched m ρ) (K (c, none)) (barCell c) ∗ reached ER (barCell c) 0) :=
  per_at m ρ K (c, none)

theorem per_lev : PER m ρ K ⊢ levAts L lv := by
  unfold PER
  iintro ⟨-, -, #H⟩
  iexact H

/-! ## Levels -/

/-- Everything in `l` is owed to TensorCore cells above level `b`. -/
def Above (b : ℕ) (l : List (Bool × GSem nD τ sig × ℕ)) : Prop := ∀ t ∈ l, t.2.1.1.2 = .tc ∧ b < lvSem t.2.1.2

theorem OL_pos {b : ℕ} {l : List (Bool × GSem nD τ sig × ℕ)} (h : Above b l) {g : GSem nD τ sig} {u : Unit} (hp : 0 < OL l g u) :
    g.1.2 = .tc ∧ b < lvSem g.2 := by
  induction l with
  | nil => exact absurd hp (Nat.lt_irrefl 0)
  | cons t ts ih =>
    unfold OL at hp
    rw [Pi.add_apply, Finsupp.add_apply] at hp
    by_cases h1 : 0 < OL ts g u
    · exact ih (fun x hx => h x (List.mem_cons_of_mem _ hx)) h1
    · have h2 : 0 < tal t g u := by omega
      unfold tal at h2
      split at h2
      · rw [tallyAt_apply] at h2
        by_cases h3 : g = t.2.1 ∧ u = ()
        · rw [h3.1]; exact h t List.mem_cons_self
        · rw [if_neg h3] at h2; exact absurd h2 (Nat.lt_irrefl 0)
      · exact absurd h2 (Nat.lt_irrefl 0)

theorem L_tc (c : Dev nD) (x : SemLoc sig) : L ((c : Thread nD τ), x) = {()} := if_pos rfl

theorem mayWait (c : Dev nD) (x : SemLoc sig) (l : List (Bool × GSem nD τ sig × ℕ)) (h : Above (lvSem x) l) :
    (levAts L lv : sProp 𝕄) ⊢ MayWait (c : Thread nD τ) x () (OL l) :=
  MayOwe.of_cut (L := L) (lev := lv) (lvSem x)
    (fun p hp => by rw [Finset.mem_singleton.mp hp, L_tc]; exact Finset.mem_singleton_self _)
    (fun g u hg => by
      have := (OL_pos h hg).1
      unfold L; rw [if_pos this]; exact Finset.mem_singleton_self _)
    (fun p hp => by rw [Finset.mem_singleton.mp hp]; exact Nat.le_refl _)
    (fun g u hg => (OL_pos h hg).2)

theorem per_mw (c : Dev nD) (x : SemLoc sig) (l : List (Bool × GSem nD τ sig × ℕ)) (h : Above (lvSem x) l) :
    PER m ρ K ⊢ MayWait (c : Thread nD τ) x () (OL l) := (per_lev m ρ K).trans (mayWait c x l h)

theorem above_nil (b : ℕ) : Above b [] := fun t ht => absurd ht List.not_mem_nil
theorem above_cons {b : ℕ} {t : Bool × GSem nD τ sig × ℕ} {l : List (Bool × GSem nD τ sig × ℕ)} (h : t.2.1.1.2 = .tc ∧ b < lvSem t.2.1.2)
    (hl : Above b l) : Above b (t :: l) := fun x hx => (List.mem_cons.mp hx).elim (fun e => e ▸ h) (hl x)

theorem lv_cell (A s : ℕ) (hA : A < 8) (hs : s < 7) : lvSem (.dma (sm A s)) = if A = 1 then 2 else if A % 2 = 1 then 3 else 0 := by
  unfold lvSem
  show (if (sm A s).val < 4 then 0 else if ((sm A s).val - 4) / 7 = 1 then 2 else if ((sm A s).val - 4) / 7 % 2 = 1 then 3 else 0) = _
  rw [sm_val A s hA hs, if_neg (by omega), show (4 + 7 * A + s - 4) / 7 = A by omega]

theorem spA_lt (k : ℕ) : spA k < 8 := by unfold spA; split <;> [omega; (split <;> omega)]
theorem rpA_lt (k : ℕ) : rpA k < 8 := by unfold rpA; split <;> [omega; (split <;> omega)]
theorem lv_rp (k s : ℕ) (hs : s < 7) : lvSem (.dma (sm (rpA k) s)) = 3 := by
  rw [lv_cell _ _ (rpA_lt k) hs]
  unfold rpA; split <;> [rfl; (split <;> rfl)]
theorem lv_sp (k s : ℕ) (hs : s < 7) : lvSem (.dma (sm (spA k) s)) = 0 := by
  rw [lv_cell _ _ (spA_lt k) hs]
  unfold spA; split <;> [rfl; (split <;> rfl)]

theorem above_duesP (c : Dev nD) (b : ℕ) (hb : b < 3) (ss : List ℕ) (h : ∀ s ∈ ss, s < 7) : Above b (duesP c ss) := by
  induction ss with
  | nil => exact above_nil b
  | cons s ss ih =>
    have hs := h s List.mem_cons_self
    refine above_cons ⟨rfl, ?_⟩ (above_cons ⟨rfl, ?_⟩ (above_cons ⟨rfl, ?_⟩ (ih fun x hx => h x (List.mem_cons_of_mem _ hx))))
    · show b < lvSem (.dma (sm (rpA 1) s)); rw [lv_rp _ _ hs]; exact hb
    · show b < lvSem (.dma (sm (rpA 3) s)); rw [lv_rp _ _ hs]; exact hb
    · show b < lvSem (.dma (sm (rpA 2) s)); rw [lv_rp _ _ hs]; exact hb

theorem above_duesZ (c : Dev nD) (b : ℕ) (hb : b < 2) (ss : List ℕ) (h : ∀ s ∈ ss, s < 7) : Above b (duesZ c ss) := by
  induction ss with
  | nil => exact above_duesP c b (by omega) _ (by decide)
  | cons s ss ih =>
    have hs := h s List.mem_cons_self
    refine above_cons ⟨rfl, ?_⟩ (ih fun x hx => h x (List.mem_cons_of_mem _ hx))
    show b < lvSem (.dma (sm 1 (6 - s))); rw [lv_cell _ _ (by decide) (by omega)]; exact hb

theorem OL_cons (g : GSem nD τ sig) (n : ℕ) (l : List (Bool × GSem nD τ sig × ℕ)) : OL ((true, g, n) :: l) = OL l + tallyAt g () n :=
  congrArg (OL l + ·) (if_pos rfl : (if true = true then tallyAt g () n else 0) = tallyAt g () n)
theorem payload_bar (c : Dev nD) (d : Fin 7) : (sched (F := F) m ρ).payload (barCell c) 0 d = barPay c d := rfl

/-! ## One transfer -/

/-- Landing slot `j` of `c` in slot `j'` of `d'` gives that slot its final contents. -/
theorem landing (c d' : Dev nD) (j j' : ℕ) (hj : j < 28) (hj' : j' < 28) (hz : zv c (j % 7) = true) (hz' : zv d' (j' % 7) = true)
    (ho : own d' j' = own c j) (fd : Buf (Elt F) ((d' : Thread nD τ).loc cc0_scratch0)) :
    ∀ i ∈ slotSet j', (slotM j' hj').view.write (Elt F) fd ((slotM j hj).view.read (Elt F) (Yall m ρ c)) Finset.univ i = Yall m ρ d' i := by
  intro i hi
  rw [← slot_set j' hj'] at hi
  obtain ⟨x, -, rfl⟩ := Finset.mem_map.mp hi
  rw [View.write_emb_of_mem _ _ (Finset.mem_univ x)]
  show Yall m ρ c ((slotR j hj).emb (Shape.reshapeEquiv _ x)) = Yall m ρ d' ((slotR j' hj').emb (Shape.reshapeEquiv _ x))
  rw [Yall_emb m ρ c j hj hz, Yall_emb m ρ d' j' hj' hz', ho]

theorem send1 {c d' : Dev nD} {j j' AS s AR s' : ℕ} (hj : j < 28) (hj' : j' < 28) (hAS : AS < 8) (hs : s < 7) (hAR : AR < 8) (hs' : s' < 7)
    (hvS : vd c AS s = true) (hvR : vd d' AR s' = true) {q : PosShare TreeShare}
    (hp1 : dmaPay m ρ c AS s = slotY m ρ c j q) (hp2 : dmaPay m ρ d' AR s' = slotY m ρ d' j' fullShare)
    (ho : own d' j' = own c j) (hz : zv c (j % 7) = true) (hz' : zv d' (j' % 7) = true)
    {dv : Dev nD} (hdv : dv = d') {S R : DmaSem sig} (hS : S = sm AS s) (hR : R = sm AR s')
    {src : Memref sig .tc .vmem S48x1024 .bf16} {dst : Memref sig (Dev.tc dv : Thread nD τ).2.kind .vmem S48x1024 .bf16}
    (hsrc : src = slotM j hj) (hdst : dst = slotM j' hj')
    {hsc : dst.view.ref.isScScratch = false} {hsrc' : src.view.WordExact} {hdst' : dst.view.WordExact}
    {hsem : DmaTarget.Typed .vmem (.dma R) (.remote (Dev.tc dv : Thread nD τ) dst (.dma S) hsc)}
    {α : Type} {Q : α → sProp 𝕄} {k : PUnit → Prog (TpuEff nD τ sig (Elt F) Λ₀ .tc) α} {l : List (Bool × GSem nD τ sig × ℕ)}
    {b : Bool} (hb : b = true) :
    iprop(PER m ρ K ∗ slotY m ρ c j q ∗ slotAny d' j' ∗ owesE c ((b, cell AR d' s', N) :: l)
        ∗ dutyTok ER (cell AS c s) 0 0 ∗ dutyTok ER (cell AR d' s') 0 0)
      ⊢ iprop(((cred (tallyAt (cell AS c s) () N) ∗ owesE c l) -∗ WP c (k ⟨⟩) Q)
          -∗ WP c (.op (.enqueueDma src (.remote (Dev.tc dv : Thread nD τ) dst (.dma S) hsc) (.dma R) hsrc' hdst' hsem) k) Q) := by
  subst hdv; subst hS; subst hR; subst hsrc; subst hdst; subst hb
  unfold slotAny owesE
  iintro ⟨#HP, Hs, ⟨%fd, Hd⟩, ⟨%W, HO⟩, Ht1, Ht2⟩ Hk
  ihave H1 := (per_cell m ρ K AS c s hAS hs) $$ HP
  icases H1 with ⟨#HI1, #HR1⟩
  ihave H2 := (per_cell m ρ K AR dv s' hAR hs') $$ HP
  icases H2 with ⟨#HI2, #HR2⟩
  iapply (Rounds.wp_send_pointsTo 𝒱₀ ER (sched m ρ) (c : Thread nD τ) none (κ₁ := K (c, some (ix AS s))) (κ₂ := K (dv, some (ix AR s')))
    (r₁ := 0) (r₂ := 0) (d₁ := 0) (d₂ := 0) (fd := fd) (fs := Yall m ρ c) (q := q)
    (by rw [duties_cell m ρ AS c s hAS hs, if_pos hvS]; exact Finset.mem_singleton_self _)
    (by rw [duties_cell m ρ AR dv s' hAR hs', if_pos hvR]; exact Finset.mem_singleton_self _)
    () () N (credit_slot _ _ _) (amount_cell m ρ _ _ _ _) (amount_cell m ρ _ _ _ _) (O₀ := OL ((true, cell AR dv s', N) :: l)) (OL l) (OL_cons _ _ _) (W := W)
    (by
      rw [payload_cell m ρ AS c s hAS hs, hp1]; unfold slotY slotAt
      rw [slot_set j hj])
    (by
      rw [payload_cell m ρ AR dv s' hAR hs', hp2]; unfold slotY slotAt
      rw [slot_set j' hj']
      exact Entails.of_eq (pointsTo_congr (landing m ρ c dv j j' hj hj' hz hz' ho fd)))) $$ [Hs Hd HO Ht1 Ht2]
  · isplitr; · iexact HI1
    isplitr; · iexact HI2
    isplitl [Hs]; · unfold slotY slotAt; rw [slot_set j hj]; iexact Hs
    isplitl [Hd]; · unfold slotAt; rw [slot_set j' hj']; iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-! ## One wait -/

theorem rest_cell {c : Dev nD} {A s : ℕ} (hA : A < 8) (hs : s < 7) (hv : vd c A s = true) :
    (bigSep ((sched (F := F) m ρ).duties (cell A c s) 0 \ ∅) fun d => (sched (F := F) m ρ).payload (cell A c s) 0 d) = dmaPay m ρ c A s := by
  rw [duties_cell m ρ A c s hA hs, if_pos hv, Finset.sdiff_empty, bigSep_singleton, payload_cell m ρ A c s hA hs]

theorem rest_bar {c : Dev nD} :
    (bigSep ((sched (F := F) m ρ).duties (barCell c) 0 \ ∅) fun d => (sched (F := F) m ρ).payload (barCell c) 0 d)
      = bigSep (Finset.univ.erase (dz c)) (fun d => barPay c d) := by
  rw [duties_bar, Finset.sdiff_empty]; rfl

theorem wait1 {c : Dev nD} {A s : ℕ} (hA : A < 8) (hs : s < 7) (hv : vd c A s = true) {l : List (Bool × GSem nD τ sig × ℕ)}
    (hl : Above (lvSem (.dma (sm A s))) l) {S : DmaSem sig} (hS : S = sm A s)
    {src dst : Memref sig .tc .vmem S48x1024 .bf16} (hdst : ∃ j h, dst = slotM j h)
    {hsrc' : src.view.WordExact} {hdst' : dst.view.WordExact}
    {α : Type} {Q : α → sProp 𝕄} {k : PUnit → Prog (TpuEff nD τ sig (Elt F) Λ₀ .tc) α} :
    iprop(PER m ρ K ∗ atPos ER (cell A c s) 0 ∅ 0 ∗ cred (tallyAt (cell A c s) () N) ∗ owesE c l)
      ⊢ iprop(((owesE c l ∗ semVal (cell A c s) 0 ∗ dmaPay m ρ c A s) -∗ WP c (k ⟨⟩) Q)
          -∗ WP c (.op (.waitDma2 S src dst hsrc' hdst') k) Q) := by
  subst hS
  obtain ⟨j, hj, rfl⟩ := hdst
  unfold owesE
  iintro ⟨#HP, Hat, Hc, ⟨%W, HO⟩⟩ Hk
  ihave H1 := (per_cell m ρ K A c s hA hs) $$ HP
  icases H1 with ⟨#HI1, -⟩
  ihave HM := (per_mw m ρ K c (.dma (sm A s)) l hl) $$ HP
  iapply (Rounds.wp_wait_rest_token 𝒱₀ ER (sched m ρ) (c : Thread nD τ) none (κ := K (c, some (ix A s))) (k' := N)
      (w := .waitDma2 (sm A s) src (slotM j hj) hsrc' hdst') (wpE_waitDma2_eq 𝒱₀ (c : Thread nD τ) none Set.univ) (Set.mem_univ _) () (O := OL l) (W := W) (R := 0) (m := 0) (T := ∅)
      (by rw [Nat.zero_add, expect_cell m ρ A c s hA hs hv])) $$ [Hc HO HM Hat]
  · isplitr; · iexact HI1
    isplitl [Hc]; · iexact Hc
    isplitl [HO]; · iexact HO
    isplitl [HM]; · iexact HM
    iexact Hat
  iintro ⟨HO, Hat, -, Hpay⟩
  imod (Rounds.cell_close ER (sched m ρ) (Set.mem_univ (K (c, some (ix A s)))) (fun h => h) (R := 0 + 1) (duties_later m ρ (cell A c s))) $$ [Hat] with Hz
  · isplitr; · iexact HI1
    iexact Hat
  iapply Hk
  isplitl [HO]; · iexists (insert (SemLoc.dma (sm A s), ()) W); iexact HO
  isplitl [Hz]; · iexact Hz
  iapply (Entails.of_eq (rest_cell m ρ hA hs hv)); iexact Hpay

/-- A cell no transfer is addressed to closes at once. -/
theorem close1 {c : Dev nD} {A s : ℕ} (hA : A < 8) (hs : s < 7) (hv : vd c A s = false) :
    iprop(PER m ρ K ∗ atPos ER (cell A c s) 0 ∅ 0) ⊢ (iprop(|={Set.univ}=> semVal (cell A c s) 0) : sProp 𝕄) := by
  iintro ⟨#HP, Hat⟩
  ihave H1 := (per_cell m ρ K A c s hA hs) $$ HP
  icases H1 with ⟨#HI1, -⟩
  iapply (Rounds.cell_close ER (sched m ρ) (Set.mem_univ (K (c, some (ix A s)))) (fun h => h) (R := 0)
    (fun r _ => by
      rcases Nat.eq_zero_or_pos r with rfl | h
      · rw [duties_cell m ρ A c s hA hs, if_neg (by rw [hv]; exact Bool.false_ne_true)]
      · exact duties_later m ρ _ r h))
  isplitr; · iexact HI1
  iexact Hat

/-! ## One signal -/

theorem signal1 {c d' : Dev nD} (d : Fin 7) (hd : d ≠ dz d') {dv : Dev nD} (hdv : dv = d')
    {α : Type} {Q : α → sProp 𝕄} {k : PUnit → Prog (TpuEff nD τ sig (Elt F) Λ₀ .tc) α} {l : List (Bool × GSem nD τ sig × ℕ)}
    {b : Bool} (hb : b = true) :
    iprop(PER m ρ K ∗ barPay d' d ∗ owesE c ((b, barCell d', 1) :: l) ∗ dutyTok ER (barCell d') 0 d)
      ⊢ iprop((owesE c l -∗ WP c (k ⟨⟩) Q) -∗ WP c (semSignalWord dv barS 1#32 >>= k) Q) := by
  subst hdv; subst hb
  unfold owesE
  iintro ⟨#HP, Hp, ⟨%W, HO⟩, Ht⟩ Hk
  ihave H1 := (per_bar m ρ K dv) $$ HP
  icases H1 with ⟨#HI1, #HR1⟩
  simp only [semSignalWord, Prog.bind_op, Prog.bind_ret]
  iapply (Rounds.wp_signal 𝒱₀ ER (sched m ρ) (c : Thread nD τ) none (dst := (dv : Thread nD τ)) (κ := K (dv, none))
      (r := 0) (d := d) (by rw [duties_bar]; exact Finset.mem_erase.mpr ⟨hd, Finset.mem_univ _⟩) (show 1 = _ by decide) () (O₀ := OL ((true, barCell dv, 1) :: l)) (OL l)
      (OL_cons _ _ _) (W := W)) $$ [Hp HO Ht]
  · isplitr; · iexact HI1
    isplitl [HO]; · iexact HO
    isplitl [Ht]; · iexact Ht
    isplitl [Hp]; · rw [payload_bar]; iexact Hp
    iexact HR1
  iintro HO
  iapply Hk
  iexists W; iexact HO

/-- The handshake's wait. -/
theorem barwait {c : Dev nD} {l : List (Bool × GSem nD τ sig × ℕ)} (hl : Above 1 l)
    {α : Type} {Q : α → sProp 𝕄} {k : PUnit → Prog (TpuEff nD τ sig (Elt F) Λ₀ .tc) α} :
    iprop(PER m ρ K ∗ atPos ER (barCell c) 0 ∅ 0 ∗ cred (tallyAt (barCell c) () 6) ∗ owesE c l)
      ⊢ iprop(((owesE c l ∗ semVal (barCell c) 0 ∗ bigSep (Finset.univ.erase (dz c)) (fun d => barPay c d)) -∗ WP c (k ⟨⟩) Q)
          -∗ WP c (semWaitWord barS 6#32 >>= k) Q) := by
  unfold owesE
  iintro ⟨#HP, Hat, Hc, ⟨%W, HO⟩⟩ Hk
  ihave H1 := (per_bar m ρ K c) $$ HP
  icases H1 with ⟨#HI1, -⟩
  ihave HM := (per_mw m ρ K c (.reg barS) l hl) $$ HP
  simp only [semWaitWord, Prog.bind_op, Prog.bind_ret]
  iapply (Rounds.wp_wait_rest_token 𝒱₀ ER (sched m ρ) (c : Thread nD τ) none (κ := K (c, none)) (k' := 6)
      (wpE_semWait_eq 𝒱₀ (c : Thread nD τ) none Set.univ) (Set.mem_univ _) () (O := OL l) (W := W) (R := 0) (m := 0) (T := ∅)
      (by rw [Nat.zero_add, expect_bar])) $$ [Hc HO HM Hat]
  · isplitr; · iexact HI1
    isplitl [Hc]; · iexact Hc
    isplitl [HO]; · iexact HO
    isplitl [HM]; · iexact HM
    iexact Hat
  iintro ⟨HO, Hat, -, Hpay⟩
  imod (Rounds.cell_close ER (sched m ρ) (Set.mem_univ (K (c, none))) (fun h => h) (R := 0 + 1) (duties_later m ρ (barCell c))) $$ [Hat] with Hz
  · isplitr; · iexact HI1
    iexact Hat
  iapply Hk
  isplitl [HO]; · iexists (insert (SemLoc.reg barS, ()) W); iexact HO
  isplitl [Hz]; · iexact Hz
  iapply (Entails.of_eq (rest_bar m ρ)); iexact Hpay

end Cert.KernelIdeal.Moe
end
-- ==== Proof.KI.Regions.lean ====
/-
The steps of the gather as the kernel writes them: each under its condition, between the resources it takes and those it
leaves.
-/
module

public import proofs.«01_k».proof.Proof.KI.Core
public import Idealize.SL.BI.BigOpNat

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## Places -/

theorem zp_facts : ∀ (c : Fin 16) (s : Fin 7), zv c s.val = true →
    zv (zp c s.val) (6 - s.val) = true ∧ own (zp c s.val) (6 - s.val) = c ∧ (s.val ≠ 3 → 6 - s.val ≠ 3) := by decide
theorem own_three : ∀ c : Fin 16, own c 3 = c := by decide
theorem zv_three : ∀ c : Fin 16, zv c 3 = true := by decide
theorem pl_facts : ∀ (c : Fin 16) (k : Fin 4) (s : Fin 7), k.val ≠ 0 → zv (pl c k.val) s.val = zv c s.val ∧ own (pl c k.val) (7 * k.val + s.val) = own c s.val := by decide
theorem zv_mod (c : Dev nD) (k s : ℕ) (hs : s < 7) : zv c ((7 * k + s) % 7) = zv c s := by
  rw [show (7 * k + s) % 7 = s by omega]

theorem lt28 {s : ℕ} (hs : s < 7) : s < 28 := by omega
theorem lt28' {k s : ℕ} (hk : k < 4) (hs : s < 7) : 7 * k + s < 28 := by omega

theorem pay_sp (c : Dev nD) (k s : ℕ) (hk : k = 1 ∨ k = 2 ∨ k = 3) : dmaPay m ρ c (spA k) s = slotY m ρ c s (tk k) := by
  rcases hk with rfl | rfl | rfl <;> rfl
theorem pay_rp (c : Dev nD) (k s : ℕ) (hk : k = 1 ∨ k = 2 ∨ k = 3) : dmaPay m ρ c (rpA k) s = slotY m ρ c (7 * k + s) fullShare := by
  rcases hk with rfl | rfl | rfl <;> rfl
theorem pay_z (c : Dev nD) (s : ℕ) : dmaPay m ρ c 0 s = slotY m ρ c 3 (tk (4 + s)) := rfl
theorem pay_rz (c : Dev nD) (s : ℕ) : dmaPay m ρ c 1 s = slotY m ρ c s fullShare := rfl
theorem vd_sp (c : Dev nD) (k s : ℕ) : vd c (spA k) s = zv c s := by
  have h : 2 ≤ spA k := by unfold spA; split <;> [omega; (split <;> omega)]
  unfold vd; rw [decide_eq_true h]; simp
theorem vd_rp (c : Dev nD) (k s : ℕ) : vd c (rpA k) s = zv c s := by
  have h : 2 ≤ rpA k := by unfold rpA; split <;> [omega; (split <;> omega)]
  unfold vd; rw [decide_eq_true h]; simp
theorem vd_z (c : Dev nD) (A s : ℕ) (hA : A < 2) (hs : s ≠ 3) : vd c A s = zv c s := by
  unfold vd; rw [decide_eq_false hs]; simp

theorem owesE_false (c : Dev nD) (g : GSem nD τ sig) (n : ℕ) (l : List (Bool × GSem nD τ sig × ℕ)) :
    (owesE c ((false, g, n) :: l) : sProp 𝕄) = owesE c l := by
  have e : OL ((false, g, n) :: l) = OL l :=
    (congrArg (OL l + ·) (if_neg Bool.false_ne_true : (if false = true then tallyAt g () n else 0) = 0)).trans (add_zero _)
  unfold owesE
  rw [e]

theorem bindE {c : Dev nD} {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ _ _ _).symm

/-! ## What each step takes and leaves -/

/-- For the transfer to the plane `s - 3` on: its landing slot and its two tokens. -/
def ZT (c : Dev nD) (s : ℕ) : sProp 𝕄 :=
  iprop(gd (zv c s) (slotAny (zp c s) (6 - s)) ∗ dutyTok ER (cell 0 c s) 0 0 ∗ dutyTok ER (cell 1 (zp c s) (6 - s)) 0 0)
/-- Afterwards: the right to wait for it, or the share it did not take. -/
def ZC (c : Dev nD) (s : ℕ) : sProp 𝕄 := sel (zv c s) (cred (tallyAt (cell 0 c s) () N)) (slotY m ρ c 3 (tk (4 + s)))
/-- For the transfer of slot `s` to the device `k` places on. -/
def PT (c : Dev nD) (k s : ℕ) : sProp 𝕄 :=
  iprop(gd (zv c s) (slotAny (pl c k) (7 * k + s)) ∗ dutyTok ER (cell (spA k) c s) 0 0 ∗ dutyTok ER (cell (rpA k) (pl c k) s) 0 0)
def PC (c : Dev nD) (k s : ℕ) : sProp 𝕄 := sel (zv c s) (cred (tallyAt (cell (spA k) c s) () N)) (slotY m ρ c s (tk k))

/-- The owner's position at a cell of array `A`. -/
abbrev pos (A : ℕ) (c : Dev nD) (s : ℕ) : sProp 𝕄 := atPos ER (cell A c s) 0 ∅ 0

/-- For what arrives in slot `s` from another plane: the position, the right to wait, and what passing it on takes. -/
def RZ (c : Dev nD) (s : ℕ) : sProp 𝕄 :=
  iprop(pos 1 c s ∗ sel (zv c s) (cred (tallyAt (cell 1 c s) () N)) (slotY m ρ c s fullShare) ∗ PT c 1 s ∗ PT c 3 s ∗ PT c 2 s)
/-- What is left once it has been passed on, and the share kept to read it. -/
def RZr (c : Dev nD) (s : ℕ) : sProp 𝕄 :=
  iprop(semVal (cell 1 c s) 0 ∗ slotY m ρ c s (Transfers.shareDrop fullShare 4) ∗ PC m ρ c 1 s ∗ PC m ρ c 3 s ∗ PC m ρ c 2 s)
def RZ' (c : Dev nD) (s : ℕ) : sProp 𝕄 := iprop(slotY m ρ c s (tk 0) ∗ RZr m ρ c s)
/-- For what arrives in slot `7 k + s`. -/
def RP (c : Dev nD) (k s : ℕ) : sProp 𝕄 :=
  iprop(pos (rpA k) c s ∗ sel (zv c s) (cred (tallyAt (cell (rpA k) c s) () N)) (slotY m ρ c (7 * k + s) fullShare))
def RP' (c : Dev nD) (k s : ℕ) : sProp 𝕄 := iprop(semVal (cell (rpA k) c s) 0 ∗ slotY m ρ c (7 * k + s) fullShare)
/-- For the end of the transfer to another plane. -/
def ZW (c : Dev nD) (s : ℕ) : sProp 𝕄 := iprop(pos 0 c s ∗ ZC m ρ c s)
def ZW' (c : Dev nD) (s : ℕ) : sProp 𝕄 := iprop(semVal (cell 0 c s) 0 ∗ slotY m ρ c 3 (tk (4 + s)))
/-- For the ends of the three transfers of slot `s`. -/
def PW (c : Dev nD) (s : ℕ) : sProp 𝕄 :=
  iprop((pos 2 c s ∗ PC m ρ c 1 s) ∗ (pos 4 c s ∗ PC m ρ c 3 s) ∗ (pos 6 c s ∗ PC m ρ c 2 s))
def PW' (c : Dev nD) (s : ℕ) : sProp 𝕄 :=
  iprop((semVal (cell 2 c s) 0 ∗ slotY m ρ c s (tk 1)) ∗ (semVal (cell 4 c s) 0 ∗ slotY m ρ c s (tk 3)) ∗ (semVal (cell 6 c s) 0 ∗ slotY m ρ c s (tk 2)))

/-! ## Signals -/

/-- For the signal to plane `j`. -/
def ST (c : Dev nD) (j : Fin 4) : sProp 𝕄 :=
  iprop(gd (!decide (c.val / 4 = j.val)) (slotAny c (j.val + 3 - c.val / 4)) ∗ dutyTok ER (barCell (pd c j)) 0 (dz c))

theorem pd_facts : ∀ (c : Fin 16) (j : Fin 4), (pd (pd c j) ⟨c.val / 4, by have := c.isLt; omega⟩ = c) ∧ (pd c j).val / 4 = j.val := by decide

theorem barPay_pd (c : Dev nD) (j : Fin 4) : (barPay (pd c j) (dz c) : sProp 𝕄) = slotAny c (j.val + 3 - c.val / 4) := by
  have hc : c.val < 16 := c.isLt
  unfold barPay
  rw [dif_pos (show (dz c).val < 4 by show c.val / 4 < 4; omega)]
  rw [(pd_facts c j).2]
  have e : pd (pd c j) ⟨(dz c).val, show c.val / 4 < 4 by omega⟩ = c := (pd_facts c j).1
  rw [e]
  show slotAny c (3 + j.val - c.val / 4) = _
  rw [Nat.add_comm]

theorem regS {c : Dev nD} (j : Fin 4) {cond : Prop} [inst : Decidable cond] (hc : cond ↔ ¬ c.val / 4 = j.val) {dv : cond → Dev nD}
    (hdv : ∀ h, dv h = pd c j) {α : Type} {Q : α → sProp 𝕄} {J : Prog (TpuEff nD τ sig (Elt F) Λ₀ .tc) α} {l : List (Bool × GSem nD τ sig × ℕ)} :
    iprop(PER m ρ K ∗ ST c j ∗ owesE c (dueS c j :: l))
      ⊢ iprop((owesE c l -∗ WP c J Q) -∗ WP c (dite cond (fun h => semSignalWord (dv h) barS 1#32 >>= fun _ => J) (fun _ => J)) Q) := by
  unfold ST
  by_cases h : cond
  · rw [dif_pos h]
    have hb : (!decide (c.val / 4 = j.val)) = true := by rw [decide_eq_false (hc.mp h)]; rfl
    have hd : dz c ≠ dz (pd c j) := fun e => hc.mp h ((congrArg Fin.val e).trans (pd_facts c j).2)
    rw [show dueS c j = (true, barCell (pd c j), 1) from by unfold dueS; rw [hb], hb, gd_true]
    iintro ⟨#HP, ⟨Hs, Ht⟩, HO⟩ Hk
    iapply (signal1 m ρ K (c := c) (d' := pd c j) (dz c) hd (hdv h) rfl) $$ [Hs HO Ht]
    · isplitr; · iexact HP
      isplitl [Hs]; · iapply (Entails.of_eq (barPay_pd (F := F) c j).symm); iexact Hs
      isplitl [HO]; · iexact HO
      iexact Ht
    iexact Hk
  · rw [dif_neg h]
    have hb : (!decide (c.val / 4 = j.val)) = false := by rw [decide_eq_true (Classical.not_not.mp fun h' => h (hc.mpr h'))]; rfl
    rw [show dueS c j = (false, barCell (pd c j), 1) from by unfold dueS; rw [hb], owesE_false]
    iintro ⟨#HP, -, HO⟩ Hk
    iapply Hk $$ HO

/-- For the signal `k` places on: the slots it fills here. -/
def BT (c : Dev nD) (k : ℕ) : sProp 𝕄 := iprop(planeGift c (4 - k) ∗ dutyTok ER (barCell (pl c k)) 0 (⟨(k + 3) % 7, Nat.mod_lt _ (by decide)⟩ : Fin 7))

theorem pl_back : ∀ (c : Fin 16) (k : Fin 4), k.val ≠ 0 → pl (pl c k.val) (4 - k.val) = c := by decide

theorem regB {c : Dev nD} {k : ℕ} (hk : k = 1 ∨ k = 2 ∨ k = 3) {dv : Dev nD} (hdv : dv = pl c k) {α : Type} {Q : α → sProp 𝕄}
    {J : Prog (TpuEff nD τ sig (Elt F) Λ₀ .tc) α} {l : List (Bool × GSem nD τ sig × ℕ)} :
    iprop(PER m ρ K ∗ BT c k ∗ owesE c (dueB c k :: l)) ⊢ iprop((owesE c l -∗ WP c J Q) -∗ WP c (semSignalWord dv barS 1#32 >>= fun _ => J) Q) := by
  have hk4 : k < 4 := by omega
  have e : (barPay (pl c k) (⟨(k + 3) % 7, Nat.mod_lt _ (by decide)⟩ : Fin 7) : sProp 𝕄) = planeGift c (4 - k) := by
    unfold barPay
    have hv : (k + 3) % 7 = k + 3 := by omega
    rw [dif_neg (show ¬ (k + 3) % 7 < 4 by omega)]
    show planeGift (pl (pl c k) (4 - ((k + 3) % 7 - 3))) (4 - ((k + 3) % 7 - 3)) = _
    rw [hv, show k + 3 - 3 = k by omega]
    rw [show pl (pl c k) (4 - k) = c from pl_back c ⟨k, hk4⟩ (by show k ≠ 0; omega)]
  have hd : (⟨(k + 3) % 7, Nat.mod_lt _ (by decide)⟩ : Fin 7) ≠ dz (pl c k) := fun h => by
    have h1 : (k + 3) % 7 = (pl c k).val / 4 := congrArg Fin.val h
    have h2 : (pl c k).val < 16 := (pl c k).isLt
    omega
  unfold BT
  iintro ⟨#HP, ⟨Hs, Ht⟩, HO⟩ Hk
  iapply (signal1 m ρ K (c := c) (d' := pl c k) _ hd hdv rfl) $$ [Hs HO Ht]
  · isplitr; · iexact HP
    isplitl [Hs]; · iapply (Entails.of_eq e.symm); iexact Hs
    isplitl [HO]; · iexact HO
    iexact Ht
  iexact Hk

/-! ## Transfers -/

theorem regZ {c : Dev nD} (s : ℕ) (hs : s < 7) (hs3 : s ≠ 3) {cond : Prop} [inst : Decidable cond] (hc : cond ↔ zv c s = true) {dv : cond → Dev nD}
    (hdv : ∀ h, dv h = zp c s) {S R : DmaSem sig} (hS : S = sm 0 s) (hR : R = sm 1 (6 - s))
    {src dst : Memref sig .tc .vmem S48x1024 .bf16} (hsrc : src = slotM 3 (by decide)) (hdst : dst = slotM (6 - s) (by omega))
    {hsc : dst.view.ref.isScScratch = false} {hsrc' : src.view.WordExact} {hdst' : dst.view.WordExact}
    {hsem : ∀ h, DmaTarget.Typed .vmem (.dma R) (.remote (Dev.tc (dv h) : Thread nD τ) dst (.dma S) hsc)}
    {α : Type} {Q : α → sProp 𝕄} {J : Prog (TpuEff nD τ sig (Elt F) Λ₀ .tc) α} {l : List (Bool × GSem nD τ sig × ℕ)} :
    iprop(PER m ρ K ∗ ZT c s ∗ slotY m ρ c 3 (tk (4 + s)) ∗ owesE c (dueZ c s :: l))
      ⊢ iprop(((ZC m ρ c s ∗ owesE c l) -∗ WP c J Q) -∗ WP c (dite cond
          (fun h => Prog.lift (.enqueueDma src (.remote (Dev.tc (dv h) : Thread nD τ) dst (.dma S) hsc) (.dma R) hsrc' hdst' (hsem h)) >>= fun _ => J)
          (fun _ => J)) Q) := by
  unfold ZT ZC
  by_cases h : cond
  · rw [dif_pos h]
    have hv := hc.mp h
    have hf := zp_facts c ⟨s, hs⟩ hv
    have hf1 : zv (zp c s) (6 - s) = true := hf.1
    have hf2 : own (zp c s) (6 - s) = own c 3 := hf.2.1.trans (own_three c).symm
    have hd : dueZ c s = (true, cell 1 (zp c s) (6 - s), N) := by unfold dueZ; rw [hv]
    rw [hd, hv, gd_true, sel_true]
    simp only [Prog.lift, Prog.bind_op, Prog.bind_ret]
    iintro ⟨#HP, ⟨Hd, Ht1, Ht2⟩, Hs, HO⟩ Hk
    iapply (send1 m ρ K (c := c) (d' := zp c s) (j := 3) (j' := 6 - s) (AS := 0) (s := s) (AR := 1) (s' := 6 - s) (by decide) (by omega) (by decide) hs (by decide)
      (by omega) ((vd_z c 0 s (by decide) hs3).trans hv) ((vd_z _ 1 _ (by decide) (hf.2.2 hs3)).trans hf1) (q := tk (4 + s)) (pay_z m ρ c s) (pay_rz m ρ _ _) hf2
      (zv_three c) (by rw [Nat.mod_eq_of_lt (by omega)]; exact hf1) (hdv h) hS hR hsrc hdst rfl) $$ [Hs Hd HO Ht1 Ht2]
    · isplitr; · iexact HP
      isplitl [Hs]; · iexact Hs
      isplitl [Hd]; · iexact Hd
      isplitl [HO]; · iexact HO
      isplitl [Ht1]; · iexact Ht1
      iexact Ht2
    iexact Hk
  · rw [dif_neg h]
    have hv : zv c s = false := by rw [← Bool.not_eq_true]; exact fun h' => h (hc.mpr h')
    have hd : dueZ c s = (false, cell 1 (zp c s) (6 - s), N) := by unfold dueZ; rw [hv]
    rw [hd, hv, sel_false, owesE_false]
    iintro ⟨#HP, -, Hs, HO⟩ Hk
    iapply Hk
    isplitl [Hs]; · iexact Hs
    iexact HO

/-- The transfer of slot `s`, known to hold something, `k` places on. -/
theorem sendP {c : Dev nD} (k s : ℕ) (hk : k = 1 ∨ k = 2 ∨ k = 3) (hs : s < 7) (hv : zv c s = true) {dv : Dev nD} (hdv : dv = pl c k)
    {S R : DmaSem sig} (hS : S = sm (spA k) s) (hR : R = sm (rpA k) s)
    {src dst : Memref sig .tc .vmem S48x1024 .bf16} (hsrc : src = slotM s (lt28 hs)) (hdst : dst = slotM (7 * k + s) (lt28' (by omega) hs))
    {hsc : dst.view.ref.isScScratch = false} {hsrc' : src.view.WordExact} {hdst' : dst.view.WordExact}
    {hsem : DmaTarget.Typed .vmem (.dma R) (.remote (Dev.tc dv : Thread nD τ) dst (.dma S) hsc)}
    {α : Type} {Q : α → sProp 𝕄} {J : Prog (TpuEff nD τ sig (Elt F) Λ₀ .tc) α} {l : List (Bool × GSem nD τ sig × ℕ)} :
    iprop(PER m ρ K ∗ PT c k s ∗ slotY m ρ c s (tk k) ∗ owesE c (dueP c k s :: l))
      ⊢ iprop(((PC m ρ c k s ∗ owesE c l) -∗ WP c J Q) -∗ WP c
          (Prog.lift (.enqueueDma src (.remote (Dev.tc dv : Thread nD τ) dst (.dma S) hsc) (.dma R) hsrc' hdst' hsem) >>= fun _ => J) Q) := by
  have hk4 : k < 4 := by omega
  have hf := pl_facts c ⟨k, hk4⟩ ⟨s, hs⟩ (by show k ≠ 0; omega)
  have hf1 : zv (pl c k) s = true := hf.1.trans hv
  have hf2 : own (pl c k) (7 * k + s) = own c s := hf.2
  have hd : dueP c k s = (true, cell (rpA k) (pl c k) s, N) := by unfold dueP; rw [hv]
  unfold PT PC
  rw [hd, hv, gd_true, sel_true]
  simp only [Prog.lift, Prog.bind_op, Prog.bind_ret]
  iintro ⟨#HP, ⟨Hd, Ht1, Ht2⟩, Hs, HO⟩ Hk
  iapply (send1 m ρ K (c := c) (d' := pl c k) (j := s) (j' := 7 * k + s) (AS := spA k) (s := s) (AR := rpA k) (s' := s) (lt28 hs) (lt28' hk4 hs) (spA_lt k) hs
      (rpA_lt k) hs ((vd_sp c k s).trans hv) ((vd_rp _ k s).trans hf1) (q := tk k) (pay_sp m ρ c k s hk) (pay_rp m ρ _ k s hk) hf2
      (by rw [Nat.mod_eq_of_lt hs]; exact hv) (by rw [zv_mod _ _ _ hs]; exact hf1) hdv hS hR hsrc hdst rfl) $$ [Hs Hd HO Ht1 Ht2]
  · isplitr; · iexact HP
    isplitl [Hs]; · iexact Hs
    isplitl [Hd]; · iexact Hd
    isplitl [HO]; · iexact HO
    isplitl [Ht1]; · iexact Ht1
    iexact Ht2
  iexact Hk

/-! ## Waits -/

/-- A wait of array `A` under its condition. -/
theorem regW {c : Dev nD} (A s : ℕ) (hA : A < 8) (hs : s < 7) (hvd : vd c A s = zv c s) {X : sProp 𝕄} (hX : dmaPay m ρ c A s = X)
    {cond : Prop} [inst : Decidable cond] (hc : cond ↔ zv c s = true) {l : List (Bool × GSem nD τ sig × ℕ)} (hl : Above (lvSem (.dma (sm A s))) l)
    {S : DmaSem sig} (hS : S = sm A s) {src dst : Memref sig .tc .vmem S48x1024 .bf16} (hdst : ∃ j h, dst = slotM j h)
    {hsrc' : src.view.WordExact} {hdst' : dst.view.WordExact} {α : Type} {Q : α → sProp 𝕄} {J : Prog (TpuEff nD τ sig (Elt F) Λ₀ .tc) α} :
    iprop(PER m ρ K ∗ pos A c s ∗ sel (zv c s) (cred (tallyAt (cell A c s) () N)) X ∗ owesE c l)
      ⊢ iprop(((semVal (cell A c s) 0 ∗ X ∗ owesE c l) -∗ WP c J Q) -∗ WP c (dite cond
          (fun _ => Prog.lift (.waitDma2 S src dst hsrc' hdst') >>= fun _ => J) (fun _ => J)) Q) := by
  subst hX
  by_cases h : cond
  · rw [dif_pos h]
    have hv := hc.mp h
    rw [hv, sel_true]
    simp only [Prog.lift, Prog.bind_op, Prog.bind_ret]
    iintro ⟨#HP, Hat, Hc, HO⟩ Hk
    iapply (wait1 m ρ K hA hs (hvd.trans hv) hl hS hdst) $$ [Hat Hc HO]
    · isplitr; · iexact HP
      isplitl [Hat]; · iexact Hat
      isplitl [Hc]; · iexact Hc
      iexact HO
    iintro ⟨HO, Hz, Hp⟩
    iapply Hk
    isplitl [Hz]; · iexact Hz
    isplitl [Hp]; · iexact Hp
    iexact HO
  · rw [dif_neg h]
    have hv : zv c s = false := by rw [← Bool.not_eq_true]; exact fun h' => h (hc.mpr h')
    rw [hv, sel_false]
    iintro ⟨#HP, Hat, Hp, HO⟩ Hk
    imod (close1 m ρ K hA hs (hvd.trans hv)) $$ [Hat] with Hz
    · isplitr; · iexact HP
      iexact Hat
    iapply Hk
    isplitl [Hz]; · iexact Hz
    isplitl [Hp]; · iexact Hp
    iexact HO

theorem regRP {c : Dev nD} (k s : ℕ) (hk : k = 1 ∨ k = 2 ∨ k = 3) (hs : s < 7)
    {cond : Prop} [inst : Decidable cond] (hc : cond ↔ zv c s = true)
    {S : DmaSem sig} (hS : S = sm (rpA k) s) {src dst : Memref sig .tc .vmem S48x1024 .bf16} (hdst : dst = slotM (7 * k + s) (lt28' (by omega) hs))
    {hsrc' : src.view.WordExact} {hdst' : dst.view.WordExact} {α : Type} {Q : α → sProp 𝕄} {J : Prog (TpuEff nD τ sig (Elt F) Λ₀ .tc) α} :
    iprop(PER m ρ K ∗ RP m ρ c k s ∗ owesE c [])
      ⊢ iprop(((RP' m ρ c k s ∗ owesE c []) -∗ WP c J Q) -∗ WP c (dite cond
          (fun _ => Prog.lift (.waitDma2 S src dst hsrc' hdst') >>= fun _ => J) (fun _ => J)) Q) := by
  unfold RP RP'
  iintro ⟨#HP, ⟨Hat, Hc⟩, HO⟩ Hk
  iapply (regW m ρ K (rpA k) s (rpA_lt k) hs (vd_rp c k s) (pay_rp m ρ c k s hk) hc (above_nil _) hS ⟨_, _, hdst⟩) $$ [Hat Hc HO]
  · isplitr; · iexact HP
    isplitl [Hat]; · iexact Hat
    isplitl [Hc]; · iexact Hc
    iexact HO
  iintro ⟨Hz, Hp, HO⟩
  iapply Hk
  isplitl [Hz Hp]
  · isplitl [Hz]; · iexact Hz
    iexact Hp
  iexact HO

theorem regZW {c : Dev nD} (s : ℕ) (hs : s < 7) (hs3 : s ≠ 3)
    {cond : Prop} [inst : Decidable cond] (hc : cond ↔ zv c s = true)
    {S : DmaSem sig} (hS : S = sm 0 s) {src dst : Memref sig .tc .vmem S48x1024 .bf16} (hdst : dst = slotM 3 (by decide))
    {hsrc' : src.view.WordExact} {hdst' : dst.view.WordExact} {α : Type} {Q : α → sProp 𝕄} {J : Prog (TpuEff nD τ sig (Elt F) Λ₀ .tc) α} :
    iprop(PER m ρ K ∗ ZW m ρ c s ∗ owesE c [])
      ⊢ iprop(((ZW' m ρ c s ∗ owesE c []) -∗ WP c J Q) -∗ WP c (dite cond
          (fun _ => Prog.lift (.waitDma2 S src dst hsrc' hdst') >>= fun _ => J) (fun _ => J)) Q) := by
  unfold ZW ZW' ZC
  iintro ⟨#HP, ⟨Hat, Hc⟩, HO⟩ Hk
  iapply (regW m ρ K 0 s (by decide) hs (vd_z c 0 s (by decide) hs3) (pay_z m ρ c s) hc (above_nil _) hS ⟨_, _, hdst⟩) $$ [Hat Hc HO]
  · isplitr; · iexact HP
    isplitl [Hat]; · iexact Hat
    isplitl [Hc]; · iexact Hc
    iexact HO
  iintro ⟨Hz, Hp, HO⟩
  iapply Hk
  isplitl [Hz Hp]
  · isplitl [Hz]; · iexact Hz
    iexact Hp
  iexact HO

theorem regPW {c : Dev nD} (s : ℕ) (hs : s < 7) {cond : Prop} [inst : Decidable cond] (hc : cond ↔ zv c s = true)
    {S1 S2 S3 : DmaSem sig} (hS1 : S1 = sm 2 s) (hS2 : S2 = sm 4 s) (hS3 : S3 = sm 6 s)
    {src1 dst1 src2 dst2 src3 dst3 : Memref sig .tc .vmem S48x1024 .bf16} (hdst1 : dst1 = slotM s (lt28 hs)) (hdst2 : dst2 = slotM s (lt28 hs))
    (hdst3 : dst3 = slotM s (lt28 hs))
    {hw1 : src1.view.WordExact} {hw1' : dst1.view.WordExact} {hw2 : src2.view.WordExact} {hw2' : dst2.view.WordExact}
    {hw3 : src3.view.WordExact} {hw3' : dst3.view.WordExact} {α : Type} {Q : α → sProp 𝕄} {J : Prog (TpuEff nD τ sig (Elt F) Λ₀ .tc) α} :
    iprop(PER m ρ K ∗ PW m ρ c s ∗ owesE c [])
      ⊢ iprop(((PW' m ρ c s ∗ owesE c []) -∗ WP c J Q) -∗ WP c (dite cond
          (fun _ => Prog.lift (.waitDma2 S1 src1 dst1 hw1 hw1') >>= fun _ => Prog.lift (.waitDma2 S2 src2 dst2 hw2 hw2') >>= fun _ =>
            Prog.lift (.waitDma2 S3 src3 dst3 hw3 hw3') >>= fun _ => J) (fun _ => J)) Q) := by
  unfold PW PW' PC
  by_cases h : cond
  · rw [dif_pos h]
    have hv := hc.mp h
    rw [hv, sel_true, sel_true, sel_true]
    simp only [Prog.lift, Prog.bind_op, Prog.bind_ret]
    iintro ⟨#HP, ⟨⟨Ha1, Hc1⟩, ⟨Ha2, Hc2⟩, ⟨Ha3, Hc3⟩⟩, HO⟩ Hk
    iapply (wait1 m ρ K (A := 2) (s := s) (by decide) hs ((vd_sp c 1 s).trans hv) (above_nil _) hS1 ⟨_, _, hdst1⟩) $$ [Ha1 Hc1 HO]
    · isplitr; · iexact HP
      isplitl [Ha1]; · iexact Ha1
      isplitl [Hc1]; · iexact Hc1
      iexact HO
    iintro ⟨HO, Hz1, Hp1⟩
    iapply (wait1 m ρ K (A := 4) (s := s) (by decide) hs ((vd_sp c 3 s).trans hv) (above_nil _) hS2 ⟨_, _, hdst2⟩) $$ [Ha2 Hc2 HO]
    · isplitr; · iexact HP
      isplitl [Ha2]; · iexact Ha2
      isplitl [Hc2]; · iexact Hc2
      iexact HO
    iintro ⟨HO, Hz2, Hp2⟩
    iapply (wait1 m ρ K (A := 6) (s := s) (by decide) hs ((vd_sp c 2 s).trans hv) (above_nil _) hS3 ⟨_, _, hdst3⟩) $$ [Ha3 Hc3 HO]
    · isplitr; · iexact HP
      isplitl [Ha3]; · iexact Ha3
      isplitl [Hc3]; · iexact Hc3
      iexact HO
    iintro ⟨HO, Hz3, Hp3⟩
    iapply Hk
    isplitr [HO]
    · isplitl [Hz1 Hp1]
      · isplitl [Hz1]; · iexact Hz1
        iapply (Entails.of_eq (pay_sp m ρ c 1 s (.inl rfl))); iexact Hp1
      isplitl [Hz2 Hp2]
      · isplitl [Hz2]; · iexact Hz2
        iapply (Entails.of_eq (pay_sp m ρ c 3 s (.inr (.inr rfl)))); iexact Hp2
      isplitl [Hz3]; · iexact Hz3
      iapply (Entails.of_eq (pay_sp m ρ c 2 s (.inr (.inl rfl)))); iexact Hp3
    iexact HO
  · rw [dif_neg h]
    have hv : zv c s = false := by rw [← Bool.not_eq_true]; exact fun h' => h (hc.mpr h')
    rw [hv, sel_false, sel_false, sel_false]
    iintro ⟨#HP, ⟨⟨Ha1, Hp1⟩, ⟨Ha2, Hp2⟩, ⟨Ha3, Hp3⟩⟩, HO⟩ Hk
    imod (close1 m ρ K (A := 2) (s := s) (by decide) hs ((vd_sp c 1 s).trans hv)) $$ [Ha1] with Hz1
    · isplitr; · iexact HP
      iexact Ha1
    imod (close1 m ρ K (A := 4) (s := s) (by decide) hs ((vd_sp c 3 s).trans hv)) $$ [Ha2] with Hz2
    · isplitr; · iexact HP
      iexact Ha2
    imod (close1 m ρ K (A := 6) (s := s) (by decide) hs ((vd_sp c 2 s).trans hv)) $$ [Ha3] with Hz3
    · isplitr; · iexact HP
      iexact Ha3
    iapply Hk
    isplitr [HO]
    · isplitl [Hz1 Hp1]
      · isplitl [Hz1]; · iexact Hz1
        iexact Hp1
      isplitl [Hz2 Hp2]
      · isplitl [Hz2]; · iexact Hz2
        iexact Hp2
      isplitl [Hz3]; · iexact Hz3
      iexact Hp3
    iexact HO

/-! ## Shares of one slot -/

theorem splitK (c : Dev nD) (j k : ℕ) : slotY m ρ c j fullShare ⊣⊢
    iprop(slotY m ρ c j (Transfers.shareDrop fullShare k) ∗ bigSep (Finset.range k) (fun i => slotY m ρ c j (tk i))) :=
  Transfers.pointsTo_toks_range fullShare k

theorem range4 (A : ℕ → sProp 𝕄) : bigSep (Finset.range 4) A ⊣⊢ iprop(A 0 ∗ A 1 ∗ A 2 ∗ A 3) := by
  rw [bigSep_range_succ, bigSep_range_succ, bigSep_range_succ, bigSep_range_succ, Finset.range_zero, bigSep_empty]
  constructor
  · iintro ⟨H3, H2, H1, H0, -⟩
    isplitl [H0]; · iexact H0
    isplitl [H1]; · iexact H1
    isplitl [H2]; · iexact H2
    iexact H3
  · iintro ⟨H0, H1, H2, H3⟩
    isplitl [H3]; · iexact H3
    isplitl [H2]; · iexact H2
    isplitl [H1]; · iexact H1
    isplitl [H0]; · iexact H0
    iempintro

theorem range7 (A : ℕ → sProp 𝕄) : bigSep (Finset.range 7) A ⊣⊢ iprop(A 0 ∗ A 1 ∗ A 2 ∗ A 3 ∗ A 4 ∗ A 5 ∗ A 6) := by
  rw [bigSep_range_succ, bigSep_range_succ, bigSep_range_succ, bigSep_range_succ, bigSep_range_succ, bigSep_range_succ, bigSep_range_succ,
    Finset.range_zero, bigSep_empty]
  constructor
  · iintro ⟨H6, H5, H4, H3, H2, H1, H0, -⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    isplitl [H6]; · iexact H6
    isplitl [H5]; · iexact H5
    isplitl [H4]; · iexact H4
    isplitl [H3]; · iexact H3
    isplitl [H2]; · iexact H2
    isplitl [H1]; · iexact H1
    isplitl [H0]; · iexact H0
    iempintro

theorem split4 (c : Dev nD) (j : ℕ) : slotY m ρ c j fullShare ⊣⊢ iprop(slotY m ρ c j (Transfers.shareDrop fullShare 4)
    ∗ slotY m ρ c j (tk 0) ∗ slotY m ρ c j (tk 1) ∗ slotY m ρ c j (tk 2) ∗ slotY m ρ c j (tk 3)) :=
  ⟨(splitK m ρ c j 4).1.trans (sep_mono_right (range4 _).1), (sep_mono_right (range4 _).2).trans (splitK m ρ c j 4).2⟩

/-- Slot 3: its shares for the planes as well. -/
theorem split11 (c : Dev nD) (j : ℕ) : slotY m ρ c j fullShare ⊣⊢ iprop(slotY m ρ c j (Transfers.shareDrop fullShare 11)
    ∗ (slotY m ρ c j (tk 0) ∗ slotY m ρ c j (tk 1) ∗ slotY m ρ c j (tk 2) ∗ slotY m ρ c j (tk 3))
    ∗ slotY m ρ c j (tk 4) ∗ slotY m ρ c j (tk 5) ∗ slotY m ρ c j (tk 6) ∗ slotY m ρ c j (tk 7) ∗ slotY m ρ c j (tk 8) ∗ slotY m ρ c j (tk 9) ∗ slotY m ρ c j (tk 10)) := by
  have e : bigSep (Finset.range 11) (fun i => slotY m ρ c j (tk i))
      = iprop(slotY m ρ c j (tk 10) ∗ slotY m ρ c j (tk 9) ∗ slotY m ρ c j (tk 8) ∗ slotY m ρ c j (tk 7) ∗ slotY m ρ c j (tk 6) ∗ slotY m ρ c j (tk 5) ∗ slotY m ρ c j (tk 4)
        ∗ bigSep (Finset.range 4) (fun i => slotY m ρ c j (tk i))) := by
    rw [bigSep_range_succ, bigSep_range_succ, bigSep_range_succ, bigSep_range_succ, bigSep_range_succ, bigSep_range_succ, bigSep_range_succ]
  constructor
  · refine (splitK m ρ c j 11).1.trans ?_
    rw [e]
    iintro ⟨Hd, Ha, Hb, Hc, He, Hf, Hg, Hh, Hr⟩
    isplitl [Hd]; · iexact Hd
    isplitl [Hr]; · iapply (range4 (fun i => slotY m ρ c j (tk i))).1; iexact Hr
    isplitl [Hh]; · iexact Hh
    isplitl [Hg]; · iexact Hg
    isplitl [Hf]; · iexact Hf
    isplitl [He]; · iexact He
    isplitl [Hc]; · iexact Hc
    isplitl [Hb]; · iexact Hb
    iexact Ha
  · refine .trans ?_ (splitK m ρ c j 11).2
    rw [e]
    iintro ⟨Hd, Hr, Hh, Hg, Hf, He, Hc, Hb, Ha⟩
    isplitl [Hd]; · iexact Hd
    isplitl [Ha]; · iexact Ha
    isplitl [Hb]; · iexact Hb
    isplitl [Hc]; · iexact Hc
    isplitl [He]; · iexact He
    isplitl [Hf]; · iexact Hf
    isplitl [Hg]; · iexact Hg
    isplitl [Hh]; · iexact Hh
    iapply (range4 (fun i => slotY m ρ c j (tk i))).2; iexact Hr

/-! ## Passing on what arrived from another plane -/

/-- What the first part of the region takes. -/
def RA (c : Dev nD) (s : ℕ) : sProp 𝕄 := iprop(pos 1 c s ∗ cred (tallyAt (cell 1 c s) () N) ∗ PT c 1 s)
def RA' (c : Dev nD) (s : ℕ) : sProp 𝕄 :=
  iprop(semVal (cell 1 c s) 0 ∗ slotY m ρ c s (tk 0) ∗ slotY m ρ c s (Transfers.shareDrop fullShare 4) ∗ PC m ρ c 1 s ∗ slotY m ρ c s (tk 3) ∗ slotY m ρ c s (tk 2))

theorem partR {c : Dev nD} (s : ℕ) (hs : s < 7) (hs3 : s ≠ 3) (hv : zv c s = true) {dv : Dev nD} (hdv : dv = pl c 1)
    {S S1 R1 : DmaSem sig} (hS : S = sm 1 s) (hS1 : S1 = sm 2 s) (hR1 : R1 = sm 3 s)
    {src dst src1 dst1 : Memref sig .tc .vmem S48x1024 .bf16} (hdst : dst = slotM s (lt28 hs)) (hsrc1 : src1 = slotM s (lt28 hs))
    (hdst1 : dst1 = slotM (7 * 1 + s) (lt28' (by omega) hs))
    {hw : src.view.WordExact} {hw' : dst.view.WordExact} {hsc : dst1.view.ref.isScScratch = false} {hw1 : src1.view.WordExact} {hw1' : dst1.view.WordExact}
    {hsem : DmaTarget.Typed .vmem (.dma R1) (.remote (Dev.tc dv : Thread nD τ) dst1 (.dma S1) hsc)}
    {α : Type} {Q : α → sProp 𝕄} {J : Prog (TpuEff nD τ sig (Elt F) Λ₀ .tc) α} {l : List (Bool × GSem nD τ sig × ℕ)}
    (hl : Above 2 (dueP c 1 s :: l)) :
    iprop(PER m ρ K ∗ RA c s ∗ owesE c (dueP c 1 s :: l))
      ⊢ iprop(((RA' m ρ c s ∗ owesE c l) -∗ WP c J Q) -∗ WP c (Prog.lift (.waitDma2 S src dst hw hw') >>= fun _ =>
          Prog.lift (.enqueueDma src1 (.remote (Dev.tc dv : Thread nD τ) dst1 (.dma S1) hsc) (.dma R1) hw1 hw1' hsem) >>= fun _ => J) Q) := by
  unfold RA RA'
  have hlv : lvSem (.dma (sm 1 s)) = 2 := by
    have h : ∀ s : Fin 7, lvSem (.dma (sm 1 s.val)) = 2 := by decide
    exact h ⟨s, hs⟩
  iintro ⟨#HP, ⟨Hat, Hc, HT⟩, HO⟩ Hk
  simp only [Prog.lift, Prog.bind_op, Prog.bind_ret]
  iapply (wait1 m ρ K (A := 1) (s := s) (by decide) hs ((vd_z c 1 s (by decide) hs3).trans hv) (by rw [hlv]; exact hl) hS ⟨_, _, hdst⟩) $$ [Hat Hc HO]
  · isplitr; · iexact HP
    isplitl [Hat]; · iexact Hat
    isplitl [Hc]; · iexact Hc
    iexact HO
  iintro ⟨HO, Hz, Hp⟩
  ihave Hp' := ((Entails.of_eq (pay_rz m ρ c s)).trans (split4 m ρ c s).1) $$ Hp
  icases Hp' with ⟨Hd, H0, H1, H2, H3⟩
  have hsend := sendP m ρ K (c := c) 1 s (.inl rfl) hs hv hdv hS1 hR1 hsrc1 hdst1 (hsc := hsc) (hsrc' := hw1) (hdst' := hw1') (hsem := hsem) (Q := Q) (J := J) (l := l)
  simp only [Prog.lift, Prog.bind_op, Prog.bind_ret] at hsend
  iapply hsend $$ [HT H1 HO]
  · isplitr; · iexact HP
    isplitl [HT]; · iexact HT
    isplitl [H1]; · iexact H1
    iexact HO
  iintro ⟨HC, HO⟩
  iapply Hk
  isplitr [HO]
  · isplitl [Hz]; · iexact Hz
    isplitl [H0]; · iexact H0
    isplitl [Hd]; · iexact Hd
    isplitl [HC]; · iexact HC
    isplitl [H3]; · iexact H3
    iexact H2
  iexact HO

theorem regR {c : Dev nD} (s : ℕ) (hs : s < 7) (hs3 : s ≠ 3) {cond : Prop} [inst : Decidable cond] (hc : cond ↔ zv c s = true)
    {α : Type} {P1 : cond → Prog (TpuEff nD τ sig (Elt F) Λ₀ .tc) α} {dvL dvD : cond → Dev nD} (hdvL : ∀ h, dvL h = pl c 3) (hdvD : ∀ h, dvD h = pl c 2)
    {SL RL SD RD : DmaSem sig} (hSL : SL = sm 4 s) (hRL : RL = sm 5 s) (hSD : SD = sm 6 s) (hRD : RD = sm 7 s)
    {srcL dstL srcD dstD : Memref sig .tc .vmem S48x1024 .bf16} (hsrcL : srcL = slotM s (lt28 hs)) (hsrcD : srcD = slotM s (lt28 hs))
    (hdstL : dstL = slotM (7 * 3 + s) (lt28' (by omega) hs)) (hdstD : dstD = slotM (7 * 2 + s) (lt28' (by omega) hs))
    {hscL : dstL.view.ref.isScScratch = false} {hscD : dstD.view.ref.isScScratch = false} {hL : srcL.view.WordExact} {hL' : dstL.view.WordExact}
    {hD : srcD.view.WordExact} {hD' : dstD.view.WordExact}
    {hsemL : ∀ h, DmaTarget.Typed .vmem (.dma RL) (.remote (Dev.tc (dvL h) : Thread nD τ) dstL (.dma SL) hscL)}
    {hsemD : ∀ h, DmaTarget.Typed .vmem (.dma RD) (.remote (Dev.tc (dvD h) : Thread nD τ) dstD (.dma SD) hscD)}
    {β : Type} {Q : β → sProp 𝕄} {J : Prog (TpuEff nD τ sig (Elt F) Λ₀ .tc) β} {l : List (Bool × GSem nD τ sig × ℕ)}
    (hP1 : ∀ (h : cond) (hv : zv c s = true) {Q' : α → sProp 𝕄},
      iprop(PER m ρ K ∗ RA c s ∗ owesE c (dueP c 1 s :: dueP c 3 s :: dueP c 2 s :: l))
        ⊢ iprop((∀ a, (RA' m ρ c s ∗ owesE c (dueP c 3 s :: dueP c 2 s :: l)) -∗ Q' a) -∗ WP c (P1 h) Q')) :
    iprop(PER m ρ K ∗ RZ m ρ c s ∗ owesE c (dueP c 1 s :: dueP c 3 s :: dueP c 2 s :: l))
      ⊢ iprop(((RZ' m ρ c s ∗ owesE c l) -∗ WP c J Q) -∗ WP c (dite cond
          (fun h => P1 h >>= fun _ =>
            Prog.lift (.enqueueDma srcL (.remote (Dev.tc (dvL h) : Thread nD τ) dstL (.dma SL) hscL) (.dma RL) hL hL' (hsemL h)) >>= fun _ =>
            Prog.lift (.enqueueDma srcD (.remote (Dev.tc (dvD h) : Thread nD τ) dstD (.dma SD) hscD) (.dma RD) hD hD' (hsemD h)) >>= fun _ => J)
          (fun _ => J)) Q) := by
  unfold RZ RZ' RZr
  by_cases h : cond
  · rw [dif_pos h]
    have hv := hc.mp h
    have e : (sel (zv c s) (cred (tallyAt (cell 1 c s) () N)) (slotY m ρ c s fullShare) : sProp 𝕄) = cred (tallyAt (cell 1 c s) () N) := by rw [hv, sel_true]
    rw [e]
    iintro ⟨#HP, ⟨Hat, Hc, HT1, HT3, HT2⟩, HO⟩ Hk
    iapply (bindE (F := F))
    iapply (hP1 h hv) $$ [Hat Hc HT1 HO]
    · isplitr; · iexact HP
      isplitr [HO]
      · unfold RA
        isplitl [Hat]; · iexact Hat
        isplitl [Hc]; · iexact Hc
        iexact HT1
      iexact HO
    iintro %a
    unfold RA'
    iintro ⟨⟨Hz, H0, Hd, HC1, H3, H2⟩, HO⟩
    iapply (sendP m ρ K (c := c) 3 s (.inr (.inr rfl)) hs hv (hdvL h) hSL hRL hsrcL hdstL) $$ [HT3 H3 HO]
    · isplitr; · iexact HP
      isplitl [HT3]; · iexact HT3
      isplitl [H3]; · iexact H3
      iexact HO
    iintro ⟨HC3, HO⟩
    iapply (sendP m ρ K (c := c) 2 s (.inr (.inl rfl)) hs hv (hdvD h) hSD hRD hsrcD hdstD) $$ [HT2 H2 HO]
    · isplitr; · iexact HP
      isplitl [HT2]; · iexact HT2
      isplitl [H2]; · iexact H2
      iexact HO
    iintro ⟨HC2, HO⟩
    iapply Hk
    isplitr [HO]
    · isplitl [H0]; · iexact H0
      isplitl [Hz]; · iexact Hz
      isplitl [Hd]; · iexact Hd
      isplitl [HC1]; · iexact HC1
      isplitl [HC3]; · iexact HC3
      iexact HC2
    iexact HO
  · rw [dif_neg h]
    have hv : zv c s = false := by rw [← Bool.not_eq_true]; exact fun h' => h (hc.mpr h')
    have hd : ∀ k, dueP c k s = (false, cell (rpA k) (pl c k) s, N) := fun k => by unfold dueP; rw [hv]
    have hPC : ∀ k, PC m ρ c k s = slotY m ρ c s (tk k) := fun k => by unfold PC; rw [hv, sel_false]
    have e : (sel (zv c s) (cred (tallyAt (cell 1 c s) () N)) (slotY m ρ c s fullShare) : sProp 𝕄) = slotY m ρ c s fullShare := by rw [hv, sel_false]
    rw [e, hd, hd, hd, owesE_false, owesE_false, owesE_false, hPC, hPC, hPC]
    iintro ⟨#HP, ⟨Hat, Hs, -, -, -⟩, HO⟩ Hk
    imod (close1 m ρ K (A := 1) (s := s) (by decide) hs ((vd_z c 1 s (by decide) hs3).trans hv)) $$ [Hat] with Hz
    · isplitr; · iexact HP
      iexact Hat
    ihave Hp' := (split4 m ρ c s).1 $$ Hs
    icases Hp' with ⟨Hd, H0, H1, H2, H3⟩
    iapply Hk
    isplitr [HO]
    · isplitl [H0]; · iexact H0
      isplitl [Hz]; · iexact Hz
      isplitl [Hd]; · iexact Hd
      isplitl [H1]; · iexact H1
      isplitl [H3]; · iexact H3
      iexact H2
    iexact HO

end Cert.KernelIdeal.Moe
end
-- ==== Proof.KI.Facts.lean ====
/-
The conditions and the peers the kernel computes, as places.
-/
module

public import proofs.«01_k».proof.Proof.KI.Regions

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
theorem cW0 : ∀ c : Fin 16, Scalar.cmpi .ne (Scalar.extui (Scalar.andi (Scalar.cmpi .sge (Scalar.addi (pW c) 4294967293#32) 0#32) (Scalar.cmpi .sle (Scalar.addi (pW c) 4294967293#32) 3#32)) : BitVec 32) 0#32 = 1#1 ↔ zv c 0 = true := by decide
theorem cW1 : ∀ c : Fin 16, Scalar.cmpi .ne (Scalar.extui (Scalar.andi (Scalar.cmpi .sge (Scalar.addi (pW c) 4294967294#32) 0#32) (Scalar.cmpi .sle (Scalar.addi (pW c) 4294967294#32) 3#32)) : BitVec 32) 0#32 = 1#1 ↔ zv c 1 = true := by decide
theorem cW2 : ∀ c : Fin 16, Scalar.cmpi .ne (Scalar.extui (Scalar.andi (Scalar.cmpi .sge (Scalar.addi (pW c) 4294967295#32) 0#32) (Scalar.cmpi .sle (Scalar.addi (pW c) 4294967295#32) 3#32)) : BitVec 32) 0#32 = 1#1 ↔ zv c 2 = true := by decide
theorem cW3 : ∀ c : Fin 16, Scalar.cmpi .ne (Scalar.extui (Scalar.andi (Scalar.cmpi .sge (Scalar.addi (pW c) 0#32) 0#32) (Scalar.cmpi .sle (Scalar.addi (pW c) 0#32) 3#32)) : BitVec 32) 0#32 = 1#1 ↔ zv c 3 = true := by decide
theorem cW4 : ∀ c : Fin 16, Scalar.cmpi .ne (Scalar.extui (Scalar.andi (Scalar.cmpi .sge (Scalar.addi (pW c) 1#32) 0#32) (Scalar.cmpi .sle (Scalar.addi (pW c) 1#32) 3#32)) : BitVec 32) 0#32 = 1#1 ↔ zv c 4 = true := by decide
theorem cW5 : ∀ c : Fin 16, Scalar.cmpi .ne (Scalar.extui (Scalar.andi (Scalar.cmpi .sge (Scalar.addi (pW c) 2#32) 0#32) (Scalar.cmpi .sle (Scalar.addi (pW c) 2#32) 3#32)) : BitVec 32) 0#32 = 1#1 ↔ zv c 5 = true := by decide
theorem cW6 : ∀ c : Fin 16, Scalar.cmpi .ne (Scalar.extui (Scalar.andi (Scalar.cmpi .sge (Scalar.addi (pW c) 3#32) 0#32) (Scalar.cmpi .sle (Scalar.addi (pW c) 3#32) 3#32)) : BitVec 32) 0#32 = 1#1 ↔ zv c 6 = true := by decide
theorem cS0 : ∀ c : Fin 16, k0_cond1 c = 1#1 ↔ ¬ c.val / 4 = ((0 : Fin 4)).val := by decide
theorem dS0 : ∀ (c : Fin 16) (h : k0_cond1 c = 1#1), (⟨k0_dev1 c, k0_dev1_lt c h⟩ : Dev nD) = pd c 0 := by decide
theorem cS1 : ∀ c : Fin 16, k0_cond2 c = 1#1 ↔ ¬ c.val / 4 = ((1 : Fin 4)).val := by decide
theorem dS1 : ∀ (c : Fin 16) (h : k0_cond2 c = 1#1), (⟨k0_dev2 c, k0_dev2_lt c h⟩ : Dev nD) = pd c 1 := by decide
theorem cS2 : ∀ c : Fin 16, k0_cond3 c = 1#1 ↔ ¬ c.val / 4 = ((2 : Fin 4)).val := by decide
theorem dS2 : ∀ (c : Fin 16) (h : k0_cond3 c = 1#1), (⟨k0_dev3 c, k0_dev3_lt c h⟩ : Dev nD) = pd c 2 := by decide
theorem cS3 : ∀ c : Fin 16, k0_cond4 c = 1#1 ↔ ¬ c.val / 4 = ((3 : Fin 4)).val := by decide
theorem dS3 : ∀ (c : Fin 16) (h : k0_cond4 c = 1#1), (⟨k0_dev4 c, k0_dev4_lt c h⟩ : Dev nD) = pd c 3 := by decide
theorem dP5 : ∀ c : Fin 16, (⟨k0_dev5 c, k0_dev5_lt c⟩ : Dev nD) = pl c 1 := by decide
theorem dP6 : ∀ c : Fin 16, (⟨k0_dev6 c, k0_dev6_lt c⟩ : Dev nD) = pl c 3 := by decide
theorem dP7 : ∀ c : Fin 16, (⟨k0_dev7 c, k0_dev7_lt c⟩ : Dev nD) = pl c 2 := by decide
theorem dP14 : ∀ c : Fin 16, (⟨k0_dev14 c, k0_dev14_lt c⟩ : Dev nD) = pl c 1 := by decide
theorem dP15 : ∀ c : Fin 16, (⟨k0_dev15 c, k0_dev15_lt c⟩ : Dev nD) = pl c 3 := by decide
theorem dP16 : ∀ c : Fin 16, (⟨k0_dev16 c, k0_dev16_lt c⟩ : Dev nD) = pl c 2 := by decide
theorem cZ0 : ∀ c : Fin 16, k0_cond5 c = 1#1 ↔ zv c 0 = true := by decide
theorem dZ0 : ∀ (c : Fin 16) (h : k0_cond5 c = 1#1), (⟨k0_dev8 c, k0_dev8_lt c h⟩ : Dev nD) = zp c 0 := by decide
theorem cR0 : ∀ c : Fin 16, k0_cond11 c = 1#1 ↔ zv c 0 = true := by decide
theorem dR1_0 : ∀ (c : Fin 16) (h : k0_cond11 c = 1#1), (⟨k0_dev17 c, k0_dev17_lt c h⟩ : Dev nD) = pl c 1 := by decide
theorem dR3_0 : ∀ (c : Fin 16) (h : k0_cond11 c = 1#1), (⟨k0_dev18 c, k0_dev18_lt c h⟩ : Dev nD) = pl c 3 := by decide
theorem dR2_0 : ∀ (c : Fin 16) (h : k0_cond11 c = 1#1), (⟨k0_dev19 c, k0_dev19_lt c h⟩ : Dev nD) = pl c 2 := by decide
theorem cZ1 : ∀ c : Fin 16, k0_cond6 c = 1#1 ↔ zv c 1 = true := by decide
theorem dZ1 : ∀ (c : Fin 16) (h : k0_cond6 c = 1#1), (⟨k0_dev9 c, k0_dev9_lt c h⟩ : Dev nD) = zp c 1 := by decide
theorem cR1 : ∀ c : Fin 16, k0_cond12 c = 1#1 ↔ zv c 1 = true := by decide
theorem dR1_1 : ∀ (c : Fin 16) (h : k0_cond12 c = 1#1), (⟨k0_dev20 c, k0_dev20_lt c h⟩ : Dev nD) = pl c 1 := by decide
theorem dR3_1 : ∀ (c : Fin 16) (h : k0_cond12 c = 1#1), (⟨k0_dev21 c, k0_dev21_lt c h⟩ : Dev nD) = pl c 3 := by decide
theorem dR2_1 : ∀ (c : Fin 16) (h : k0_cond12 c = 1#1), (⟨k0_dev22 c, k0_dev22_lt c h⟩ : Dev nD) = pl c 2 := by decide
theorem cZ2 : ∀ c : Fin 16, k0_cond7 c = 1#1 ↔ zv c 2 = true := by decide
theorem dZ2 : ∀ (c : Fin 16) (h : k0_cond7 c = 1#1), (⟨k0_dev10 c, k0_dev10_lt c h⟩ : Dev nD) = zp c 2 := by decide
theorem cR2 : ∀ c : Fin 16, k0_cond13 c = 1#1 ↔ zv c 2 = true := by decide
theorem dR1_2 : ∀ (c : Fin 16) (h : k0_cond13 c = 1#1), (⟨k0_dev23 c, k0_dev23_lt c h⟩ : Dev nD) = pl c 1 := by decide
theorem dR3_2 : ∀ (c : Fin 16) (h : k0_cond13 c = 1#1), (⟨k0_dev24 c, k0_dev24_lt c h⟩ : Dev nD) = pl c 3 := by decide
theorem dR2_2 : ∀ (c : Fin 16) (h : k0_cond13 c = 1#1), (⟨k0_dev25 c, k0_dev25_lt c h⟩ : Dev nD) = pl c 2 := by decide
theorem cZ4 : ∀ c : Fin 16, k0_cond8 c = 1#1 ↔ zv c 4 = true := by decide
theorem dZ4 : ∀ (c : Fin 16) (h : k0_cond8 c = 1#1), (⟨k0_dev11 c, k0_dev11_lt c h⟩ : Dev nD) = zp c 4 := by decide
theorem cR4 : ∀ c : Fin 16, k0_cond14 c = 1#1 ↔ zv c 4 = true := by decide
theorem dR1_4 : ∀ (c : Fin 16) (h : k0_cond14 c = 1#1), (⟨k0_dev26 c, k0_dev26_lt c h⟩ : Dev nD) = pl c 1 := by decide
theorem dR3_4 : ∀ (c : Fin 16) (h : k0_cond14 c = 1#1), (⟨k0_dev27 c, k0_dev27_lt c h⟩ : Dev nD) = pl c 3 := by decide
theorem dR2_4 : ∀ (c : Fin 16) (h : k0_cond14 c = 1#1), (⟨k0_dev28 c, k0_dev28_lt c h⟩ : Dev nD) = pl c 2 := by decide
theorem cZ5 : ∀ c : Fin 16, k0_cond9 c = 1#1 ↔ zv c 5 = true := by decide
theorem dZ5 : ∀ (c : Fin 16) (h : k0_cond9 c = 1#1), (⟨k0_dev12 c, k0_dev12_lt c h⟩ : Dev nD) = zp c 5 := by decide
theorem cR5 : ∀ c : Fin 16, k0_cond15 c = 1#1 ↔ zv c 5 = true := by decide
theorem dR1_5 : ∀ (c : Fin 16) (h : k0_cond15 c = 1#1), (⟨k0_dev29 c, k0_dev29_lt c h⟩ : Dev nD) = pl c 1 := by decide
theorem dR3_5 : ∀ (c : Fin 16) (h : k0_cond15 c = 1#1), (⟨k0_dev30 c, k0_dev30_lt c h⟩ : Dev nD) = pl c 3 := by decide
theorem dR2_5 : ∀ (c : Fin 16) (h : k0_cond15 c = 1#1), (⟨k0_dev31 c, k0_dev31_lt c h⟩ : Dev nD) = pl c 2 := by decide
theorem cZ6 : ∀ c : Fin 16, k0_cond10 c = 1#1 ↔ zv c 6 = true := by decide
theorem dZ6 : ∀ (c : Fin 16) (h : k0_cond10 c = 1#1), (⟨k0_dev13 c, k0_dev13_lt c h⟩ : Dev nD) = zp c 6 := by decide
theorem cR6 : ∀ c : Fin 16, k0_cond16 c = 1#1 ↔ zv c 6 = true := by decide
theorem dR1_6 : ∀ (c : Fin 16) (h : k0_cond16 c = 1#1), (⟨k0_dev32 c, k0_dev32_lt c h⟩ : Dev nD) = pl c 1 := by decide
theorem dR3_6 : ∀ (c : Fin 16) (h : k0_cond16 c = 1#1), (⟨k0_dev33 c, k0_dev33_lt c h⟩ : Dev nD) = pl c 3 := by decide
theorem dR2_6 : ∀ (c : Fin 16) (h : k0_cond16 c = 1#1), (⟨k0_dev34 c, k0_dev34_lt c h⟩ : Dev nD) = pl c 2 := by decide

end Cert.KernelIdeal.Moe
end
-- ==== Proof.KI.Loads.lean ====
/-
Reading and writing buffers, and the scratch as its slots.
-/
module

public import proofs.«01_k».proof.Proof.KI.Regions

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem retE {c : Dev nD} {α : Type} {a : α} {Q : α → sProp 𝕄} : Q a ⊢ WP c (Pure.pure a) Q :=
  BIBase.Entails.trans (fupd_intro (PROP := sProp 𝕄)) (Entails.of_eq (wp_ret _ _ _ _ _).symm)

/-- A load from a buffer held whole. -/
theorem loadM {c : Dev nD} {cs : CoreSpace} {S : Shape} {e : EltTy} (mr : Memref sig .tc (.core cs) S e) {r : LoadRect S} {hl : mr.view.LoadsAt r}
    {q : PosShare TreeShare} {f : Buf (Elt F) (mr.view.loc (c : Thread nD τ))} {α : Type} {Q : α → sProp 𝕄}
    {J : (r.shape.Idx → Elt F e) → Prog (TpuEff nD τ sig (Elt F) Λ₀ .tc) α} :
    (mr.view.loc (c : Thread nD τ) ↦{q} f) ⊢ iprop(((mr.view.loc (c : Thread nD τ) ↦{q} f) -∗ WP c (J (mr.view.readAt (Elt F) r f)) Q)
      -∗ WP c (Prog.lift (.load mr r hl) >>= J) Q) := by
  simp only [Prog.lift, Prog.bind_op, Prog.bind_ret]
  exact wp_load 𝒱₀ (c : Thread nD τ) none Set.univ (m := mr) (S := Finset.univ) (Finset.subset_univ _)

theorem storeM {c : Dev nD} {cs : CoreSpace} {S : Shape} {e : EltTy} (mr : Memref sig .tc (.core cs) S e) {r : Rect S} {w : r.shape.Idx → Elt F e}
    {hx : (mr.access r).Stores Finset.univ} {hm : Finset.univ = Finset.univ ∨ ∀ a, r.stride a = 1} {f f' : Buf (Elt F) ((mr.access r).loc (c : Thread nD τ))}
    (hf : (mr.access r).write (Elt F) f w Finset.univ = f')
    {α : Type} {Q : α → sProp 𝕄} {J : PUnit → Prog (TpuEff nD τ sig (Elt F) Λ₀ .tc) α} :
    ((mr.access r).loc (c : Thread nD τ) ↦{fullShare} f) ⊢ iprop((((mr.access r).loc (c : Thread nD τ) ↦{fullShare} f') -∗ WP c (J ⟨⟩) Q)
      -∗ WP c (Prog.lift (.store mr r w Finset.univ hx hm) >>= J) Q) := by
  subst hf
  simp only [Prog.lift, Prog.bind_op, Prog.bind_ret]
  exact wp_store 𝒱₀ (c : Thread nD τ) none Set.univ (m := mr) (r := r) (S := Finset.univ) (Finset.subset_univ _)

theorem storeZ_val (f w : S28x48x1024.Idx → Elt F .bf16) :
    ((Memref.whole cc0_scratch0 : Memref sig .tc .vmem S28x48x1024 .bf16).access (Rect.unit (s := S28x48x1024) ![0, 0, 0] S28x48x1024.size inb_S28x48x1024_S28x48x1024_0_0_0)).write (Elt F) f w Finset.univ = w :=
  Memref.write_access_unit_zero_univ (Elt F) cc0_scratch0 (off := ![0, 0, 0]) (by funext a; match a with | ⟨0, _⟩ => rfl | ⟨1, _⟩ => rfl | ⟨2, _⟩ => rfl) inb_S28x48x1024_S28x48x1024_0_0_0 f w

theorem storeO_val (f w : S1024x1024.Idx → Elt F .f32) :
    ((Memref.whole cc0_stg3_0 : Memref sig .tc .vmem S1024x1024 .f32).access (Rect.unit (s := S1024x1024) ![0, 0] S1024x1024.size inb_S1024x1024_S1024x1024_0_0)).write (Elt F) f w Finset.univ = w :=
  Memref.write_access_unit_zero_univ (Elt F) cc0_stg3_0 (off := ![0, 0]) (by funext a; match a with | ⟨0, _⟩ => rfl | ⟨1, _⟩ => rfl) inb_S1024x1024_S1024x1024_0_0 f w

/-! ## The scratch as slots -/

abbrev scrL (c : Dev nD) : Loc nD τ sig := (c : Thread nD τ).loc cc0_scratch0

def spanSet (a n : ℕ) : Finset S28x48x1024.Idx := Finset.univ.filter fun i => a ≤ (i 0).val ∧ (i 0).val < a + n

theorem slots_disjoint (i j : ℕ) (h : i ≠ j) : Disjoint (slotSet i) (slotSet j) :=
  Finset.disjoint_left.mpr fun x hx hy => h ((Finset.mem_filter.mp hx).2.symm.trans (Finset.mem_filter.mp hy).2)

theorem span_biUnion (a n : ℕ) : ((Finset.range n).biUnion fun i => slotSet (a + i)) = spanSet a n := by
  ext x
  unfold spanSet slotSet
  simp only [Finset.mem_biUnion, Finset.mem_range, Finset.mem_filter, Finset.mem_univ, true_and]
  constructor
  · rintro ⟨i, hi, e⟩; omega
  · rintro ⟨h1, h2⟩; exact ⟨(x 0).val - a, by omega, by omega⟩

theorem span_eq (c : Dev nD) (a n : ℕ) (q : PosShare TreeShare) (f : Buf (Elt F) (scrL c)) :
    (bigSep (Finset.range n) fun i => slotAt c (a + i) q f) = (scrL c ↦[spanSet a n]{q} f : sProp 𝕄) := by
  rw [← span_biUnion]
  exact (pointsTo_biUnion (ℓ := scrL c) (Finset.range n) (fun i => slotSet (a + i)) (fun i _ j _ h => slots_disjoint _ _ (by omega))).symm

theorem span0_eq (c : Dev nD) (n : ℕ) (q : PosShare TreeShare) (f : Buf (Elt F) (scrL c)) :
    (bigSep (Finset.range n) fun i => slotAt c i q f) = (scrL c ↦[spanSet 0 n]{q} f : sProp 𝕄) :=
  (BI.bigSep_congr fun i _ => by rw [Nat.zero_add]).trans (span_eq c 0 n q f)

theorem span_add (c : Dev nD) (a n k : ℕ) (q : PosShare TreeShare) (f : Buf (Elt F) (scrL c)) :
    (scrL c ↦[spanSet a (n + k)]{q} f : sProp 𝕄) ⊣⊢ iprop((scrL c ↦[spanSet a n]{q} f) ∗ scrL c ↦[spanSet (a + n) k]{q} f) := by
  have e : spanSet a (n + k) = spanSet a n ∪ spanSet (a + n) k := by
    ext x
    unfold spanSet
    simp only [Finset.mem_union, Finset.mem_filter, Finset.mem_univ, true_and]
    omega
  rw [e]
  refine pointsTo_union (Finset.disjoint_left.mpr fun x hx hy => ?_)
  have h1 := (Finset.mem_filter.mp hx).2
  have h2 := (Finset.mem_filter.mp hy).2
  omega

theorem span_univ : spanSet 0 28 = Finset.univ := by
  ext x
  unfold spanSet
  simp only [Finset.mem_filter, Finset.mem_univ, true_and, iff_true]
  exact ⟨Nat.zero_le _, by have h : (x 0).val < 28 := (x 0).isLt; omega⟩

/-- The whole scratch is its slots, in four rows of seven. -/
theorem whole_slots (c : Dev nD) (f : Buf (Elt F) (scrL c)) :
    (scrL c ↦{fullShare} f : sProp 𝕄) ⊣⊢ iprop((bigSep (Finset.range 7) fun i => slotAt c i fullShare f) ∗ (bigSep (Finset.range 7) fun i => slotAt c (7 * 1 + i) fullShare f)
      ∗ (bigSep (Finset.range 7) fun i => slotAt c (7 * 2 + i) fullShare f) ∗ (bigSep (Finset.range 7) fun i => slotAt c (7 * 3 + i) fullShare f)) := by
  rw [span0_eq, span_eq, span_eq, span_eq]
  have e : (scrL c ↦{fullShare} f : sProp 𝕄) = scrL c ↦[spanSet 0 28]{fullShare} f := by rw [span_univ]
  rw [e]
  constructor
  · refine (span_add c 0 7 21 fullShare f).1.trans (sep_mono_right ?_)
    refine (span_add c 7 7 14 fullShare f).1.trans (sep_mono_right ?_)
    exact (span_add c 14 7 7 fullShare f).1
  · refine .trans (sep_mono_right ?_) (span_add c 0 7 21 fullShare f).2
    refine .trans (sep_mono_right ?_) (span_add c 7 7 14 fullShare f).2
    exact (span_add c 14 7 7 fullShare f).2

/-! ## Reading the rows of slots -/

theorem rect_sub (a n : ℕ) (sz : Fin 3 → ℕ) (hsz : sz 0 = n) (inb : ∀ x, (![a, 0, 0] : Fin 3 → ℕ) x + sz x ≤ S28x48x1024.size x) :
    (Memref.whole cc0_scratch0 : Memref sig .tc .vmem S28x48x1024 .bf16).view.setOn (Rect.unit (s := S28x48x1024) ![a, 0, 0] sz inb).toLoadRect.set ⊆ spanSet a n := by
  intro i hi
  obtain ⟨y, hy, rfl⟩ := Finset.mem_map.mp hi
  have hm := (Rect.mem_set_unit).mp (show y ∈ (Rect.unit (s := S28x48x1024) ![a, 0, 0] sz inb).set from hy)
  have h0 := hm 0
  refine Finset.mem_filter.mpr ⟨Finset.mem_univ _, ?_⟩
  have h1 : a ≤ (y 0).val := h0.1
  have h2 : (y 0).val < a + sz 0 := h0.2
  show a ≤ (y 0).val ∧ (y 0).val < a + n
  omega

abbrev row0 : LoadRect S28x48x1024 := (Rect.unit (s := S28x48x1024) ![0, 0, 0] S7x48x1024.size inb_S28x48x1024_S7x48x1024_0_0_0).toLoadRect
abbrev rows3 : LoadRect S28x48x1024 := (Rect.unit (s := S28x48x1024) ![7, 0, 0] S21x48x1024.size inb_S28x48x1024_S21x48x1024_7_0_0).toLoadRect
/-- What the first seven slots, and the rest, hold in the end. -/
def out0 (c : Dev nD) : Vec F S7x48x1024 .bf16 := (Memref.whole cc0_scratch0 : Memref sig .tc .vmem S28x48x1024 .bf16).view.readAt (Elt F) row0 (Yall m ρ c)
def out3 (c : Dev nD) : Vec F S21x48x1024 .bf16 := (Memref.whole cc0_scratch0 : Memref sig .tc .vmem S28x48x1024 .bf16).view.readAt (Elt F) rows3 (Yall m ρ c)

theorem load0 {c : Dev nD} {q : PosShare TreeShare} {hl : (Memref.whole cc0_scratch0 : Memref sig .tc .vmem S28x48x1024 .bf16).view.LoadsAt row0}
    {α : Type} {Q : α → sProp 𝕄} {J : Vec F S7x48x1024 .bf16 → Prog (TpuEff nD τ sig (Elt F) Λ₀ .tc) α} :
    (bigSep (Finset.range 7) fun i => slotY m ρ c i q) ⊢ iprop(((bigSep (Finset.range 7) fun i => slotY m ρ c i q) -∗ WP c (J (out0 m ρ c)) Q)
      -∗ WP c (Prog.lift (.load (Memref.whole cc0_scratch0 : Memref sig .tc .vmem S28x48x1024 .bf16) row0 hl) >>= J) Q) := by
  simp only [Prog.lift, Prog.bind_op, Prog.bind_ret]
  unfold slotY
  rw [span0_eq]
  exact wp_load 𝒱₀ (c : Thread nD τ) none Set.univ (m := (Memref.whole cc0_scratch0 : Memref sig .tc .vmem S28x48x1024 .bf16)) (rect_sub 0 7 _ rfl _)

theorem load3 {c : Dev nD} {q : PosShare TreeShare} {hl : (Memref.whole cc0_scratch0 : Memref sig .tc .vmem S28x48x1024 .bf16).view.LoadsAt rows3}
    {α : Type} {Q : α → sProp 𝕄} {J : Vec F S21x48x1024 .bf16 → Prog (TpuEff nD τ sig (Elt F) Λ₀ .tc) α} :
    iprop((bigSep (Finset.range 7) fun i => slotY m ρ c (7 * 1 + i) q) ∗ (bigSep (Finset.range 7) fun i => slotY m ρ c (7 * 2 + i) q) ∗ (bigSep (Finset.range 7) fun i => slotY m ρ c (7 * 3 + i) q))
      ⊢ iprop((((bigSep (Finset.range 7) fun i => slotY m ρ c (7 * 1 + i) q) ∗ (bigSep (Finset.range 7) fun i => slotY m ρ c (7 * 2 + i) q) ∗ (bigSep (Finset.range 7) fun i => slotY m ρ c (7 * 3 + i) q)) -∗ WP c (J (out3 m ρ c)) Q)
      -∗ WP c (Prog.lift (.load (Memref.whole cc0_scratch0 : Memref sig .tc .vmem S28x48x1024 .bf16) rows3 hl) >>= J) Q) := by
  simp only [Prog.lift, Prog.bind_op, Prog.bind_ret]
  unfold slotY
  rw [span_eq, span_eq, span_eq]
  have e : (scrL c ↦[spanSet 7 21]{q} Yall m ρ c : sProp 𝕄) ⊣⊢ iprop((scrL c ↦[spanSet (7 * 1) 7]{q} Yall m ρ c) ∗ (scrL c ↦[spanSet (7 * 2) 7]{q} Yall m ρ c) ∗ scrL c ↦[spanSet (7 * 3) 7]{q} Yall m ρ c) :=
    ⟨(span_add c 7 7 14 q _).1.trans (sep_mono_right (span_add c 14 7 7 q _).1), (sep_mono_right (span_add c 14 7 7 q _).2).trans (span_add c 7 7 14 q _).2⟩
  have h : (scrL c ↦[spanSet 7 21]{q} Yall m ρ c) ⊢ iprop(((scrL c ↦[spanSet 7 21]{q} Yall m ρ c) -∗ WP c (J (out3 m ρ c)) Q)
      -∗ WP c (.op (.load (Memref.whole cc0_scratch0 : Memref sig .tc .vmem S28x48x1024 .bf16) rows3 hl) J) Q) :=
    wp_load 𝒱₀ (c : Thread nD τ) none Set.univ (m := (Memref.whole cc0_scratch0 : Memref sig .tc .vmem S28x48x1024 .bf16)) (rect_sub 7 21 _ rfl _)
  exact e.2.trans (h.trans (wand_mono_left (wand_mono_left e.1)))

/-- A load of slot `j`, whatever it holds. -/
theorem loadS {c : Dev nD} {j : ℕ} {hj : j < 28} {q : PosShare TreeShare} {f : Buf (Elt F) (scrL c)}
    {hl : (Memref.whole cc0_scratch0 : Memref sig .tc .vmem S28x48x1024 .bf16).view.LoadsAt (slotR j hj).toLoadRect}
    {α : Type} {Q : α → sProp 𝕄} {J : Vec F S1x48x1024 .bf16 → Prog (TpuEff nD τ sig (Elt F) Λ₀ .tc) α} :
    slotAt c j q f ⊢ iprop((slotAt c j q f -∗ WP c (J ((Memref.whole cc0_scratch0 : Memref sig .tc .vmem S28x48x1024 .bf16).view.readAt (Elt F) (slotR j hj).toLoadRect f)) Q)
      -∗ WP c (Prog.lift (.load (Memref.whole cc0_scratch0 : Memref sig .tc .vmem S28x48x1024 .bf16) (slotR j hj).toLoadRect hl) >>= J) Q) := by
  simp only [Prog.lift, Prog.bind_op, Prog.bind_ret]
  unfold slotAt
  refine wp_load 𝒱₀ (c : Thread nD τ) none Set.univ (m := (Memref.whole cc0_scratch0 : Memref sig .tc .vmem S28x48x1024 .bf16)) ?_
  intro i hi
  have h := Finset.mem_filter.mp (rect_sub j 1 _ rfl _ hi)
  exact Finset.mem_filter.mpr ⟨h.1, by omega⟩

theorem h3 : 3 < 28 := by decide

/-- The store of the device's own result in slot 3. -/
theorem storeS {c : Dev nD} {f : Buf (Elt F) (scrL c)}
    {hx : ((Memref.whole cc0_scratch0 : Memref sig .tc .vmem S28x48x1024 .bf16).access (slotR 3 h3)).Stores Finset.univ}
    {hm : Finset.univ = Finset.univ ∨ ∀ a, (slotR 3 h3).stride a = 1}
    {α : Type} {Q : α → sProp 𝕄} {J : PUnit → Prog (TpuEff nD τ sig (Elt F) Λ₀ .tc) α} {w : Vec F S1x48x1024 .bf16} (hw : w = y3 m ρ c) :
    slotAt c 3 fullShare f ⊢ iprop((slotY m ρ c 3 fullShare -∗ WP c (J ⟨⟩) Q)
      -∗ WP c (Prog.lift (.store (Memref.whole cc0_scratch0 : Memref sig .tc .vmem S28x48x1024 .bf16) (slotR 3 h3) w Finset.univ hx hm) >>= J) Q) := by
  simp only [Prog.lift, Prog.bind_op, Prog.bind_ret]
  have hset : ((Memref.whole cc0_scratch0 : Memref sig .tc .vmem S28x48x1024 .bf16).access (slotR 3 h3)).set = slotSet 3 := by
    rw [← slot_set 3 h3]
    exact (View.set_reshape _ _).symm
  have e : (slotAt c 3 fullShare (((Memref.whole cc0_scratch0 : Memref sig .tc .vmem S28x48x1024 .bf16).access (slotR 3 h3)).write (Elt F) f w Finset.univ) : sProp 𝕄) = slotY m ρ c 3 fullShare := by
    unfold slotY slotAt
    refine pointsTo_congr fun i hi => ?_
    rw [← hset] at hi
    obtain ⟨x, -, rfl⟩ := Finset.mem_map.mp hi
    rw [View.write_emb_of_mem _ _ (Finset.mem_univ x)]
    show w x = Yall m ρ c ((slotR 3 h3).emb x)
    rw [Yall_emb m ρ c 3 (by decide) (zv_three c), own_three, hw]
  rw [← e]
  unfold slotAt
  exact wp_store 𝒱₀ (c : Thread nD τ) none Set.univ (m := (Memref.whole cc0_scratch0 : Memref sig .tc .vmem S28x48x1024 .bf16)) (r := slotR 3 h3) hset.le

end Cert.KernelIdeal.Moe
end
-- ==== Proof.KI.Text.lean ====
/-
The shapes the body's text is made of, as programs with a continuation, and their rules.
-/
module

public import proofs.«01_k».proof.Proof.KI.Facts
public import proofs.«01_k».proof.Proof.KI.Loads

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem slotX : ∀ (j : ℕ) (h : j < 28), (slotM j h).view.WordExact
  | 0, _ => ((Memref.isWhole_whole cc0_scratch0).wordExact_slice rfl _ wordsbf16_S28x48x1024_S1x48x1024_0_0_0).reshape _ _
  | 1, _ => ((Memref.isWhole_whole cc0_scratch0).wordExact_slice rfl _ wordsbf16_S28x48x1024_S1x48x1024_1_0_0).reshape _ _
  | 2, _ => ((Memref.isWhole_whole cc0_scratch0).wordExact_slice rfl _ wordsbf16_S28x48x1024_S1x48x1024_2_0_0).reshape _ _
  | 3, _ => ((Memref.isWhole_whole cc0_scratch0).wordExact_slice rfl _ wordsbf16_S28x48x1024_S1x48x1024_3_0_0).reshape _ _
  | 4, _ => ((Memref.isWhole_whole cc0_scratch0).wordExact_slice rfl _ wordsbf16_S28x48x1024_S1x48x1024_4_0_0).reshape _ _
  | 5, _ => ((Memref.isWhole_whole cc0_scratch0).wordExact_slice rfl _ wordsbf16_S28x48x1024_S1x48x1024_5_0_0).reshape _ _
  | 6, _ => ((Memref.isWhole_whole cc0_scratch0).wordExact_slice rfl _ wordsbf16_S28x48x1024_S1x48x1024_6_0_0).reshape _ _
  | 7, _ => ((Memref.isWhole_whole cc0_scratch0).wordExact_slice rfl _ wordsbf16_S28x48x1024_S1x48x1024_7_0_0).reshape _ _
  | 8, _ => ((Memref.isWhole_whole cc0_scratch0).wordExact_slice rfl _ wordsbf16_S28x48x1024_S1x48x1024_8_0_0).reshape _ _
  | 9, _ => ((Memref.isWhole_whole cc0_scratch0).wordExact_slice rfl _ wordsbf16_S28x48x1024_S1x48x1024_9_0_0).reshape _ _
  | 10, _ => ((Memref.isWhole_whole cc0_scratch0).wordExact_slice rfl _ wordsbf16_S28x48x1024_S1x48x1024_10_0_0).reshape _ _
  | 11, _ => ((Memref.isWhole_whole cc0_scratch0).wordExact_slice rfl _ wordsbf16_S28x48x1024_S1x48x1024_11_0_0).reshape _ _
  | 12, _ => ((Memref.isWhole_whole cc0_scratch0).wordExact_slice rfl _ wordsbf16_S28x48x1024_S1x48x1024_12_0_0).reshape _ _
  | 13, _ => ((Memref.isWhole_whole cc0_scratch0).wordExact_slice rfl _ wordsbf16_S28x48x1024_S1x48x1024_13_0_0).reshape _ _
  | 14, _ => ((Memref.isWhole_whole cc0_scratch0).wordExact_slice rfl _ wordsbf16_S28x48x1024_S1x48x1024_14_0_0).reshape _ _
  | 15, _ => ((Memref.isWhole_whole cc0_scratch0).wordExact_slice rfl _ wordsbf16_S28x48x1024_S1x48x1024_15_0_0).reshape _ _
  | 16, _ => ((Memref.isWhole_whole cc0_scratch0).wordExact_slice rfl _ wordsbf16_S28x48x1024_S1x48x1024_16_0_0).reshape _ _
  | 17, _ => ((Memref.isWhole_whole cc0_scratch0).wordExact_slice rfl _ wordsbf16_S28x48x1024_S1x48x1024_17_0_0).reshape _ _
  | 18, _ => ((Memref.isWhole_whole cc0_scratch0).wordExact_slice rfl _ wordsbf16_S28x48x1024_S1x48x1024_18_0_0).reshape _ _
  | 19, _ => ((Memref.isWhole_whole cc0_scratch0).wordExact_slice rfl _ wordsbf16_S28x48x1024_S1x48x1024_19_0_0).reshape _ _
  | 20, _ => ((Memref.isWhole_whole cc0_scratch0).wordExact_slice rfl _ wordsbf16_S28x48x1024_S1x48x1024_20_0_0).reshape _ _
  | 21, _ => ((Memref.isWhole_whole cc0_scratch0).wordExact_slice rfl _ wordsbf16_S28x48x1024_S1x48x1024_21_0_0).reshape _ _
  | 22, _ => ((Memref.isWhole_whole cc0_scratch0).wordExact_slice rfl _ wordsbf16_S28x48x1024_S1x48x1024_22_0_0).reshape _ _
  | 23, _ => ((Memref.isWhole_whole cc0_scratch0).wordExact_slice rfl _ wordsbf16_S28x48x1024_S1x48x1024_23_0_0).reshape _ _
  | 24, _ => ((Memref.isWhole_whole cc0_scratch0).wordExact_slice rfl _ wordsbf16_S28x48x1024_S1x48x1024_24_0_0).reshape _ _
  | 25, _ => ((Memref.isWhole_whole cc0_scratch0).wordExact_slice rfl _ wordsbf16_S28x48x1024_S1x48x1024_25_0_0).reshape _ _
  | 26, _ => ((Memref.isWhole_whole cc0_scratch0).wordExact_slice rfl _ wordsbf16_S28x48x1024_S1x48x1024_26_0_0).reshape _ _
  | 27, _ => ((Memref.isWhole_whole cc0_scratch0).wordExact_slice rfl _ wordsbf16_S28x48x1024_S1x48x1024_27_0_0).reshape _ _
  | n + 28, h => absurd h (by omega)

abbrev PG (α : Type) : Type 1 := Prog (TpuEff nD τ sig (Elt F) Λ₀ .tc) α

/-- Wait on a semaphore for one slot. -/
def gWt {α : Type} (S : DmaSem sig) (j : ℕ) (h : j < 28) (i : ℕ) (h' : i < 28) (J : PG (F := F) α) : PG (F := F) α :=
  Prog.lift (.waitDma2 S (slotM j h) (slotM i h') (slotX j h) (slotX i h')) >>= fun _ => J
/-- Send one slot. -/
def gEn {α : Type} (j : ℕ) (h : j < 28) (dv : Dev nD) (i : ℕ) (h' : i < 28) (S R : DmaSem sig) (J : PG (F := F) α) : PG (F := F) α :=
  Prog.lift (.enqueueDma (slotM j h) (.remote (Dev.tc dv : Thread nD τ) (slotM i h') (.dma S)) (.dma R) (slotX j h) (slotX i h') ⟨⟨rfl, Or.inl rfl⟩, trivial⟩) >>= fun _ => J
/-- Do the first, then the second, or the second alone. -/
def gIf {α : Type} (cond : Prop) [Decidable cond] (P : cond → PG (F := F) α → PG (F := F) α) (J : PG (F := F) α) : PG (F := F) α :=
  dite cond (fun h => P h J) (fun _ => J)

/-- The wait for what a transfer places on brings. -/
def gRP {α : Type} (cond : Prop) [Decidable cond] (k s : ℕ) (h : 7 * k + s < 28) (J : PG (F := F) α) : PG (F := F) α :=
  gIf cond (fun _ J => gWt (sm (rpA k) s) (7 * k + s) h (7 * k + s) h J) J
/-- The wait for a transfer between planes to leave. -/
def gZW {α : Type} (cond : Prop) [Decidable cond] (s : ℕ) (h : 6 - s < 28) (J : PG (F := F) α) : PG (F := F) α :=
  gIf cond (fun _ J => gWt (sm 0 s) (6 - s) h 3 (by decide) J) J
/-- The three waits for transfers within a plane to leave. -/
def gPW {α : Type} (cond : Prop) [Decidable cond] (s : ℕ) (hs : s < 7) (J : PG (F := F) α) : PG (F := F) α :=
  gIf cond (fun _ J => gWt (sm 2 s) (7 * 1 + s) (lt28' (by omega) hs) s (lt28 hs) (gWt (sm 4 s) (7 * 3 + s) (lt28' (by omega) hs) s (lt28 hs)
    (gWt (sm 6 s) (7 * 2 + s) (lt28' (by omega) hs) s (lt28 hs) J))) J
/-- A send between planes. -/
def gZ {α : Type} (cond : Prop) [Decidable cond] (dv : cond → Dev nD) (s : ℕ) (J : PG (F := F) α) : PG (F := F) α :=
  gIf cond (fun h J => gEn 3 (by decide) (dv h) (6 - s) (by omega) (sm 0 s) (sm 1 (6 - s)) J) J
/-- A send within a plane. -/
def gP {α : Type} (dv : Dev nD) (k s : ℕ) (hs : s < 28) (h : 7 * k + s < 28) (J : PG (F := F) α) : PG (F := F) α :=
  gEn s hs dv (7 * k + s) h (sm (spA k) s) (sm (rpA k) s) J
/-- The first half of passing a block on. -/
def gA (dv : Dev nD) (s : ℕ) (hs : s < 7) : PG (F := F) PUnit :=
  gWt (sm 1 s) s (lt28 hs) s (lt28 hs) (gP dv 1 s (lt28 hs) (lt28' (by omega) hs) (Pure.pure ⟨⟩))
/-- Passing a block on. -/
def gR {α : Type} (cond : Prop) [Decidable cond] (P1 : cond → PG (F := F) PUnit) (dvL dvD : cond → Dev nD) (s : ℕ) (hs : s < 7) (J : PG (F := F) α) : PG (F := F) α :=
  gIf cond (fun h J => P1 h >>= fun _ => gP (dvL h) 3 s (lt28 hs) (lt28' (by omega) hs) (gP (dvD h) 2 s (lt28 hs) (lt28' (by omega) hs) J)) J
/-- A signal to another plane. -/
def gS {α : Type} (cond : Prop) [Decidable cond] (dv : cond → Dev nD) (J : PG (F := F) α) : PG (F := F) α :=
  gIf cond (fun h J => semSignalWord (dv h) barS 1#32 >>= fun _ => J) J
/-- A signal. -/
def gB {α : Type} (dv : Dev nD) (J : PG (F := F) α) : PG (F := F) α := semSignalWord dv barS 1#32 >>= fun _ => J

theorem lt7_0 : 0 < 7 := by decide
theorem lt7_1 : 1 < 7 := by decide
theorem lt7_2 : 2 < 7 := by decide
theorem lt7_3 : 3 < 7 := by decide
theorem lt7_4 : 4 < 7 := by decide
theorem lt7_5 : 5 < 7 := by decide
theorem lt7_6 : 6 < 7 := by decide

theorem xRP {c : Dev nD} {α : Type} {Q : α → sProp 𝕄} {J : PG (F := F) α} (k s : ℕ) (hk : k = 1 ∨ k = 2 ∨ k = 3) (hs : s < 7) {cond : Prop} [Decidable cond] (hc : cond ↔ zv c s = true) {h : 7 * k + s < 28} :
    iprop(PER m ρ K ∗ RP m ρ c k s ∗ owesE c []) ⊢ iprop(((RP' m ρ c k s ∗ owesE c []) -∗ WP c J Q) -∗ WP c (gRP cond k s h J) Q) :=
  regRP m ρ K k s hk hs hc rfl rfl
theorem xZW {c : Dev nD} {α : Type} {Q : α → sProp 𝕄} {J : PG (F := F) α} (s : ℕ) (hs : s < 7) (hs3 : s ≠ 3) {cond : Prop} [Decidable cond] (hc : cond ↔ zv c s = true) {h : 6 - s < 28} :
    iprop(PER m ρ K ∗ ZW m ρ c s ∗ owesE c []) ⊢ iprop(((ZW' m ρ c s ∗ owesE c []) -∗ WP c J Q) -∗ WP c (gZW cond s h J) Q) :=
  regZW m ρ K s hs hs3 hc rfl rfl
theorem xPW {c : Dev nD} {α : Type} {Q : α → sProp 𝕄} {J : PG (F := F) α} (s : ℕ) (hs : s < 7) {cond : Prop} [Decidable cond] (hc : cond ↔ zv c s = true) :
    iprop(PER m ρ K ∗ PW m ρ c s ∗ owesE c []) ⊢ iprop(((PW' m ρ c s ∗ owesE c []) -∗ WP c J Q) -∗ WP c (gPW cond s hs J) Q) :=
  regPW m ρ K s hs hc rfl rfl rfl rfl rfl rfl
theorem xZ {c : Dev nD} {α : Type} {Q : α → sProp 𝕄} {J : PG (F := F) α} (s : ℕ) (hs : s < 7) (hs3 : s ≠ 3) {cond : Prop} [Decidable cond] (hc : cond ↔ zv c s = true) {dv : cond → Dev nD} (hdv : ∀ h, dv h = zp c s)
    {l : List (Bool × GSem nD τ sig × ℕ)} :
    iprop(PER m ρ K ∗ ZT c s ∗ slotY m ρ c 3 (tk (4 + s)) ∗ owesE c (dueZ c s :: l))
      ⊢ iprop(((ZC m ρ c s ∗ owesE c l) -∗ WP c J Q) -∗ WP c (gZ cond dv s J) Q) :=
  by
  unfold gZ gIf gEn
  exact regZ m ρ K (hsc := rfl) (hsrc' := slotX _ _) (hdst' := slotX _ _) (hsem := fun _ => ⟨⟨rfl, Or.inl rfl⟩, trivial⟩) (J := J) (Q := Q) (l := l) s hs hs3 hc hdv rfl rfl rfl rfl
theorem xP {c : Dev nD} {α : Type} {Q : α → sProp 𝕄} {J : PG (F := F) α} (k s : ℕ) (hk : k = 1 ∨ k = 2 ∨ k = 3) (hs : s < 7) (hv : zv c s = true) {dv : Dev nD} (hdv : dv = pl c k) {h1 : s < 28} {h2 : 7 * k + s < 28}
    {l : List (Bool × GSem nD τ sig × ℕ)} :
    iprop(PER m ρ K ∗ PT c k s ∗ slotY m ρ c s (tk k) ∗ owesE c (dueP c k s :: l))
      ⊢ iprop(((PC m ρ c k s ∗ owesE c l) -∗ WP c J Q) -∗ WP c (gP dv k s h1 h2 J) Q) :=
  sendP m ρ K k s hk hs hv hdv rfl rfl rfl rfl
theorem xS {c : Dev nD} {α : Type} {Q : α → sProp 𝕄} {J : PG (F := F) α} (j : Fin 4) {cond : Prop} [Decidable cond] (hc : cond ↔ ¬ c.val / 4 = j.val) {dv : cond → Dev nD} (hdv : ∀ h, dv h = pd c j)
    {l : List (Bool × GSem nD τ sig × ℕ)} :
    iprop(PER m ρ K ∗ ST c j ∗ owesE c (dueS c j :: l)) ⊢ iprop((owesE c l -∗ WP c J Q) -∗ WP c (gS cond dv J) Q) :=
  regS m ρ K j hc hdv
theorem xB {c : Dev nD} {α : Type} {Q : α → sProp 𝕄} {J : PG (F := F) α} (k : ℕ) (hk : k = 1 ∨ k = 2 ∨ k = 3) {dv : Dev nD} (hdv : dv = pl c k) {l : List (Bool × GSem nD τ sig × ℕ)} :
    iprop(PER m ρ K ∗ BT c k ∗ owesE c (dueB c k :: l)) ⊢ iprop((owesE c l -∗ WP c J Q) -∗ WP c (gB dv J) Q) :=
  regB m ρ K hk hdv

theorem xA {c : Dev nD} (s : ℕ) (hs : s < 7) (hs3 : s ≠ 3) (hv : zv c s = true) {dv : Dev nD} (hdv : dv = pl c 1) {Q : PUnit → sProp 𝕄}
    {l : List (Bool × GSem nD τ sig × ℕ)} (hl : Above 2 (dueP c 1 s :: l)) :
    iprop(PER m ρ K ∗ RA c s ∗ owesE c (dueP c 1 s :: l))
      ⊢ iprop((∀ a, (RA' m ρ c s ∗ owesE c l) -∗ Q a) -∗ WP c (gA (F := F) dv s hs) Q) := by
  iintro H Hk
  iapply (partR m ρ K s hs hs3 hv hdv rfl rfl rfl rfl rfl rfl hl) $$ H
  iintro H
  iapply retE
  iapply Hk
  iexact H

theorem xR {c : Dev nD} {α : Type} {Q : α → sProp 𝕄} {J : PG (F := F) α} (s : ℕ) (hs : s < 7) (hs3 : s ≠ 3) {cond : Prop} [Decidable cond] (hc : cond ↔ zv c s = true)
    {P1 : cond → PG (F := F) PUnit} {dv1 dvL dvD : cond → Dev nD} (hdv1 : ∀ h, dv1 h = pl c 1) (hdvL : ∀ h, dvL h = pl c 3) (hdvD : ∀ h, dvD h = pl c 2)
    (hP : ∀ h, P1 h = gA (dv1 h) s hs) {l : List (Bool × GSem nD τ sig × ℕ)} (hl : Above 2 (dueP c 1 s :: dueP c 3 s :: dueP c 2 s :: l)) :
    iprop(PER m ρ K ∗ RZ m ρ c s ∗ owesE c (dueP c 1 s :: dueP c 3 s :: dueP c 2 s :: l))
      ⊢ iprop((((slotY m ρ c s (tk 0) ∗ RZr m ρ c s) ∗ owesE c l) -∗ WP c J Q) -∗ WP c (gR cond P1 dvL dvD s hs J) Q) := by
  unfold gR gIf gP gEn
  refine regR m ρ K (hscL := rfl) (hscD := rfl) (hL := slotX _ _) (hL' := slotX _ _) (hD := slotX _ _) (hD' := slotX _ _) (hsemL := fun _ => ⟨⟨rfl, Or.inl rfl⟩, trivial⟩) (hsemD := fun _ => ⟨⟨rfl, Or.inl rfl⟩, trivial⟩) (P1 := P1) (l := l) (J := J) (Q := Q) s hs hs3 hc hdvL hdvD rfl rfl rfl rfl rfl rfl rfl rfl ?_
  intro h hv Q'
  rw [hP h]
  exact xA m ρ K s hs hs3 hv (hdv1 h) hl

end Cert.KernelIdeal.Moe
end
-- ==== Proof.KI.S0.lean ====
/-
The direct copies.
-/
module

public import proofs.«01_k».proof.Proof.KI.Text

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text1 (d0 : Dev nD) (v24 v28 : BitVec 32) (h : k0_cond11 d0 = 1#1) :
    k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v24 v28 h = gA (⟨k0_dev17 d0, k0_dev17_lt d0 h⟩ : Dev nD) 0 lt7_0 := by
  rw [k0_part1_eq_skeleton]
  rfl

theorem text2 (d0 : Dev nD) (v24 v28 : BitVec 32) (h : k0_cond12 d0 = 1#1) :
    k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v24 v28 h = gA (⟨k0_dev20 d0, k0_dev20_lt d0 h⟩ : Dev nD) 1 lt7_1 := by
  rw [k0_part2_eq_skeleton]
  rfl

theorem text3 (d0 : Dev nD) (v24 v28 : BitVec 32) (h : k0_cond13 d0 = 1#1) :
    k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v24 v28 h = gA (⟨k0_dev23 d0, k0_dev23_lt d0 h⟩ : Dev nD) 2 lt7_2 := by
  rw [k0_part3_eq_skeleton]
  rfl

theorem text4 (d0 : Dev nD) (v24 v28 : BitVec 32) (h : k0_cond14 d0 = 1#1) :
    k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v24 v28 h = gA (⟨k0_dev26 d0, k0_dev26_lt d0 h⟩ : Dev nD) 4 lt7_4 := by
  rw [k0_part4_eq_skeleton]
  rfl

theorem text5 (d0 : Dev nD) (v24 v28 : BitVec 32) (h : k0_cond15 d0 = 1#1) :
    k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v24 v28 h = gA (⟨k0_dev29 d0, k0_dev29_lt d0 h⟩ : Dev nD) 5 lt7_5 := by
  rw [k0_part5_eq_skeleton]
  rfl

theorem text6 (d0 : Dev nD) (v24 v28 : BitVec 32) (h : k0_cond16 d0 = 1#1) :
    k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v24 v28 h = gA (⟨k0_dev32 d0, k0_dev32_lt d0 h⟩ : Dev nD) 6 lt7_6 := by
  rw [k0_part6_eq_skeleton]
  rfl

end Cert.KernelIdeal.Moe
end
-- ==== Proof.KI.Steps.lean ====
/-
The loads and stores of the body, as combinators.
-/
module

public import proofs.«01_k».proof.Proof.KI.Text

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

def gL0 {α : Type} (J : Vec F S7x48x1024 .bf16 → PG (F := F) α) : PG (F := F) α :=
  Prog.lift (.load (Memref.whole cc0_scratch0 : Memref sig .tc .vmem S28x48x1024 .bf16) row0 (View.loadsAt_vmem h_S7x48x1024)) >>= J
def gL3 {α : Type} (J : Vec F S21x48x1024 .bf16 → PG (F := F) α) : PG (F := F) α :=
  Prog.lift (.load (Memref.whole cc0_scratch0 : Memref sig .tc .vmem S28x48x1024 .bf16) rows3 (View.loadsAt_vmem h_S21x48x1024)) >>= J
def gLs {α : Type} (J : Vec F S1x48x1024 .bf16 → PG (F := F) α) : PG (F := F) α :=
  Prog.lift (.load (Memref.whole cc0_scratch0 : Memref sig .tc .vmem S28x48x1024 .bf16) (slotR 3 h3).toLoadRect (View.loadsAt_vmem h_S1x48x1024)) >>= J
def gLa {α : Type} (J : PG (F := F) α) : PG (F := F) α :=
  Prog.lift (.load (Memref.whole cc0_scratch0 : Memref sig .tc .vmem S28x48x1024 .bf16) (Rect.unit (s := S28x48x1024) ![0, 0, 0] S28x48x1024.size inb_S28x48x1024_S28x48x1024_0_0_0).toLoadRect (View.loadsAt_vmem h_S28x48x1024)) >>= fun _ => J
def gLx {α : Type} (J : Vec F S1024x512 .f32 → PG (F := F) α) : PG (F := F) α :=
  Prog.lift (.load (Memref.whole cc0_stg0_0 : Memref sig .tc .vmem S1024x512 .f32) (Rect.unit (s := S1024x512) ![0, 0] S1024x512.size inb_S1024x512_S1024x512_0_0).toLoadRect (View.loadsAt_vmem h_S1024x512)) >>= J
def gLi {α : Type} (J : Vec F S1024x1 .i32 → PG (F := F) α) : PG (F := F) α :=
  Prog.lift (.load (Memref.whole cc0_stg2_0 : Memref sig .tc .vmem S1024x1 .i32) (Rect.unit (s := S1024x1) ![0, 0] S1024x1.size inb_S1024x1_S1024x1_0_0).toLoadRect (View.loadsAt_vmem h_S1024x1)) >>= J
def gLo {α : Type} (J : PG (F := F) α) : PG (F := F) α :=
  Prog.lift (.load (Memref.whole cc0_stg3_0 : Memref sig .tc .vmem S1024x1024 .f32) (Rect.unit (s := S1024x1024) ![0, 0] S1024x1024.size inb_S1024x1024_S1024x1024_0_0).toLoadRect (View.loadsAt_vmem h_S1024x1024)) >>= fun _ => J
def gSz {α : Type} (w : Vec F S28x48x1024 .bf16) (J : PG (F := F) α) : PG (F := F) α :=
  Prog.lift (.store (Memref.whole cc0_scratch0 : Memref sig .tc .vmem S28x48x1024 .bf16) (Rect.unit (s := S28x48x1024) ![0, 0, 0] S28x48x1024.size inb_S28x48x1024_S28x48x1024_0_0_0) w Finset.univ (View.stores_vmem h_S28x48x1024 ((Memref.isWhole_whole cc0_scratch0).storeExact_slice rfl _ packedbf16_S28x48x1024_S28x48x1024_0_0_0) (fun _ => rfl)) (.inl rfl)) >>= fun _ => J
def gSs {α : Type} (w : Vec F S1x48x1024 .bf16) (J : PG (F := F) α) : PG (F := F) α :=
  Prog.lift (.store (Memref.whole cc0_scratch0 : Memref sig .tc .vmem S28x48x1024 .bf16) (slotR 3 h3) w Finset.univ (View.stores_vmem h_S1x48x1024 ((Memref.isWhole_whole cc0_scratch0).storeExact_slice rfl _ packedbf16_S28x48x1024_S1x48x1024_3_0_0) (fun _ => rfl)) (.inl rfl)) >>= fun _ => J
def gSo {α : Type} (w : Vec F S1024x1024 .f32) (J : PG (F := F) α) : PG (F := F) α :=
  Prog.lift (.store (Memref.whole cc0_stg3_0 : Memref sig .tc .vmem S1024x1024 .f32) (Rect.unit (s := S1024x1024) ![0, 0] S1024x1024.size inb_S1024x1024_S1024x1024_0_0) w Finset.univ (View.stores_vmem_bits_univ h_S1024x1024 rfl) (.inl rfl)) >>= fun _ => J
def gBw {α : Type} (J : PG (F := F) α) : PG (F := F) α := semWaitWord barS 6#32 >>= fun _ => J

theorem xL0 {c : Dev nD} {α : Type} {Q : α → sProp 𝕄} {q : PosShare TreeShare} {J : Vec F S7x48x1024 .bf16 → PG (F := F) α} :
    (bigSep (Finset.range 7) fun i => slotY m ρ c i q) ⊢ iprop(((bigSep (Finset.range 7) fun i => slotY m ρ c i q) -∗ WP c (J (out0 m ρ c)) Q) -∗ WP c (gL0 J) Q) :=
  load0 m ρ
theorem xL3 {c : Dev nD} {α : Type} {Q : α → sProp 𝕄} {q : PosShare TreeShare} {J : Vec F S21x48x1024 .bf16 → PG (F := F) α} :
    iprop((bigSep (Finset.range 7) fun i => slotY m ρ c (7 * 1 + i) q) ∗ (bigSep (Finset.range 7) fun i => slotY m ρ c (7 * 2 + i) q) ∗ (bigSep (Finset.range 7) fun i => slotY m ρ c (7 * 3 + i) q))
      ⊢ iprop((((bigSep (Finset.range 7) fun i => slotY m ρ c (7 * 1 + i) q) ∗ (bigSep (Finset.range 7) fun i => slotY m ρ c (7 * 2 + i) q) ∗ (bigSep (Finset.range 7) fun i => slotY m ρ c (7 * 3 + i) q)) -∗ WP c (J (out3 m ρ c)) Q) -∗ WP c (gL3 J) Q) :=
  load3 m ρ
/-- What a load of slot 3 gives is not used. -/
theorem xLs {c : Dev nD} {α : Type} {Q : α → sProp 𝕄} {q : PosShare TreeShare} {f : Buf (Elt F) (scrL c)} {J : Vec F S1x48x1024 .bf16 → PG (F := F) α} :
    slotAt c 3 q f ⊢ iprop((∀ v, slotAt c 3 q f -∗ WP c (J v) Q) -∗ WP c (gLs J) Q) := by
  unfold gLs
  iintro H Hk
  iapply (loadS (c := c) (j := 3)) $$ H
  iintro H
  iapply Hk $$ H
theorem xLa {c : Dev nD} {α : Type} {Q : α → sProp 𝕄} {f : Buf (Elt F) (scrL c)} {J : PG (F := F) α} :
    (scrL c ↦{fullShare} f) ⊢ iprop(((scrL c ↦{fullShare} f) -∗ WP c J Q) -∗ WP c (gLa J) Q) :=
  loadM (J := fun _ => J) (Memref.whole cc0_scratch0 : Memref sig .tc .vmem S28x48x1024 .bf16)
theorem xLx {c : Dev nD} {α : Type} {Q : α → sProp 𝕄} {J : Vec F S1024x512 .f32 → PG (F := F) α} :
    (((c : Thread nD τ).loc cc0_stg0_0) ↦{fullShare} xst m ρ c) ⊢ iprop(((((c : Thread nD τ).loc cc0_stg0_0) ↦{fullShare} xst m ρ c) -∗ WP c (J (xV m ρ c)) Q) -∗ WP c (gLx J) Q) :=
  loadM (Memref.whole cc0_stg0_0 : Memref sig .tc .vmem S1024x512 .f32)
theorem xLi {c : Dev nD} {α : Type} {Q : α → sProp 𝕄} {J : Vec F S1024x1 .i32 → PG (F := F) α} :
    (((c : Thread nD τ).loc cc0_stg2_0) ↦{fullShare} ist m ρ c) ⊢ iprop(((((c : Thread nD τ).loc cc0_stg2_0) ↦{fullShare} ist m ρ c) -∗ WP c (J (iV m ρ c)) Q) -∗ WP c (gLi J) Q) :=
  loadM (Memref.whole cc0_stg2_0 : Memref sig .tc .vmem S1024x1 .i32)
theorem xLo {c : Dev nD} {α : Type} {Q : α → sProp 𝕄} {f : Buf (Elt F) ((c : Thread nD τ).loc cc0_stg3_0)} {J : PG (F := F) α} :
    (((c : Thread nD τ).loc cc0_stg3_0) ↦{fullShare} f) ⊢ iprop(((((c : Thread nD τ).loc cc0_stg3_0) ↦{fullShare} f) -∗ WP c J Q) -∗ WP c (gLo J) Q) :=
  loadM (J := fun _ => J) (Memref.whole cc0_stg3_0 : Memref sig .tc .vmem S1024x1024 .f32)
theorem xSz {c : Dev nD} {α : Type} {Q : α → sProp 𝕄} {f : Buf (Elt F) (scrL c)} {w : Vec F S28x48x1024 .bf16} {J : PG (F := F) α} :
    (scrL c ↦{fullShare} f) ⊢ iprop(((scrL c ↦{fullShare} w) -∗ WP c J Q) -∗ WP c (gSz w J) Q) :=
  storeM (J := fun _ => J) (Memref.whole cc0_scratch0 : Memref sig .tc .vmem S28x48x1024 .bf16) (storeZ_val f w)
theorem xSs {c : Dev nD} {α : Type} {Q : α → sProp 𝕄} {f : Buf (Elt F) (scrL c)} {w : Vec F S1x48x1024 .bf16} (hw : w = y3 m ρ c) {J : PG (F := F) α} :
    slotAt c 3 fullShare f ⊢ iprop((slotY m ρ c 3 fullShare -∗ WP c J Q) -∗ WP c (gSs w J) Q) :=
  storeS (J := fun _ => J) m ρ hw
theorem xSo {c : Dev nD} {α : Type} {Q : α → sProp 𝕄} {f : Buf (Elt F) ((c : Thread nD τ).loc cc0_stg3_0)} {w : Vec F S1024x1024 .f32} {J : PG (F := F) α} :
    (((c : Thread nD τ).loc cc0_stg3_0) ↦{fullShare} f) ⊢ iprop(((((c : Thread nD τ).loc cc0_stg3_0) ↦{fullShare} w) -∗ WP c J Q) -∗ WP c (gSo w J) Q) :=
  storeM (J := fun _ => J) (Memref.whole cc0_stg3_0 : Memref sig .tc .vmem S1024x1024 .f32) (storeO_val f w)
theorem xBw {c : Dev nD} {α : Type} {Q : α → sProp 𝕄} {l : List (Bool × GSem nD τ sig × ℕ)} (hl : Above 1 l) {J : PG (F := F) α} :
    iprop(PER m ρ K ∗ atPos ER (barCell c) 0 ∅ 0 ∗ cred (tallyAt (barCell c) () 6) ∗ owesE c l)
      ⊢ iprop(((owesE c l ∗ semVal (barCell c) 0 ∗ bigSep (Finset.univ.erase (dz c)) (fun d => barPay c d)) -∗ WP c J Q) -∗ WP c (gBw J) Q) :=
  barwait (k := fun _ => J) m ρ K hl
def gLw0 {α : Type} (J : Vec F S1x512x1024 .f32 → PG (F := F) α) : PG (F := F) α :=
  Prog.lift (.load wM (Rect.unit (s := S4x512x1024) ![0, 0, 0] S1x512x1024.size inb_S4x512x1024_S1x512x1024_0_0_0).toLoadRect (View.loadsAt_vmem h_S1x512x1024)) >>= J
theorem xLw0 {c : Dev nD} {α : Type} {Q : α → sProp 𝕄} {J : Vec F S1x512x1024 .f32 → PG (F := F) α} :
    (((c : Thread nD τ).loc cc0_stg1_0) ↦{fullShare} wst m ρ c) ⊢ iprop(((((c : Thread nD τ).loc cc0_stg1_0) ↦{fullShare} wst m ρ c) -∗ WP c (J (wV0 m ρ c)) Q) -∗ WP c (gLw0 J) Q) :=
  loadM wM
def gLw1 {α : Type} (J : Vec F S1x512x1024 .f32 → PG (F := F) α) : PG (F := F) α :=
  Prog.lift (.load wM (Rect.unit (s := S4x512x1024) ![1, 0, 0] S1x512x1024.size inb_S4x512x1024_S1x512x1024_1_0_0).toLoadRect (View.loadsAt_vmem h_S1x512x1024)) >>= J
theorem xLw1 {c : Dev nD} {α : Type} {Q : α → sProp 𝕄} {J : Vec F S1x512x1024 .f32 → PG (F := F) α} :
    (((c : Thread nD τ).loc cc0_stg1_0) ↦{fullShare} wst m ρ c) ⊢ iprop(((((c : Thread nD τ).loc cc0_stg1_0) ↦{fullShare} wst m ρ c) -∗ WP c (J (wV1 m ρ c)) Q) -∗ WP c (gLw1 J) Q) :=
  loadM wM
def gLw2 {α : Type} (J : Vec F S1x512x1024 .f32 → PG (F := F) α) : PG (F := F) α :=
  Prog.lift (.load wM (Rect.unit (s := S4x512x1024) ![2, 0, 0] S1x512x1024.size inb_S4x512x1024_S1x512x1024_2_0_0).toLoadRect (View.loadsAt_vmem h_S1x512x1024)) >>= J
theorem xLw2 {c : Dev nD} {α : Type} {Q : α → sProp 𝕄} {J : Vec F S1x512x1024 .f32 → PG (F := F) α} :
    (((c : Thread nD τ).loc cc0_stg1_0) ↦{fullShare} wst m ρ c) ⊢ iprop(((((c : Thread nD τ).loc cc0_stg1_0) ↦{fullShare} wst m ρ c) -∗ WP c (J (wV2 m ρ c)) Q) -∗ WP c (gLw2 J) Q) :=
  loadM wM
def gLw3 {α : Type} (J : Vec F S1x512x1024 .f32 → PG (F := F) α) : PG (F := F) α :=
  Prog.lift (.load wM (Rect.unit (s := S4x512x1024) ![3, 0, 0] S1x512x1024.size inb_S4x512x1024_S1x512x1024_3_0_0).toLoadRect (View.loadsAt_vmem h_S1x512x1024)) >>= J
theorem xLw3 {c : Dev nD} {α : Type} {Q : α → sProp 𝕄} {J : Vec F S1x512x1024 .f32 → PG (F := F) α} :
    (((c : Thread nD τ).loc cc0_stg1_0) ↦{fullShare} wst m ρ c) ⊢ iprop(((((c : Thread nD τ).loc cc0_stg1_0) ↦{fullShare} wst m ρ c) -∗ WP c (J (wV3 m ρ c)) Q) -∗ WP c (gLw3 J) Q) :=
  loadM wM

end Cert.KernelIdeal.Moe
end
-- ==== Proof.KI.Split.lean ====
/-
Splitting the zeroed scratch, and what the handshake brings.
-/
module

public import proofs.«01_k».proof.Proof.KI.Steps
public import Idealize.SL.BI.BigOpNat

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem gd_intro (b : Bool) (A : sProp 𝕄) : A ⊢ gd b A := by
  cases b
  · rw [gd_false]; iintro -; iempintro
  · rw [gd_true]
theorem gd_skip {b : Bool} (h : b = false) (A : sProp 𝕄) : iprop(emp) ⊢ gd b A := by
  subst h; rw [gd_false]
theorem gd_take {b : Bool} (h : b = true) (A : sProp 𝕄) : gd b A ⊢ A := by
  subst h; rw [gd_true]
theorem sel_gd (b : Bool) (A B : sProp 𝕄) : iprop(gd b A ∗ gd (!b) B) ⊢ sel b A B := by
  cases b
  · rw [sel_false]; iintro ⟨-, H⟩; iapply (gd_take (F := F) (b := !false) rfl B); iexact H
  · rw [sel_true]; iintro ⟨H, -⟩; iapply (gd_take (F := F) (b := true) rfl A); iexact H

theorem any_of (c : Dev nD) (j : ℕ) (f : Buf (Elt F) (scrL c)) : slotAt c j fullShare f ⊢ slotAny (F := F) c j := by
  unfold slotAny
  iintro H
  iexists f
  iexact H
theorem zero_slot (c : Dev nD) (j : ℕ) (h : zv c (j % 7) = false) : slotAt c j fullShare zeroV ⊢ slotY m ρ c j fullShare := by
  refine Entails.of_eq ?_
  unfold slotY slotAt
  refine pointsTo_congr fun i hi => ?_
  have hj : (i 0).val = j := (Finset.mem_filter.mp hi).2
  unfold Yall
  rw [hj, h]
  rfl

/-- The slots nothing is to land in. -/
def INV (c : Dev nD) (k : ℕ) : sProp 𝕄 := bigSep (Finset.range 7) fun s => gd (!zv c s) (slotY m ρ c (7 * k + s) fullShare)

theorem row_plane (c : Dev nD) (k : ℕ) : (bigSep (Finset.range 7) fun i => slotAt c (7 * k + i) fullShare zeroV) ⊢ iprop(planeGift c k ∗ INV m ρ c k) := by
  unfold planeGift INV
  refine BIBase.Entails.trans ?_ (Entails.of_eq (bigSep_sep _ _ _))
  refine bigSep_mono fun s hs => ?_
  show _ ⊢ iprop(gd (zv c s) (slotAny c (7 * k + s)) ∗ gd (!zv c s) (slotY m ρ c (7 * k + s) fullShare))
  have hs' : s < 7 := Finset.mem_range.mp hs
  by_cases h : zv c s = true
  · rw [h, gd_true]
    iintro H
    isplitl [H]
    · iapply (any_of (F := F)); iexact H
    · iapply (gd_skip (F := F) (b := !true) rfl); iempintro
  · have h' : zv c s = false := by simpa using h
    rw [h', gd_false]
    iintro H
    isplitr
    · iempintro
    · iapply (gd_intro (F := F)); iapply (zero_slot m ρ c (7 * k + s) ((zv_mod c k s hs').trans h')); iexact H

/-- A slot for the signal to plane `j`. -/
abbrev SG (c : Dev nD) (j : Fin 4) : sProp 𝕄 := gd (!decide (c.val / 4 = j.val)) (slotAny c (j.val + 3 - c.val / 4))

theorem tab0 : ∀ c : Fin 16, c.val / 4 = 0 → (zv c 0 = false ∧ zv c 1 = false ∧ zv c 2 = false ∧ zv c 3 = true ∧ zv c 4 = true ∧ zv c 5 = true ∧ zv c 6 = true ∧ zp c 4 = pd c 1 ∧ zp c 5 = pd c 2 ∧ zp c 6 = pd c 3) := by decide
theorem tab1 : ∀ c : Fin 16, c.val / 4 = 1 → (zv c 0 = false ∧ zv c 1 = false ∧ zv c 2 = true ∧ zv c 3 = true ∧ zv c 4 = true ∧ zv c 5 = true ∧ zv c 6 = false ∧ zp c 2 = pd c 0 ∧ zp c 4 = pd c 2 ∧ zp c 5 = pd c 3) := by decide
theorem tab2 : ∀ c : Fin 16, c.val / 4 = 2 → (zv c 0 = false ∧ zv c 1 = true ∧ zv c 2 = true ∧ zv c 3 = true ∧ zv c 4 = true ∧ zv c 5 = false ∧ zv c 6 = false ∧ zp c 1 = pd c 0 ∧ zp c 2 = pd c 1 ∧ zp c 4 = pd c 3) := by decide
theorem tab3 : ∀ c : Fin 16, c.val / 4 = 3 → (zv c 0 = true ∧ zv c 1 = true ∧ zv c 2 = true ∧ zv c 3 = true ∧ zv c 4 = false ∧ zv c 5 = false ∧ zv c 6 = false ∧ zp c 0 = pd c 0 ∧ zp c 1 = pd c 1 ∧ zp c 2 = pd c 2) := by decide

theorem row_zero0 (c : Dev nD) (hp : c.val / 4 = 0) : iprop(slotAt c 0 fullShare zeroV ∗ slotAt c 1 fullShare zeroV ∗ slotAt c 2 fullShare zeroV ∗ slotAt c 3 fullShare zeroV ∗ slotAt c 4 fullShare zeroV ∗ slotAt c 5 fullShare zeroV ∗ slotAt c 6 fullShare zeroV) ⊢ iprop((slotAt c 3 fullShare zeroV ∗ SG c 0 ∗ SG c 1 ∗ SG c 2 ∗ SG c 3) ∗ (gd (!zv c 0) (slotY m ρ c (7 * 0 + 0) fullShare) ∗ gd (!zv c 1) (slotY m ρ c (7 * 0 + 1) fullShare) ∗ gd (!zv c 2) (slotY m ρ c (7 * 0 + 2) fullShare) ∗ gd (!zv c 3) (slotY m ρ c (7 * 0 + 3) fullShare) ∗ gd (!zv c 4) (slotY m ρ c (7 * 0 + 4) fullShare) ∗ gd (!zv c 5) (slotY m ρ c (7 * 0 + 5) fullShare) ∗ gd (!zv c 6) (slotY m ρ c (7 * 0 + 6) fullShare))) := by
  obtain ⟨e0, e1, e2, e3, e4, e5, e6, f4, f5, f6⟩ := tab0 c hp
  unfold SG
  rw [hp, e0, e1, e2, e3, e4, e5, e6]
  iintro ⟨S0, S1, S2, S3, S4, S5, S6⟩
  isplitl [S3 S4 S5 S6]
  · isplitl [S3]; · iexact S3
    isplitr; · iapply (gd_skip (F := F) (b := !decide ((0 : ℕ) = (0 : Fin 4).val)) (by decide)); iempintro
    isplitl [S4]; · iapply (gd_intro (F := F)); iapply (any_of (F := F) c 4); iexact S4
    isplitl [S5]; · iapply (gd_intro (F := F)); iapply (any_of (F := F) c 5); iexact S5
    iapply (gd_intro (F := F)); iapply (any_of (F := F) c 6); iexact S6
  · isplitl [S0]; · iapply (gd_intro (F := F)); iapply (zero_slot m ρ c 0 e0); iexact S0
    isplitl [S1]; · iapply (gd_intro (F := F)); iapply (zero_slot m ρ c 1 e1); iexact S1
    isplitl [S2]; · iapply (gd_intro (F := F)); iapply (zero_slot m ρ c 2 e2); iexact S2
    isplitr; · iapply (gd_skip (F := F) (b := !true) rfl); iempintro
    isplitr; · iapply (gd_skip (F := F) (b := !true) rfl); iempintro
    isplitr; · iapply (gd_skip (F := F) (b := !true) rfl); iempintro
    iapply (gd_skip (F := F) (b := !true) rfl); iempintro

theorem row_zero1 (c : Dev nD) (hp : c.val / 4 = 1) : iprop(slotAt c 0 fullShare zeroV ∗ slotAt c 1 fullShare zeroV ∗ slotAt c 2 fullShare zeroV ∗ slotAt c 3 fullShare zeroV ∗ slotAt c 4 fullShare zeroV ∗ slotAt c 5 fullShare zeroV ∗ slotAt c 6 fullShare zeroV) ⊢ iprop((slotAt c 3 fullShare zeroV ∗ SG c 0 ∗ SG c 1 ∗ SG c 2 ∗ SG c 3) ∗ (gd (!zv c 0) (slotY m ρ c (7 * 0 + 0) fullShare) ∗ gd (!zv c 1) (slotY m ρ c (7 * 0 + 1) fullShare) ∗ gd (!zv c 2) (slotY m ρ c (7 * 0 + 2) fullShare) ∗ gd (!zv c 3) (slotY m ρ c (7 * 0 + 3) fullShare) ∗ gd (!zv c 4) (slotY m ρ c (7 * 0 + 4) fullShare) ∗ gd (!zv c 5) (slotY m ρ c (7 * 0 + 5) fullShare) ∗ gd (!zv c 6) (slotY m ρ c (7 * 0 + 6) fullShare))) := by
  obtain ⟨e0, e1, e2, e3, e4, e5, e6, f2, f4, f5⟩ := tab1 c hp
  unfold SG
  rw [hp, e0, e1, e2, e3, e4, e5, e6]
  iintro ⟨S0, S1, S2, S3, S4, S5, S6⟩
  isplitl [S3 S2 S4 S5]
  · isplitl [S3]; · iexact S3
    isplitl [S2]; · iapply (gd_intro (F := F)); iapply (any_of (F := F) c 2); iexact S2
    isplitr; · iapply (gd_skip (F := F) (b := !decide ((1 : ℕ) = (1 : Fin 4).val)) (by decide)); iempintro
    isplitl [S4]; · iapply (gd_intro (F := F)); iapply (any_of (F := F) c 4); iexact S4
    iapply (gd_intro (F := F)); iapply (any_of (F := F) c 5); iexact S5
  · isplitl [S0]; · iapply (gd_intro (F := F)); iapply (zero_slot m ρ c 0 e0); iexact S0
    isplitl [S1]; · iapply (gd_intro (F := F)); iapply (zero_slot m ρ c 1 e1); iexact S1
    isplitr; · iapply (gd_skip (F := F) (b := !true) rfl); iempintro
    isplitr; · iapply (gd_skip (F := F) (b := !true) rfl); iempintro
    isplitr; · iapply (gd_skip (F := F) (b := !true) rfl); iempintro
    isplitr; · iapply (gd_skip (F := F) (b := !true) rfl); iempintro
    iapply (gd_intro (F := F)); iapply (zero_slot m ρ c 6 e6); iexact S6

theorem row_zero2 (c : Dev nD) (hp : c.val / 4 = 2) : iprop(slotAt c 0 fullShare zeroV ∗ slotAt c 1 fullShare zeroV ∗ slotAt c 2 fullShare zeroV ∗ slotAt c 3 fullShare zeroV ∗ slotAt c 4 fullShare zeroV ∗ slotAt c 5 fullShare zeroV ∗ slotAt c 6 fullShare zeroV) ⊢ iprop((slotAt c 3 fullShare zeroV ∗ SG c 0 ∗ SG c 1 ∗ SG c 2 ∗ SG c 3) ∗ (gd (!zv c 0) (slotY m ρ c (7 * 0 + 0) fullShare) ∗ gd (!zv c 1) (slotY m ρ c (7 * 0 + 1) fullShare) ∗ gd (!zv c 2) (slotY m ρ c (7 * 0 + 2) fullShare) ∗ gd (!zv c 3) (slotY m ρ c (7 * 0 + 3) fullShare) ∗ gd (!zv c 4) (slotY m ρ c (7 * 0 + 4) fullShare) ∗ gd (!zv c 5) (slotY m ρ c (7 * 0 + 5) fullShare) ∗ gd (!zv c 6) (slotY m ρ c (7 * 0 + 6) fullShare))) := by
  obtain ⟨e0, e1, e2, e3, e4, e5, e6, f1, f2, f4⟩ := tab2 c hp
  unfold SG
  rw [hp, e0, e1, e2, e3, e4, e5, e6]
  iintro ⟨S0, S1, S2, S3, S4, S5, S6⟩
  isplitl [S3 S1 S2 S4]
  · isplitl [S3]; · iexact S3
    isplitl [S1]; · iapply (gd_intro (F := F)); iapply (any_of (F := F) c 1); iexact S1
    isplitl [S2]; · iapply (gd_intro (F := F)); iapply (any_of (F := F) c 2); iexact S2
    isplitr; · iapply (gd_skip (F := F) (b := !decide ((2 : ℕ) = (2 : Fin 4).val)) (by decide)); iempintro
    iapply (gd_intro (F := F)); iapply (any_of (F := F) c 4); iexact S4
  · isplitl [S0]; · iapply (gd_intro (F := F)); iapply (zero_slot m ρ c 0 e0); iexact S0
    isplitr; · iapply (gd_skip (F := F) (b := !true) rfl); iempintro
    isplitr; · iapply (gd_skip (F := F) (b := !true) rfl); iempintro
    isplitr; · iapply (gd_skip (F := F) (b := !true) rfl); iempintro
    isplitr; · iapply (gd_skip (F := F) (b := !true) rfl); iempintro
    isplitl [S5]; · iapply (gd_intro (F := F)); iapply (zero_slot m ρ c 5 e5); iexact S5
    iapply (gd_intro (F := F)); iapply (zero_slot m ρ c 6 e6); iexact S6

theorem row_zero3 (c : Dev nD) (hp : c.val / 4 = 3) : iprop(slotAt c 0 fullShare zeroV ∗ slotAt c 1 fullShare zeroV ∗ slotAt c 2 fullShare zeroV ∗ slotAt c 3 fullShare zeroV ∗ slotAt c 4 fullShare zeroV ∗ slotAt c 5 fullShare zeroV ∗ slotAt c 6 fullShare zeroV) ⊢ iprop((slotAt c 3 fullShare zeroV ∗ SG c 0 ∗ SG c 1 ∗ SG c 2 ∗ SG c 3) ∗ (gd (!zv c 0) (slotY m ρ c (7 * 0 + 0) fullShare) ∗ gd (!zv c 1) (slotY m ρ c (7 * 0 + 1) fullShare) ∗ gd (!zv c 2) (slotY m ρ c (7 * 0 + 2) fullShare) ∗ gd (!zv c 3) (slotY m ρ c (7 * 0 + 3) fullShare) ∗ gd (!zv c 4) (slotY m ρ c (7 * 0 + 4) fullShare) ∗ gd (!zv c 5) (slotY m ρ c (7 * 0 + 5) fullShare) ∗ gd (!zv c 6) (slotY m ρ c (7 * 0 + 6) fullShare))) := by
  obtain ⟨e0, e1, e2, e3, e4, e5, e6, f0, f1, f2⟩ := tab3 c hp
  unfold SG
  rw [hp, e0, e1, e2, e3, e4, e5, e6]
  iintro ⟨S0, S1, S2, S3, S4, S5, S6⟩
  isplitl [S3 S0 S1 S2]
  · isplitl [S3]; · iexact S3
    isplitl [S0]; · iapply (gd_intro (F := F)); iapply (any_of (F := F) c 0); iexact S0
    isplitl [S1]; · iapply (gd_intro (F := F)); iapply (any_of (F := F) c 1); iexact S1
    isplitl [S2]; · iapply (gd_intro (F := F)); iapply (any_of (F := F) c 2); iexact S2
    iapply (gd_skip (F := F) (b := !decide ((3 : ℕ) = (3 : Fin 4).val)) (by decide)); iempintro
  · isplitr; · iapply (gd_skip (F := F) (b := !true) rfl); iempintro
    isplitr; · iapply (gd_skip (F := F) (b := !true) rfl); iempintro
    isplitr; · iapply (gd_skip (F := F) (b := !true) rfl); iempintro
    isplitr; · iapply (gd_skip (F := F) (b := !true) rfl); iempintro
    isplitl [S4]; · iapply (gd_intro (F := F)); iapply (zero_slot m ρ c 4 e4); iexact S4
    isplitl [S5]; · iapply (gd_intro (F := F)); iapply (zero_slot m ρ c 5 e5); iexact S5
    iapply (gd_intro (F := F)); iapply (zero_slot m ρ c 6 e6); iexact S6

theorem row_zero (c : Dev nD) : iprop(slotAt c 0 fullShare zeroV ∗ slotAt c 1 fullShare zeroV ∗ slotAt c 2 fullShare zeroV ∗ slotAt c 3 fullShare zeroV ∗ slotAt c 4 fullShare zeroV ∗ slotAt c 5 fullShare zeroV ∗ slotAt c 6 fullShare zeroV) ⊢ iprop((slotAt c 3 fullShare zeroV ∗ SG c 0 ∗ SG c 1 ∗ SG c 2 ∗ SG c 3) ∗ (gd (!zv c 0) (slotY m ρ c (7 * 0 + 0) fullShare) ∗ gd (!zv c 1) (slotY m ρ c (7 * 0 + 1) fullShare) ∗ gd (!zv c 2) (slotY m ρ c (7 * 0 + 2) fullShare) ∗ gd (!zv c 3) (slotY m ρ c (7 * 0 + 3) fullShare) ∗ gd (!zv c 4) (slotY m ρ c (7 * 0 + 4) fullShare) ∗ gd (!zv c 5) (slotY m ρ c (7 * 0 + 5) fullShare) ∗ gd (!zv c 6) (slotY m ρ c (7 * 0 + 6) fullShare))) := by
  have hc : c.val < 16 := c.isLt
  have h : c.val / 4 = 0 ∨ c.val / 4 = 1 ∨ c.val / 4 = 2 ∨ c.val / 4 = 3 := by omega
  rcases h with h | h | h | h
  · exact row_zero0 m ρ c h
  · exact row_zero1 m ρ c h
  · exact row_zero2 m ρ c h
  · exact row_zero3 m ρ c h

/-- The zeroed scratch: slot 3, what goes with each signal, and the slots nothing lands in. -/
theorem share8 (c : Dev nD) : (scrL c ↦{fullShare} zeroV : sProp 𝕄) ⊢ iprop((slotAt c 3 fullShare zeroV ∗ SG c 0 ∗ SG c 1 ∗ SG c 2 ∗ SG c 3) ∗ (planeGift c (4 - 1) ∗ planeGift c (4 - 3) ∗ planeGift c (4 - 2))
    ∗ INV m ρ c 0 ∗ INV m ρ c 1 ∗ INV m ρ c 2 ∗ INV m ρ c 3) := by
  iintro H
  ihave H := (whole_slots (F := F) c zeroV).1 $$ H
  icases H with ⟨H0, H1, H2, H3⟩
  ihave H0 := (range7 (F := F) fun i => slotAt c i fullShare zeroV).1 $$ H0
  ihave H0 := (row_zero m ρ c) $$ H0
  ihave H1 := (row_plane m ρ c 1) $$ H1
  ihave H2 := (row_plane m ρ c 2) $$ H2
  ihave H3 := (row_plane m ρ c 3) $$ H3
  icases H0 with ⟨A, I0⟩
  icases H1 with ⟨P1, I1⟩
  icases H2 with ⟨P2, I2⟩
  icases H3 with ⟨P3, I3⟩
  isplitl [A]; · iexact A
  isplitl [P1 P2 P3]
  · isplitl [P3]; · iexact P3
    isplitl [P1]; · iexact P1
    iexact P2
  isplitl [I0]
  · unfold INV
    iapply (range7 (F := F) fun s => gd (!zv c s) (slotY m ρ c (7 * 0 + s) fullShare)).2
    iexact I0
  isplitl [I1]; · iexact I1
  isplitl [I2]; · iexact I2
  iexact I3

/-! ## What the handshake brings -/

/-- The tokens of the transfers between planes, and of those within a plane. -/
def ZK (c : Dev nD) : sProp 𝕄 := bigSep (Finset.range 7) fun s => iprop(dutyTok ER (cell 0 c s) 0 0 ∗ dutyTok ER (cell 1 (zp c s) (6 - s)) 0 0)
def PK (c : Dev nD) (k : ℕ) : sProp 𝕄 := bigSep (Finset.range 7) fun s => iprop(dutyTok ER (cell (spA k) c s) 0 0 ∗ dutyTok ER (cell (rpA k) (pl c k) s) 0 0)
def PTs (c : Dev nD) (k : ℕ) : sProp 𝕄 := bigSep (Finset.range 7) fun s => PT c k s

theorem gift_plane (c : Dev nD) (k : Fin 4) (hk : k.val ≠ 0) : iprop(planeGift (pl c k.val) k.val ∗ PK c k.val) ⊢ PTs (F := F) c k.val := by
  unfold planeGift PK PTs PT
  refine BIBase.Entails.trans (Entails.of_eq (bigSep_sep _ _ _).symm) ?_
  refine bigSep_mono fun s hs => ?_
  show iprop(gd (zv (pl c k.val) s) (slotAny (pl c k.val) (7 * k.val + s)) ∗ (dutyTok ER (cell (spA k.val) c s) 0 0 ∗ dutyTok ER (cell (rpA k.val) (pl c k.val) s) 0 0)) ⊢ _
  have hs' : s < 7 := Finset.mem_range.mp hs
  rw [(pl_facts c k ⟨s, hs'⟩ hk).1]

theorem gift0 (c : Dev nD) (hp : c.val / 4 = 0) : (bigSep (Finset.univ.erase (dz c)) (fun d => barPay c d) : sProp 𝕄) ⊢ iprop((gd (zv c 0) (slotAny (zp c 0) (6 - 0)) ∗ gd (zv c 1) (slotAny (zp c 1) (6 - 1)) ∗ gd (zv c 2) (slotAny (zp c 2) (6 - 2)) ∗ gd (zv c 4) (slotAny (zp c 4) (6 - 4)) ∗ gd (zv c 5) (slotAny (zp c 5) (6 - 5)) ∗ gd (zv c 6) (slotAny (zp c 6) (6 - 6))) ∗ (planeGift (pl c 1) 1 ∗ planeGift (pl c 3) 3 ∗ planeGift (pl c 2) 2)) := by
  obtain ⟨e0, e1, e2, e3, e4, e5, e6, f4, f5, f6⟩ := tab0 c hp
  have ez : dz c = (0 : Fin 7) := Fin.ext hp
  have eu : (Finset.univ.erase (0 : Fin 7)) = {1, 2, 3, 4, 5, 6} := by decide
  have b1 : (barPay c (1 : Fin 7) : sProp 𝕄) = slotAny (zp c 4) (6 - 4) := by
    unfold barPay
    rw [dif_pos (by decide), hp, f4]
    rfl
  have b2 : (barPay c (2 : Fin 7) : sProp 𝕄) = slotAny (zp c 5) (6 - 5) := by
    unfold barPay
    rw [dif_pos (by decide), hp, f5]
    rfl
  have b3 : (barPay c (3 : Fin 7) : sProp 𝕄) = slotAny (zp c 6) (6 - 6) := by
    unfold barPay
    rw [dif_pos (by decide), hp, f6]
    rfl
  have b4 : (barPay c (4 : Fin 7) : sProp 𝕄) = planeGift (pl c 3) 3 := by
    unfold barPay
    rw [dif_neg (by decide)]
    rfl
  have b5 : (barPay c (5 : Fin 7) : sProp 𝕄) = planeGift (pl c 2) 2 := by
    unfold barPay
    rw [dif_neg (by decide)]
    rfl
  have b6 : (barPay c (6 : Fin 7) : sProp 𝕄) = planeGift (pl c 1) 1 := by
    unfold barPay
    rw [dif_neg (by decide)]
    rfl
  have eB : (bigSep (Finset.univ.erase (dz c)) (fun d => barPay c d) : sProp 𝕄) = iprop(barPay c (1 : Fin 7) ∗ barPay c (2 : Fin 7) ∗ barPay c (3 : Fin 7) ∗ barPay c (4 : Fin 7) ∗ barPay c (5 : Fin 7) ∗ barPay c (6 : Fin 7)) := by
    rw [ez, eu, bigSep_insert (by decide), bigSep_insert (by decide), bigSep_insert (by decide), bigSep_insert (by decide), bigSep_insert (by decide), bigSep_singleton]
    rfl
  rw [eB, b1, b2, b3, b4, b5, b6, e0, e1, e2, e4, e5, e6]
  iintro ⟨D1, D2, D3, D4, D5, D6⟩
  isplitl [D1 D2 D3]
  · isplitr; · iapply (gd_skip (F := F) (b := false) rfl); iempintro
    isplitr; · iapply (gd_skip (F := F) (b := false) rfl); iempintro
    isplitr; · iapply (gd_skip (F := F) (b := false) rfl); iempintro
    isplitl [D1]; · iapply (gd_intro (F := F)); iexact D1
    isplitl [D2]; · iapply (gd_intro (F := F)); iexact D2
    iapply (gd_intro (F := F)); iexact D3
  · isplitl [D6]; · iexact D6
    isplitl [D4]; · iexact D4
    iexact D5

theorem gift1 (c : Dev nD) (hp : c.val / 4 = 1) : (bigSep (Finset.univ.erase (dz c)) (fun d => barPay c d) : sProp 𝕄) ⊢ iprop((gd (zv c 0) (slotAny (zp c 0) (6 - 0)) ∗ gd (zv c 1) (slotAny (zp c 1) (6 - 1)) ∗ gd (zv c 2) (slotAny (zp c 2) (6 - 2)) ∗ gd (zv c 4) (slotAny (zp c 4) (6 - 4)) ∗ gd (zv c 5) (slotAny (zp c 5) (6 - 5)) ∗ gd (zv c 6) (slotAny (zp c 6) (6 - 6))) ∗ (planeGift (pl c 1) 1 ∗ planeGift (pl c 3) 3 ∗ planeGift (pl c 2) 2)) := by
  obtain ⟨e0, e1, e2, e3, e4, e5, e6, f2, f4, f5⟩ := tab1 c hp
  have ez : dz c = (1 : Fin 7) := Fin.ext hp
  have eu : (Finset.univ.erase (1 : Fin 7)) = {0, 2, 3, 4, 5, 6} := by decide
  have b0 : (barPay c (0 : Fin 7) : sProp 𝕄) = slotAny (zp c 2) (6 - 2) := by
    unfold barPay
    rw [dif_pos (by decide), hp, f2]
    rfl
  have b2 : (barPay c (2 : Fin 7) : sProp 𝕄) = slotAny (zp c 4) (6 - 4) := by
    unfold barPay
    rw [dif_pos (by decide), hp, f4]
    rfl
  have b3 : (barPay c (3 : Fin 7) : sProp 𝕄) = slotAny (zp c 5) (6 - 5) := by
    unfold barPay
    rw [dif_pos (by decide), hp, f5]
    rfl
  have b4 : (barPay c (4 : Fin 7) : sProp 𝕄) = planeGift (pl c 3) 3 := by
    unfold barPay
    rw [dif_neg (by decide)]
    rfl
  have b5 : (barPay c (5 : Fin 7) : sProp 𝕄) = planeGift (pl c 2) 2 := by
    unfold barPay
    rw [dif_neg (by decide)]
    rfl
  have b6 : (barPay c (6 : Fin 7) : sProp 𝕄) = planeGift (pl c 1) 1 := by
    unfold barPay
    rw [dif_neg (by decide)]
    rfl
  have eB : (bigSep (Finset.univ.erase (dz c)) (fun d => barPay c d) : sProp 𝕄) = iprop(barPay c (0 : Fin 7) ∗ barPay c (2 : Fin 7) ∗ barPay c (3 : Fin 7) ∗ barPay c (4 : Fin 7) ∗ barPay c (5 : Fin 7) ∗ barPay c (6 : Fin 7)) := by
    rw [ez, eu, bigSep_insert (by decide), bigSep_insert (by decide), bigSep_insert (by decide), bigSep_insert (by decide), bigSep_insert (by decide), bigSep_singleton]
    rfl
  rw [eB, b0, b2, b3, b4, b5, b6, e0, e1, e2, e4, e5, e6]
  iintro ⟨D0, D2, D3, D4, D5, D6⟩
  isplitl [D0 D2 D3]
  · isplitr; · iapply (gd_skip (F := F) (b := false) rfl); iempintro
    isplitr; · iapply (gd_skip (F := F) (b := false) rfl); iempintro
    isplitl [D0]; · iapply (gd_intro (F := F)); iexact D0
    isplitl [D2]; · iapply (gd_intro (F := F)); iexact D2
    isplitl [D3]; · iapply (gd_intro (F := F)); iexact D3
    iapply (gd_skip (F := F) (b := false) rfl); iempintro
  · isplitl [D6]; · iexact D6
    isplitl [D4]; · iexact D4
    iexact D5

theorem gift2 (c : Dev nD) (hp : c.val / 4 = 2) : (bigSep (Finset.univ.erase (dz c)) (fun d => barPay c d) : sProp 𝕄) ⊢ iprop((gd (zv c 0) (slotAny (zp c 0) (6 - 0)) ∗ gd (zv c 1) (slotAny (zp c 1) (6 - 1)) ∗ gd (zv c 2) (slotAny (zp c 2) (6 - 2)) ∗ gd (zv c 4) (slotAny (zp c 4) (6 - 4)) ∗ gd (zv c 5) (slotAny (zp c 5) (6 - 5)) ∗ gd (zv c 6) (slotAny (zp c 6) (6 - 6))) ∗ (planeGift (pl c 1) 1 ∗ planeGift (pl c 3) 3 ∗ planeGift (pl c 2) 2)) := by
  obtain ⟨e0, e1, e2, e3, e4, e5, e6, f1, f2, f4⟩ := tab2 c hp
  have ez : dz c = (2 : Fin 7) := Fin.ext hp
  have eu : (Finset.univ.erase (2 : Fin 7)) = {0, 1, 3, 4, 5, 6} := by decide
  have b0 : (barPay c (0 : Fin 7) : sProp 𝕄) = slotAny (zp c 1) (6 - 1) := by
    unfold barPay
    rw [dif_pos (by decide), hp, f1]
    rfl
  have b1 : (barPay c (1 : Fin 7) : sProp 𝕄) = slotAny (zp c 2) (6 - 2) := by
    unfold barPay
    rw [dif_pos (by decide), hp, f2]
    rfl
  have b3 : (barPay c (3 : Fin 7) : sProp 𝕄) = slotAny (zp c 4) (6 - 4) := by
    unfold barPay
    rw [dif_pos (by decide), hp, f4]
    rfl
  have b4 : (barPay c (4 : Fin 7) : sProp 𝕄) = planeGift (pl c 3) 3 := by
    unfold barPay
    rw [dif_neg (by decide)]
    rfl
  have b5 : (barPay c (5 : Fin 7) : sProp 𝕄) = planeGift (pl c 2) 2 := by
    unfold barPay
    rw [dif_neg (by decide)]
    rfl
  have b6 : (barPay c (6 : Fin 7) : sProp 𝕄) = planeGift (pl c 1) 1 := by
    unfold barPay
    rw [dif_neg (by decide)]
    rfl
  have eB : (bigSep (Finset.univ.erase (dz c)) (fun d => barPay c d) : sProp 𝕄) = iprop(barPay c (0 : Fin 7) ∗ barPay c (1 : Fin 7) ∗ barPay c (3 : Fin 7) ∗ barPay c (4 : Fin 7) ∗ barPay c (5 : Fin 7) ∗ barPay c (6 : Fin 7)) := by
    rw [ez, eu, bigSep_insert (by decide), bigSep_insert (by decide), bigSep_insert (by decide), bigSep_insert (by decide), bigSep_insert (by decide), bigSep_singleton]
    rfl
  rw [eB, b0, b1, b3, b4, b5, b6, e0, e1, e2, e4, e5, e6]
  iintro ⟨D0, D1, D3, D4, D5, D6⟩
  isplitl [D0 D1 D3]
  · isplitr; · iapply (gd_skip (F := F) (b := false) rfl); iempintro
    isplitl [D0]; · iapply (gd_intro (F := F)); iexact D0
    isplitl [D1]; · iapply (gd_intro (F := F)); iexact D1
    isplitl [D3]; · iapply (gd_intro (F := F)); iexact D3
    isplitr; · iapply (gd_skip (F := F) (b := false) rfl); iempintro
    iapply (gd_skip (F := F) (b := false) rfl); iempintro
  · isplitl [D6]; · iexact D6
    isplitl [D4]; · iexact D4
    iexact D5

theorem gift3 (c : Dev nD) (hp : c.val / 4 = 3) : (bigSep (Finset.univ.erase (dz c)) (fun d => barPay c d) : sProp 𝕄) ⊢ iprop((gd (zv c 0) (slotAny (zp c 0) (6 - 0)) ∗ gd (zv c 1) (slotAny (zp c 1) (6 - 1)) ∗ gd (zv c 2) (slotAny (zp c 2) (6 - 2)) ∗ gd (zv c 4) (slotAny (zp c 4) (6 - 4)) ∗ gd (zv c 5) (slotAny (zp c 5) (6 - 5)) ∗ gd (zv c 6) (slotAny (zp c 6) (6 - 6))) ∗ (planeGift (pl c 1) 1 ∗ planeGift (pl c 3) 3 ∗ planeGift (pl c 2) 2)) := by
  obtain ⟨e0, e1, e2, e3, e4, e5, e6, f0, f1, f2⟩ := tab3 c hp
  have ez : dz c = (3 : Fin 7) := Fin.ext hp
  have eu : (Finset.univ.erase (3 : Fin 7)) = {0, 1, 2, 4, 5, 6} := by decide
  have b0 : (barPay c (0 : Fin 7) : sProp 𝕄) = slotAny (zp c 0) (6 - 0) := by
    unfold barPay
    rw [dif_pos (by decide), hp, f0]
    rfl
  have b1 : (barPay c (1 : Fin 7) : sProp 𝕄) = slotAny (zp c 1) (6 - 1) := by
    unfold barPay
    rw [dif_pos (by decide), hp, f1]
    rfl
  have b2 : (barPay c (2 : Fin 7) : sProp 𝕄) = slotAny (zp c 2) (6 - 2) := by
    unfold barPay
    rw [dif_pos (by decide), hp, f2]
    rfl
  have b4 : (barPay c (4 : Fin 7) : sProp 𝕄) = planeGift (pl c 3) 3 := by
    unfold barPay
    rw [dif_neg (by decide)]
    rfl
  have b5 : (barPay c (5 : Fin 7) : sProp 𝕄) = planeGift (pl c 2) 2 := by
    unfold barPay
    rw [dif_neg (by decide)]
    rfl
  have b6 : (barPay c (6 : Fin 7) : sProp 𝕄) = planeGift (pl c 1) 1 := by
    unfold barPay
    rw [dif_neg (by decide)]
    rfl
  have eB : (bigSep (Finset.univ.erase (dz c)) (fun d => barPay c d) : sProp 𝕄) = iprop(barPay c (0 : Fin 7) ∗ barPay c (1 : Fin 7) ∗ barPay c (2 : Fin 7) ∗ barPay c (4 : Fin 7) ∗ barPay c (5 : Fin 7) ∗ barPay c (6 : Fin 7)) := by
    rw [ez, eu, bigSep_insert (by decide), bigSep_insert (by decide), bigSep_insert (by decide), bigSep_insert (by decide), bigSep_insert (by decide), bigSep_singleton]
    rfl
  rw [eB, b0, b1, b2, b4, b5, b6, e0, e1, e2, e4, e5, e6]
  iintro ⟨D0, D1, D2, D4, D5, D6⟩
  isplitl [D0 D1 D2]
  · isplitl [D0]; · iapply (gd_intro (F := F)); iexact D0
    isplitl [D1]; · iapply (gd_intro (F := F)); iexact D1
    isplitl [D2]; · iapply (gd_intro (F := F)); iexact D2
    isplitr; · iapply (gd_skip (F := F) (b := false) rfl); iempintro
    isplitr; · iapply (gd_skip (F := F) (b := false) rfl); iempintro
    iapply (gd_skip (F := F) (b := false) rfl); iempintro
  · isplitl [D6]; · iexact D6
    isplitl [D4]; · iexact D4
    iexact D5

/-- What the handshake brings, with the tokens. -/
theorem gifts (c : Dev nD) : iprop((bigSep (Finset.univ.erase (dz c)) (fun d => barPay c d)) ∗ ZK c ∗ PK c 1 ∗ PK c 3 ∗ PK c 2) ⊢ (iprop((ZT c 0 ∗ ZT c 1 ∗ ZT c 2 ∗ ZT c 4 ∗ ZT c 5 ∗ ZT c 6) ∗ (PTs c 1 ∗ PTs c 3 ∗ PTs c 2)) : sProp 𝕄) := by
  have g : (bigSep (Finset.univ.erase (dz c)) (fun d => barPay c d) : sProp 𝕄) ⊢ iprop((gd (zv c 0) (slotAny (zp c 0) (6 - 0)) ∗ gd (zv c 1) (slotAny (zp c 1) (6 - 1)) ∗ gd (zv c 2) (slotAny (zp c 2) (6 - 2)) ∗ gd (zv c 4) (slotAny (zp c 4) (6 - 4)) ∗ gd (zv c 5) (slotAny (zp c 5) (6 - 5)) ∗ gd (zv c 6) (slotAny (zp c 6) (6 - 6))) ∗ (planeGift (pl c 1) 1 ∗ planeGift (pl c 3) 3 ∗ planeGift (pl c 2) 2)) := by
    have hc : c.val < 16 := c.isLt
    have h : c.val / 4 = 0 ∨ c.val / 4 = 1 ∨ c.val / 4 = 2 ∨ c.val / 4 = 3 := by omega
    rcases h with h | h | h | h
    · exact gift0 c h
    · exact gift1 c h
    · exact gift2 c h
    · exact gift3 c h
  iintro ⟨B, Z, T1, T3, T2⟩
  ihave B := g $$ B
  icases B with ⟨⟨G0, G1, G2, G4, G5, G6⟩, P1, P3, P2⟩
  ihave Z := (Entails.of_eq (show (ZK c : sProp 𝕄) = bigSep (Finset.range 7) fun s => iprop(dutyTok ER (cell 0 c s) 0 0 ∗ dutyTok ER (cell 1 (zp c s) (6 - s)) 0 0) from rfl)) $$ Z
  ihave Z := (range7 (F := F) fun s => iprop(dutyTok ER (cell 0 c s) 0 0 ∗ dutyTok ER (cell 1 (zp c s) (6 - s)) 0 0)).1 $$ Z
  icases Z with ⟨Z0, Z1, Z2, Z3, Z4, Z5, Z6⟩
  isplitl [G0 Z0 G1 Z1 G2 Z2 G4 Z4 G5 Z5 G6 Z6]
  · isplitl [G0 Z0]
    · unfold ZT; isplitl [G0]
      · iexact G0
      iexact Z0
    isplitl [G1 Z1]
    · unfold ZT; isplitl [G1]
      · iexact G1
      iexact Z1
    isplitl [G2 Z2]
    · unfold ZT; isplitl [G2]
      · iexact G2
      iexact Z2
    isplitl [G4 Z4]
    · unfold ZT; isplitl [G4]
      · iexact G4
      iexact Z4
    isplitl [G5 Z5]
    · unfold ZT; isplitl [G5]
      · iexact G5
      iexact Z5
    unfold ZT; isplitl [G6]
    · iexact G6
    iexact Z6
  · isplitl [P1 T1]
    · iapply (gift_plane (F := F) c 1 (by decide))
      isplitl [P1]
      · iexact P1
      iexact T1
    isplitl [P3 T3]
    · iapply (gift_plane (F := F) c 3 (by decide))
      isplitl [P3]
      · iexact P3
      iexact T3
    iapply (gift_plane (F := F) c 2 (by decide))
    isplitl [P2]
    · iexact P2
    iexact T2

end Cert.KernelIdeal.Moe
end
-- ==== Proof.KI.S7.lean ====
/-
What the body reads first, and the words of a device.
-/
module

public import proofs.«01_k».proof.Proof.KI.S0
public import proofs.«01_k».proof.Proof.KI.Split

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- The words a device's number gives: its place in the plane, its plane, and the three others of the plane. -/
def w2 (d : Dev nD) : BitVec 32 := Scalar.remsi (Scalar.divsi (Dev.word d) 1#32) 16#32
def w3 (d : Dev nD) : BitVec 32 := Scalar.remsi (w2 d) 4#32
def w20 (d : Dev nD) : BitVec 32 :=
  Scalar.select (Scalar.andi (Scalar.cmpi .ne (Scalar.subi (Scalar.extui (Scalar.cmpi .sgt (w2 d) 0#32)) (Scalar.extui (Scalar.cmpi .slt (w2 d) 0#32)))
      (Scalar.subi (Scalar.extui (Scalar.cmpi .sgt 4#32 0#32)) (Scalar.extui (Scalar.cmpi .slt 4#32 0#32) : BitVec 32))) (Scalar.cmpi .ne (Scalar.remsi (w2 d) 4#32) 0#32))
    (Scalar.subi (Scalar.divsi (w2 d) 4#32) 1#32) (Scalar.divsi (w2 d) 4#32)
def wPl (k : BitVec 32) (d : Dev nD) : BitVec 32 := Scalar.addi (Scalar.muli 4#32 (w20 d)) (Scalar.remsi (Scalar.addi (w3 d) k) 4#32)
theorem w3_eq : ∀ c : Fin 16, w3 c = qW c := by decide
theorem w20_eq : ∀ c : Fin 16, w20 c = pW c := by decide

def gId {α : Type} (J : Dev nD → PG (F := F) α) : PG (F := F) α := Prog.lift .deviceId >>= J
theorem xId {c : Dev nD} {α : Type} {Q : α → sProp 𝕄} {J : Dev nD → PG (F := F) α} : WP c (J c) Q ⊢ WP c (gId J) Q := by
  unfold gId
  rw [Prog.bind_lift]
  exact Entails.of_eq (wp_deviceId (c := (c : Thread nD τ)) 𝒱₀ none Set.univ (k := J)).symm

theorem text7 : k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 = gId fun d0 => gLa (Pure.pure ⟨d0, w3 d0, w20 d0, wPl 1#32 d0, wPl 3#32 d0, wPl 2#32 d0, k0_pay1 (F := F)⟩) := by
  rw [k0_part7_eq_skeleton]
  rfl

theorem part7 (c : Dev nD) {f0 : Buf (Elt F) (scrL c)} {Q : (Σ' (d0 : Dev nD) (v3 : BitVec 32) (v20 : BitVec 32) (v24 : BitVec 32) (v28 : BitVec 32) (v32 : BitVec 32), FVec F S28x48x1024 .bf16) → sProp 𝕄} :
    (scrL c ↦{fullShare} f0) ⊢ iprop(((scrL c ↦{fullShare} f0) -∗ Q ⟨c, w3 c, w20 c, wPl 1#32 c, wPl 3#32 c, wPl 2#32 c, k0_pay1 (F := F)⟩) -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8) Q) := by
  rw [text7]
  iintro H Hk
  iapply xId
  iapply xLa $$ H
  iintro H
  iapply retE
  iapply Hk $$ H

theorem text9 (v58 : IVec S1x1024 32) (v64 : FVec F S64x1024 .bf16) (v68 : IVec S1024x1024 32) :
    k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v58 v64 v68 = Pure.pure ⟨k0_pay7 v64 v68, k0_pay8 v64 v68, k0_pay9 v58, Scalar.select (Scalar.cmpi .eq 4#32 0#32) 1#32 4#32, k0_pay10 v58, k0_pay11 v58, k0_pay12 v58, k0_pay13⟩ := by
  rw [k0_part9_eq_skeleton]
  rfl
theorem text10 (v3 v20 : BitVec 32) (v78 v102 : IVec S1x1024 32) (v104 : BitVec 32) (v106 : IVec S1x1024 32) (v108 v110 v112 : IVec S1x1024 1) :
    k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v78 v102 v104 v106 v108 v110 v112 = Pure.pure ⟨k0_pay14 v78 v104 v106 v108 v110 v112, k0_pay15 v3 v20 v102, k0_pay16⟩ := by
  rw [k0_part10_eq_skeleton]
  rfl

end Cert.KernelIdeal.Moe
end
-- ==== Proof.KI.S8.lean ====
/-
Zeroing the scratch and the handshake's signals.
-/
module

public import proofs.«01_k».proof.Proof.KI.S0
public import proofs.«01_k».proof.Proof.KI.Split

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text8 (c : Dev nD) (v3 v20 v24 v28 v32 : BitVec 32) (v33 : FVec F S28x48x1024 .bf16) :
    k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 v24 v28 v32 v33 =
      gSz (k0_pay2 v33) (
      gS (k0_cond1 c = 1#1) (fun h => (⟨k0_dev1 c, k0_dev1_lt c h⟩ : Dev nD)) (
      gS (k0_cond2 c = 1#1) (fun h => (⟨k0_dev2 c, k0_dev2_lt c h⟩ : Dev nD)) (
      gS (k0_cond3 c = 1#1) (fun h => (⟨k0_dev3 c, k0_dev3_lt c h⟩ : Dev nD)) (
      gS (k0_cond4 c = 1#1) (fun h => (⟨k0_dev4 c, k0_dev4_lt c h⟩ : Dev nD)) (
      gB (⟨k0_dev5 c, k0_dev5_lt c⟩ : Dev nD) (
      gB (⟨k0_dev6 c, k0_dev6_lt c⟩ : Dev nD) (
      gB (⟨k0_dev7 c, k0_dev7_lt c⟩ : Dev nD) (
      gLi fun v56 => (
      Pure.pure ⟨SemArray.scalar (sig.barrier 0 rfl), k0_pay3 v56, k0_pay4 v56, k0_pay5⟩))))))))) := by
  rw [k0_part8_eq_skeleton]
  rfl

theorem part8 (c : Dev nD) (v3 v20 v24 v28 v32 : BitVec 32) (v33 : FVec F S28x48x1024 .bf16)
    (hv : k0_pay2 v33 = zeroV)
    {f0 : Buf (Elt F) (scrL c)}
    {Q : (Σ' (v37 : Sems sig S_) (v58 : IVec S1x1024 32) (v64 : FVec F S64x1024 .bf16), IVec S1024x1024 32) → sProp 𝕄} :
    iprop(PER m ρ K ∗ ((scrL c ↦{fullShare} f0) ∗ dutyTok ER (barCell (pd c 0)) 0 (dz c) ∗ dutyTok ER (barCell (pd c 1)) 0 (dz c) ∗ dutyTok ER (barCell (pd c 2)) 0 (dz c) ∗ dutyTok ER (barCell (pd c 3)) 0 (dz c) ∗ dutyTok ER (barCell (pl c 1)) 0 (⟨(1 + 3) % 7, Nat.mod_lt _ (by decide)⟩ : Fin 7) ∗ dutyTok ER (barCell (pl c 3)) 0 (⟨(3 + 3) % 7, Nat.mod_lt _ (by decide)⟩ : Fin 7) ∗ dutyTok ER (barCell (pl c 2)) 0 (⟨(2 + 3) % 7, Nat.mod_lt _ (by decide)⟩ : Fin 7) ∗ (((c : Thread nD τ).loc cc0_stg2_0) ↦{fullShare} ist m ρ c)) ∗ owesE c ([dueS c 0, dueS c 1, dueS c 2, dueS c 3, dueB c 1, dueB c 3, dueB c 2, dueZ c 0, dueZ c 1, dueZ c 2, dueZ c 4, dueZ c 5, dueZ c 6, dueP c 1 3, dueP c 3 3, dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6]))
      ⊢ iprop((((slotAt c 3 fullShare zeroV ∗ INV m ρ c 0 ∗ INV m ρ c 1 ∗ INV m ρ c 2 ∗ INV m ρ c 3 ∗ (((c : Thread nD τ).loc cc0_stg2_0) ↦{fullShare} ist m ρ c)) ∗ owesE c ([dueZ c 0, dueZ c 1, dueZ c 2, dueZ c 4, dueZ c 5, dueZ c 6, dueP c 1 3, dueP c 3 3, dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6])) -∗ Q ⟨SemArray.scalar (sig.barrier 0 rfl), k0_pay3 (iV m ρ c), k0_pay4 (iV m ρ c), k0_pay5⟩) -∗ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 v24 v28 v32 v33) Q) := by
  obtain ⟨J9, h9⟩ : ∃ J : Vec F S1024x1 .i32 → PG (F := F) (Σ' (v37 : Sems sig S_) (v58 : IVec S1x1024 32) (v64 : FVec F S64x1024 .bf16), IVec S1024x1024 32), ∀ (v56 : Vec F S1024x1 .i32), J v56 = Pure.pure ⟨SemArray.scalar (sig.barrier 0 rfl), k0_pay3 v56, k0_pay4 v56, k0_pay5⟩ := ⟨fun (v56 : Vec F S1024x1 .i32) => Pure.pure ⟨SemArray.scalar (sig.barrier 0 rfl), k0_pay3 v56, k0_pay4 v56, k0_pay5⟩, fun _ => rfl⟩
  obtain ⟨J8, h8⟩ : ∃ J : PG (F := F) (Σ' (v37 : Sems sig S_) (v58 : IVec S1x1024 32) (v64 : FVec F S64x1024 .bf16), IVec S1024x1024 32), J = gLi (J9) := ⟨gLi (J9), rfl⟩
  obtain ⟨J7, h7⟩ : ∃ J : PG (F := F) (Σ' (v37 : Sems sig S_) (v58 : IVec S1x1024 32) (v64 : FVec F S64x1024 .bf16), IVec S1024x1024 32), J = gB (⟨k0_dev7 c, k0_dev7_lt c⟩ : Dev nD) (J8) := ⟨gB (⟨k0_dev7 c, k0_dev7_lt c⟩ : Dev nD) (J8), rfl⟩
  obtain ⟨J6, h6⟩ : ∃ J : PG (F := F) (Σ' (v37 : Sems sig S_) (v58 : IVec S1x1024 32) (v64 : FVec F S64x1024 .bf16), IVec S1024x1024 32), J = gB (⟨k0_dev6 c, k0_dev6_lt c⟩ : Dev nD) (J7) := ⟨gB (⟨k0_dev6 c, k0_dev6_lt c⟩ : Dev nD) (J7), rfl⟩
  obtain ⟨J5, h5⟩ : ∃ J : PG (F := F) (Σ' (v37 : Sems sig S_) (v58 : IVec S1x1024 32) (v64 : FVec F S64x1024 .bf16), IVec S1024x1024 32), J = gB (⟨k0_dev5 c, k0_dev5_lt c⟩ : Dev nD) (J6) := ⟨gB (⟨k0_dev5 c, k0_dev5_lt c⟩ : Dev nD) (J6), rfl⟩
  obtain ⟨J4, h4⟩ : ∃ J : PG (F := F) (Σ' (v37 : Sems sig S_) (v58 : IVec S1x1024 32) (v64 : FVec F S64x1024 .bf16), IVec S1024x1024 32), J = gS (k0_cond4 c = 1#1) (fun h => (⟨k0_dev4 c, k0_dev4_lt c h⟩ : Dev nD)) (J5) := ⟨gS (k0_cond4 c = 1#1) (fun h => (⟨k0_dev4 c, k0_dev4_lt c h⟩ : Dev nD)) (J5), rfl⟩
  obtain ⟨J3, h3⟩ : ∃ J : PG (F := F) (Σ' (v37 : Sems sig S_) (v58 : IVec S1x1024 32) (v64 : FVec F S64x1024 .bf16), IVec S1024x1024 32), J = gS (k0_cond3 c = 1#1) (fun h => (⟨k0_dev3 c, k0_dev3_lt c h⟩ : Dev nD)) (J4) := ⟨gS (k0_cond3 c = 1#1) (fun h => (⟨k0_dev3 c, k0_dev3_lt c h⟩ : Dev nD)) (J4), rfl⟩
  obtain ⟨J2, h2⟩ : ∃ J : PG (F := F) (Σ' (v37 : Sems sig S_) (v58 : IVec S1x1024 32) (v64 : FVec F S64x1024 .bf16), IVec S1024x1024 32), J = gS (k0_cond2 c = 1#1) (fun h => (⟨k0_dev2 c, k0_dev2_lt c h⟩ : Dev nD)) (J3) := ⟨gS (k0_cond2 c = 1#1) (fun h => (⟨k0_dev2 c, k0_dev2_lt c h⟩ : Dev nD)) (J3), rfl⟩
  obtain ⟨J1, h1⟩ : ∃ J : PG (F := F) (Σ' (v37 : Sems sig S_) (v58 : IVec S1x1024 32) (v64 : FVec F S64x1024 .bf16), IVec S1024x1024 32), J = gS (k0_cond1 c = 1#1) (fun h => (⟨k0_dev1 c, k0_dev1_lt c h⟩ : Dev nD)) (J2) := ⟨gS (k0_cond1 c = 1#1) (fun h => (⟨k0_dev1 c, k0_dev1_lt c h⟩ : Dev nD)) (J2), rfl⟩
  obtain ⟨J0, h0⟩ : ∃ J : PG (F := F) (Σ' (v37 : Sems sig S_) (v58 : IVec S1x1024 32) (v64 : FVec F S64x1024 .bf16), IVec S1024x1024 32), J = gSz (k0_pay2 v33) (J1) := ⟨gSz (k0_pay2 v33) (J1), rfl⟩
  have ht : k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 v24 v28 v32 v33 = J0 := by
    rw [text8]
    obtain rfl : J9 = fun (v56 : Vec F S1024x1 .i32) => Pure.pure ⟨SemArray.scalar (sig.barrier 0 rfl), k0_pay3 v56, k0_pay4 v56, k0_pay5⟩ := by
      funext v56
      exact h9 v56
    subst h8
    subst h7
    subst h6
    subst h5
    subst h4
    subst h3
    subst h2
    subst h1
    subst h0
    rfl
  rw [ht]
  clear ht
  iintro ⟨#HP, ⟨SC, D0, D1, D2, D3, B1, B3, B2, IX⟩, HO⟩ Hk
  rw [h0]
  iapply xSz $$ SC
  iintro SC
  rw [hv]
  ihave SC := (share8 m ρ c) $$ SC
  icases SC with ⟨⟨S3, G0, G1, G2, G3⟩, ⟨P1, P3, P2⟩, I0, I1, I2, I3⟩
  rw [h1]
  iapply (xS m ρ K 0 (cS0 c) (dS0 c)) $$ [G0 D0 HO]
  · isplitr; · iexact HP
    isplitl [G0 D0]
    · unfold ST; isplitl [G0]; · iexact G0
      iexact D0
    iexact HO
  iintro HO
  rw [h2]
  iapply (xS m ρ K 1 (cS1 c) (dS1 c)) $$ [G1 D1 HO]
  · isplitr; · iexact HP
    isplitl [G1 D1]
    · unfold ST; isplitl [G1]; · iexact G1
      iexact D1
    iexact HO
  iintro HO
  rw [h3]
  iapply (xS m ρ K 2 (cS2 c) (dS2 c)) $$ [G2 D2 HO]
  · isplitr; · iexact HP
    isplitl [G2 D2]
    · unfold ST; isplitl [G2]; · iexact G2
      iexact D2
    iexact HO
  iintro HO
  rw [h4]
  iapply (xS m ρ K 3 (cS3 c) (dS3 c)) $$ [G3 D3 HO]
  · isplitr; · iexact HP
    isplitl [G3 D3]
    · unfold ST; isplitl [G3]; · iexact G3
      iexact D3
    iexact HO
  iintro HO
  rw [h5]
  iapply (xB m ρ K 1 (.inl rfl) (dP5 c)) $$ [P1 B1 HO]
  · isplitr; · iexact HP
    isplitl [P1 B1]
    · unfold BT; isplitl [P1]; · iexact P1
      iexact B1
    iexact HO
  iintro HO
  rw [h6]
  iapply (xB m ρ K 3 (.inr (.inr rfl)) (dP6 c)) $$ [P3 B3 HO]
  · isplitr; · iexact HP
    isplitl [P3 B3]
    · unfold BT; isplitl [P3]; · iexact P3
      iexact B3
    iexact HO
  iintro HO
  rw [h7]
  iapply (xB m ρ K 2 (.inr (.inl rfl)) (dP7 c)) $$ [P2 B2 HO]
  · isplitr; · iexact HP
    isplitl [P2 B2]
    · unfold BT; isplitl [P2]; · iexact P2
      iexact B2
    iexact HO
  iintro HO
  rw [h8]
  iapply (xLi m ρ) $$ IX
  iintro IX
  rw [h9]
  iapply retE
  iapply Hk
  isplitr [HO]
  · isplitl [S3]; · iexact S3
    isplitl [I0]; · iexact I0
    isplitl [I1]; · iexact I1
    isplitl [I2]; · iexact I2
    isplitl [I3]; · iexact I3
    iexact IX
  iexact HO

end Cert.KernelIdeal.Moe
end
-- ==== Proof.KI.S11.lean ====
/-
The experts' products.
-/
module

public import proofs.«01_k».proof.Proof.KI.S0
public import proofs.«01_k».proof.Proof.KI.Split

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

def ld3 (f : Vec F S28x48x1024 .bf16) : Vec F S1x48x1024 .bf16 :=
  (Memref.whole cc0_scratch0 : Memref sig .tc .vmem S28x48x1024 .bf16).view.readAt (Elt F) (slotR 3 h3).toLoadRect f
theorem xLs' {c : Dev nD} {α : Type} {Q : α → sProp 𝕄} {q : PosShare TreeShare} {f : Vec F S28x48x1024 .bf16} {J : Vec F S1x48x1024 .bf16 → PG (F := F) α} :
    slotAt c 3 q f ⊢ iprop((slotAt c 3 q f -∗ WP c (J (ld3 f)) Q) -∗ WP c (gLs J) Q) := by
  unfold gLs
  iintro H Hk
  iapply (loadS (F := F)) $$ H
  iexact Hk

theorem text11 (v77 : IVec S1x1024 1) (v121 v158 v159 : IVec S1x1024 32) :
    k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v77 v121 v158 v159 =
      gLx fun v173 => (
      gLw0 fun v177 => (
      gLw1 fun v181 => (
      gLw2 fun v185 => (
      gLw3 fun v189 => (
      gLs fun v194 => (
      Pure.pure ⟨k0_pay17 v77 v121 v158 v159, k0_pay18 v77 v121 v158 v159 v173 v177 v181 v185 v189, v194⟩)))))) := by
  rw [k0_part11_eq_skeleton]
  rfl

theorem part11 (c : Dev nD) (v77 : IVec S1x1024 1) (v121 v158 v159 : IVec S1x1024 32)
    {Q : (Σ' (v165 : IVec S1x1024 32) (v193 : FVec F S48x1024 .bf16), Vec F S1x48x1024 .bf16) → sProp 𝕄} :
    iprop(PER m ρ K ∗ ((((c : Thread nD τ).loc cc0_stg0_0) ↦{fullShare} xst m ρ c) ∗ (((c : Thread nD τ).loc cc0_stg1_0) ↦{fullShare} wst m ρ c) ∗ slotAt c 3 fullShare zeroV))
      ⊢ iprop(((((((c : Thread nD τ).loc cc0_stg0_0) ↦{fullShare} xst m ρ c) ∗ (((c : Thread nD τ).loc cc0_stg1_0) ↦{fullShare} wst m ρ c) ∗ slotAt c 3 fullShare zeroV)) -∗ Q ⟨k0_pay17 v77 v121 v158 v159, k0_pay18 v77 v121 v158 v159 (xV m ρ c) (wV0 m ρ c) (wV1 m ρ c) (wV2 m ρ c) (wV3 m ρ c), ld3 (F := F) zeroV⟩) -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v77 v121 v158 v159) Q) := by
  obtain ⟨J6, h6⟩ : ∃ J : Vec F S1024x512 .f32 → Vec F S1x512x1024 .f32 → Vec F S1x512x1024 .f32 → Vec F S1x512x1024 .f32 → Vec F S1x512x1024 .f32 → Vec F S1x48x1024 .bf16 → PG (F := F) (Σ' (v165 : IVec S1x1024 32) (v193 : FVec F S48x1024 .bf16), Vec F S1x48x1024 .bf16), ∀ (v173 : Vec F S1024x512 .f32) (v177 : Vec F S1x512x1024 .f32) (v181 : Vec F S1x512x1024 .f32) (v185 : Vec F S1x512x1024 .f32) (v189 : Vec F S1x512x1024 .f32) (v194 : Vec F S1x48x1024 .bf16), J v173 v177 v181 v185 v189 v194 = Pure.pure ⟨k0_pay17 v77 v121 v158 v159, k0_pay18 v77 v121 v158 v159 v173 v177 v181 v185 v189, v194⟩ := ⟨fun (v173 : Vec F S1024x512 .f32) (v177 : Vec F S1x512x1024 .f32) (v181 : Vec F S1x512x1024 .f32) (v185 : Vec F S1x512x1024 .f32) (v189 : Vec F S1x512x1024 .f32) (v194 : Vec F S1x48x1024 .bf16) => Pure.pure ⟨k0_pay17 v77 v121 v158 v159, k0_pay18 v77 v121 v158 v159 v173 v177 v181 v185 v189, v194⟩, fun _ _ _ _ _ _ => rfl⟩
  obtain ⟨J5, h5⟩ : ∃ J : Vec F S1024x512 .f32 → Vec F S1x512x1024 .f32 → Vec F S1x512x1024 .f32 → Vec F S1x512x1024 .f32 → Vec F S1x512x1024 .f32 → PG (F := F) (Σ' (v165 : IVec S1x1024 32) (v193 : FVec F S48x1024 .bf16), Vec F S1x48x1024 .bf16), ∀ (v173 : Vec F S1024x512 .f32) (v177 : Vec F S1x512x1024 .f32) (v181 : Vec F S1x512x1024 .f32) (v185 : Vec F S1x512x1024 .f32) (v189 : Vec F S1x512x1024 .f32), J v173 v177 v181 v185 v189 = gLs (J6 v173 v177 v181 v185 v189) := ⟨fun (v173 : Vec F S1024x512 .f32) (v177 : Vec F S1x512x1024 .f32) (v181 : Vec F S1x512x1024 .f32) (v185 : Vec F S1x512x1024 .f32) (v189 : Vec F S1x512x1024 .f32) => gLs (J6 v173 v177 v181 v185 v189), fun _ _ _ _ _ => rfl⟩
  obtain ⟨J4, h4⟩ : ∃ J : Vec F S1024x512 .f32 → Vec F S1x512x1024 .f32 → Vec F S1x512x1024 .f32 → Vec F S1x512x1024 .f32 → PG (F := F) (Σ' (v165 : IVec S1x1024 32) (v193 : FVec F S48x1024 .bf16), Vec F S1x48x1024 .bf16), ∀ (v173 : Vec F S1024x512 .f32) (v177 : Vec F S1x512x1024 .f32) (v181 : Vec F S1x512x1024 .f32) (v185 : Vec F S1x512x1024 .f32), J v173 v177 v181 v185 = gLw3 (J5 v173 v177 v181 v185) := ⟨fun (v173 : Vec F S1024x512 .f32) (v177 : Vec F S1x512x1024 .f32) (v181 : Vec F S1x512x1024 .f32) (v185 : Vec F S1x512x1024 .f32) => gLw3 (J5 v173 v177 v181 v185), fun _ _ _ _ => rfl⟩
  obtain ⟨J3, h3⟩ : ∃ J : Vec F S1024x512 .f32 → Vec F S1x512x1024 .f32 → Vec F S1x512x1024 .f32 → PG (F := F) (Σ' (v165 : IVec S1x1024 32) (v193 : FVec F S48x1024 .bf16), Vec F S1x48x1024 .bf16), ∀ (v173 : Vec F S1024x512 .f32) (v177 : Vec F S1x512x1024 .f32) (v181 : Vec F S1x512x1024 .f32), J v173 v177 v181 = gLw2 (J4 v173 v177 v181) := ⟨fun (v173 : Vec F S1024x512 .f32) (v177 : Vec F S1x512x1024 .f32) (v181 : Vec F S1x512x1024 .f32) => gLw2 (J4 v173 v177 v181), fun _ _ _ => rfl⟩
  obtain ⟨J2, h2⟩ : ∃ J : Vec F S1024x512 .f32 → Vec F S1x512x1024 .f32 → PG (F := F) (Σ' (v165 : IVec S1x1024 32) (v193 : FVec F S48x1024 .bf16), Vec F S1x48x1024 .bf16), ∀ (v173 : Vec F S1024x512 .f32) (v177 : Vec F S1x512x1024 .f32), J v173 v177 = gLw1 (J3 v173 v177) := ⟨fun (v173 : Vec F S1024x512 .f32) (v177 : Vec F S1x512x1024 .f32) => gLw1 (J3 v173 v177), fun _ _ => rfl⟩
  obtain ⟨J1, h1⟩ : ∃ J : Vec F S1024x512 .f32 → PG (F := F) (Σ' (v165 : IVec S1x1024 32) (v193 : FVec F S48x1024 .bf16), Vec F S1x48x1024 .bf16), ∀ (v173 : Vec F S1024x512 .f32), J v173 = gLw0 (J2 v173) := ⟨fun (v173 : Vec F S1024x512 .f32) => gLw0 (J2 v173), fun _ => rfl⟩
  obtain ⟨J0, h0⟩ : ∃ J : PG (F := F) (Σ' (v165 : IVec S1x1024 32) (v193 : FVec F S48x1024 .bf16), Vec F S1x48x1024 .bf16), J = gLx (J1) := ⟨gLx (J1), rfl⟩
  have ht : k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v77 v121 v158 v159 = J0 := by
    rw [text11]
    obtain rfl : J6 = fun (v173 : Vec F S1024x512 .f32) (v177 : Vec F S1x512x1024 .f32) (v181 : Vec F S1x512x1024 .f32) (v185 : Vec F S1x512x1024 .f32) (v189 : Vec F S1x512x1024 .f32) (v194 : Vec F S1x48x1024 .bf16) => Pure.pure ⟨k0_pay17 v77 v121 v158 v159, k0_pay18 v77 v121 v158 v159 v173 v177 v181 v185 v189, v194⟩ := by
      funext v173 v177 v181 v185 v189 v194
      exact h6 v173 v177 v181 v185 v189 v194
    obtain rfl : J5 = fun (v173 : Vec F S1024x512 .f32) (v177 : Vec F S1x512x1024 .f32) (v181 : Vec F S1x512x1024 .f32) (v185 : Vec F S1x512x1024 .f32) (v189 : Vec F S1x512x1024 .f32) => gLs fun v194 => (Pure.pure ⟨k0_pay17 v77 v121 v158 v159, k0_pay18 v77 v121 v158 v159 v173 v177 v181 v185 v189, v194⟩) := by
      funext v173 v177 v181 v185 v189
      exact h5 v173 v177 v181 v185 v189
    obtain rfl : J4 = fun (v173 : Vec F S1024x512 .f32) (v177 : Vec F S1x512x1024 .f32) (v181 : Vec F S1x512x1024 .f32) (v185 : Vec F S1x512x1024 .f32) => gLw3 fun v189 => (gLs fun v194 => (Pure.pure ⟨k0_pay17 v77 v121 v158 v159, k0_pay18 v77 v121 v158 v159 v173 v177 v181 v185 v189, v194⟩)) := by
      funext v173 v177 v181 v185
      exact h4 v173 v177 v181 v185
    obtain rfl : J3 = fun (v173 : Vec F S1024x512 .f32) (v177 : Vec F S1x512x1024 .f32) (v181 : Vec F S1x512x1024 .f32) => gLw2 fun v185 => (gLw3 fun v189 => (gLs fun v194 => (Pure.pure ⟨k0_pay17 v77 v121 v158 v159, k0_pay18 v77 v121 v158 v159 v173 v177 v181 v185 v189, v194⟩))) := by
      funext v173 v177 v181
      exact h3 v173 v177 v181
    obtain rfl : J2 = fun (v173 : Vec F S1024x512 .f32) (v177 : Vec F S1x512x1024 .f32) => gLw1 fun v181 => (gLw2 fun v185 => (gLw3 fun v189 => (gLs fun v194 => (Pure.pure ⟨k0_pay17 v77 v121 v158 v159, k0_pay18 v77 v121 v158 v159 v173 v177 v181 v185 v189, v194⟩)))) := by
      funext v173 v177
      exact h2 v173 v177
    obtain rfl : J1 = fun (v173 : Vec F S1024x512 .f32) => gLw0 fun v177 => (gLw1 fun v181 => (gLw2 fun v185 => (gLw3 fun v189 => (gLs fun v194 => (Pure.pure ⟨k0_pay17 v77 v121 v158 v159, k0_pay18 v77 v121 v158 v159 v173 v177 v181 v185 v189, v194⟩))))) := by
      funext v173
      exact h1 v173
    subst h0
    rfl
  rw [ht]
  clear ht
  iintro ⟨#HP, ⟨XS, WS, S3⟩⟩ Hk
  rw [h0]
  iapply (xLx m ρ) $$ XS
  iintro XS
  rw [h1]
  iapply (xLw0 m ρ) $$ WS
  iintro WS
  rw [h2]
  iapply (xLw1 m ρ) $$ WS
  iintro WS
  rw [h3]
  iapply (xLw2 m ρ) $$ WS
  iintro WS
  rw [h4]
  iapply (xLw3 m ρ) $$ WS
  iintro WS
  rw [h5]
  iapply (xLs' (c := c)) $$ S3
  iintro S3
  rw [h6]
  iapply retE
  iapply Hk
  · isplitl [XS]; · iexact XS
    isplitl [WS]; · iexact WS
    iexact S3

end Cert.KernelIdeal.Moe
end
-- ==== Proof.KI.S12.lean ====
/-
The end of the handshake and the transfers between planes.
-/
module

public import proofs.«01_k».proof.Proof.KI.S0
public import proofs.«01_k».proof.Proof.KI.Split

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text12 (c : Dev nD) (v3 v20 : BitVec 32) (v193 : FVec F S48x1024 .bf16) (v194 : Vec F S1x48x1024 .bf16) :
    k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 (SemArray.scalar (sig.barrier 0 rfl)) v193 v194 =
      gSs (k0_pay19 v193) (
      gBw (
      gZ (k0_cond5 c = 1#1) (fun h => (⟨k0_dev8 c, k0_dev8_lt c h⟩ : Dev nD)) 0 (
      gZ (k0_cond6 c = 1#1) (fun h => (⟨k0_dev9 c, k0_dev9_lt c h⟩ : Dev nD)) 1 (
      gZ (k0_cond7 c = 1#1) (fun h => (⟨k0_dev10 c, k0_dev10_lt c h⟩ : Dev nD)) 2 (
      gZ (k0_cond8 c = 1#1) (fun h => (⟨k0_dev11 c, k0_dev11_lt c h⟩ : Dev nD)) 4 (
      Pure.pure ⟨⟩)))))) := by
  rw [k0_part12_eq_skeleton]
  rfl

theorem part12 (c : Dev nD) (v3 v20 : BitVec 32) (v193 : FVec F S48x1024 .bf16) (v194 : Vec F S1x48x1024 .bf16)
    (hw : k0_pay19 v193 = y3 m ρ c)
    {Q : (PUnit) → sProp 𝕄} :
    iprop(PER m ρ K ∗ (slotAt c 3 fullShare zeroV ∗ atPos ER (barCell c) 0 ∅ 0 ∗ cred (tallyAt (barCell c) () 6) ∗ ZK c ∗ PK c 1 ∗ PK c 3 ∗ PK c 2) ∗ owesE c ([dueZ c 0, dueZ c 1, dueZ c 2, dueZ c 4, dueZ c 5, dueZ c 6, dueP c 1 3, dueP c 3 3, dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6]))
      ⊢ iprop((((semVal (barCell c) 0 ∗ ZC m ρ c 0 ∗ ZC m ρ c 1 ∗ ZC m ρ c 2 ∗ ZC m ρ c 4 ∗ ZT c 5 ∗ ZT c 6 ∗ PTs c 1 ∗ PTs c 3 ∗ PTs c 2 ∗ slotY m ρ c 3 (Transfers.shareDrop fullShare 11) ∗ slotY m ρ c 3 (tk 0) ∗ slotY m ρ c 3 (tk 1) ∗ slotY m ρ c 3 (tk 2) ∗ slotY m ρ c 3 (tk 3) ∗ slotY m ρ c 3 (tk (4 + 3)) ∗ slotY m ρ c 3 (tk (4 + 5)) ∗ slotY m ρ c 3 (tk (4 + 6))) ∗ owesE c ([dueZ c 5, dueZ c 6, dueP c 1 3, dueP c 3 3, dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6])) -∗ Q ⟨⟩) -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 (SemArray.scalar (sig.barrier 0 rfl)) v193 v194) Q) := by
  have hlb : Above 1 [dueZ c 0, dueZ c 1, dueZ c 2, dueZ c 4, dueZ c 5, dueZ c 6, dueP c 1 3, dueP c 3 3, dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6] := above_duesZ c 1 (by decide) [0, 1, 2, 4, 5, 6] (by decide)
  obtain ⟨J6, h6⟩ : ∃ J : PG (F := F) (PUnit), J = Pure.pure ⟨⟩ := ⟨Pure.pure ⟨⟩, rfl⟩
  obtain ⟨J5, h5⟩ : ∃ J : PG (F := F) (PUnit), J = gZ (k0_cond8 c = 1#1) (fun h => (⟨k0_dev11 c, k0_dev11_lt c h⟩ : Dev nD)) 4 (J6) := ⟨gZ (k0_cond8 c = 1#1) (fun h => (⟨k0_dev11 c, k0_dev11_lt c h⟩ : Dev nD)) 4 (J6), rfl⟩
  obtain ⟨J4, h4⟩ : ∃ J : PG (F := F) (PUnit), J = gZ (k0_cond7 c = 1#1) (fun h => (⟨k0_dev10 c, k0_dev10_lt c h⟩ : Dev nD)) 2 (J5) := ⟨gZ (k0_cond7 c = 1#1) (fun h => (⟨k0_dev10 c, k0_dev10_lt c h⟩ : Dev nD)) 2 (J5), rfl⟩
  obtain ⟨J3, h3⟩ : ∃ J : PG (F := F) (PUnit), J = gZ (k0_cond6 c = 1#1) (fun h => (⟨k0_dev9 c, k0_dev9_lt c h⟩ : Dev nD)) 1 (J4) := ⟨gZ (k0_cond6 c = 1#1) (fun h => (⟨k0_dev9 c, k0_dev9_lt c h⟩ : Dev nD)) 1 (J4), rfl⟩
  obtain ⟨J2, h2⟩ : ∃ J : PG (F := F) (PUnit), J = gZ (k0_cond5 c = 1#1) (fun h => (⟨k0_dev8 c, k0_dev8_lt c h⟩ : Dev nD)) 0 (J3) := ⟨gZ (k0_cond5 c = 1#1) (fun h => (⟨k0_dev8 c, k0_dev8_lt c h⟩ : Dev nD)) 0 (J3), rfl⟩
  obtain ⟨J1, h1⟩ : ∃ J : PG (F := F) (PUnit), J = gBw (J2) := ⟨gBw (J2), rfl⟩
  obtain ⟨J0, h0⟩ : ∃ J : PG (F := F) (PUnit), J = gSs (k0_pay19 v193) (J1) := ⟨gSs (k0_pay19 v193) (J1), rfl⟩
  have ht : k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 (SemArray.scalar (sig.barrier 0 rfl)) v193 v194 = J0 := by
    rw [text12]
    subst h6
    subst h5
    subst h4
    subst h3
    subst h2
    subst h1
    subst h0
    rfl
  rw [ht]
  clear ht
  iintro ⟨#HP, ⟨S3, BP, BC, ZZ, K1, K3, K2⟩, HO⟩ Hk
  rw [h0]
  iapply (xSs m ρ hw) $$ S3
  iintro S3
  ihave S3 := (split11 m ρ c 3).1 $$ S3
  icases S3 with ⟨D11, ⟨U0, U1, U2, U3⟩, T0, T1, T2, T3, T4, T5, T6⟩
  rw [h1]
  iapply (xBw m ρ K hlb) $$ [BP BC HO]
  · isplitr; · iexact HP
    isplitl [BP]; · iexact BP
    isplitl [BC]; · iexact BC
    iexact HO
  iintro ⟨HO, BV, BG⟩
  ihave BG := (gifts c) $$ [BG ZZ K1 K3 K2]
  · isplitl [BG]; · iexact BG
    isplitl [ZZ]; · iexact ZZ
    isplitl [K1]; · iexact K1
    isplitl [K3]; · iexact K3
    iexact K2
  icases BG with ⟨⟨Z0, Z1, Z2, Z4, Z5, Z6⟩, Q1, Q3, Q2⟩
  rw [h2]
  iapply (xZ m ρ K 0 (by decide) (by decide) (cZ0 c) (dZ0 c)) $$ [Z0 T0 HO]
  · isplitr; · iexact HP
    isplitl [Z0]; · iexact Z0
    isplitl [T0]; · iexact T0
    iexact HO
  iintro ⟨Z0, HO⟩
  rw [h3]
  iapply (xZ m ρ K 1 (by decide) (by decide) (cZ1 c) (dZ1 c)) $$ [Z1 T1 HO]
  · isplitr; · iexact HP
    isplitl [Z1]; · iexact Z1
    isplitl [T1]; · iexact T1
    iexact HO
  iintro ⟨Z1, HO⟩
  rw [h4]
  iapply (xZ m ρ K 2 (by decide) (by decide) (cZ2 c) (dZ2 c)) $$ [Z2 T2 HO]
  · isplitr; · iexact HP
    isplitl [Z2]; · iexact Z2
    isplitl [T2]; · iexact T2
    iexact HO
  iintro ⟨Z2, HO⟩
  rw [h5]
  iapply (xZ m ρ K 4 (by decide) (by decide) (cZ4 c) (dZ4 c)) $$ [Z4 T4 HO]
  · isplitr; · iexact HP
    isplitl [Z4]; · iexact Z4
    isplitl [T4]; · iexact T4
    iexact HO
  iintro ⟨Z4, HO⟩
  rw [h6]
  iapply retE
  iapply Hk
  isplitr [HO]
  · isplitl [BV]; · iexact BV
    isplitl [Z0]; · iexact Z0
    isplitl [Z1]; · iexact Z1
    isplitl [Z2]; · iexact Z2
    isplitl [Z4]; · iexact Z4
    isplitl [Z5]; · iexact Z5
    isplitl [Z6]; · iexact Z6
    isplitl [Q1]; · iexact Q1
    isplitl [Q3]; · iexact Q3
    isplitl [Q2]; · iexact Q2
    isplitl [D11]; · iexact D11
    isplitl [U0]; · iexact U0
    isplitl [U1]; · iexact U1
    isplitl [U2]; · iexact U2
    isplitl [U3]; · iexact U3
    isplitl [T3]; · iexact T3
    isplitl [T5]; · iexact T5
    iexact T6
  iexact HO

end Cert.KernelIdeal.Moe
end
-- ==== Proof.KI.S13.lean ====
/-
Part thirteen.
-/
module

public import proofs.«01_k».proof.Proof.KI.S0
public import proofs.«01_k».proof.Proof.KI.Steps

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text13 (c : Dev nD) (v3 v20 v24 v28 v32 : BitVec 32) :
    k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 v24 v28 v32 =
      gZ (k0_cond9 c = 1#1) (fun h => (⟨k0_dev12 c, k0_dev12_lt c h⟩ : Dev nD)) 5 (
      gZ (k0_cond10 c = 1#1) (fun h => (⟨k0_dev13 c, k0_dev13_lt c h⟩ : Dev nD)) 6 (
      gP (⟨k0_dev14 c, k0_dev14_lt c⟩ : Dev nD) 1 3 (by decide) (by decide) (
      gP (⟨k0_dev15 c, k0_dev15_lt c⟩ : Dev nD) 3 3 (by decide) (by decide) (
      Pure.pure (Scalar.muli v32 1#32))))) := by
  rw [k0_part13_eq_skeleton]
  rfl

theorem part13 (c : Dev nD) (v3 v20 v24 v28 v32 : BitVec 32)
    {Q : BitVec 32 → sProp 𝕄} :
    iprop(PER m ρ K ∗ (ZT c 5 ∗ slotY m ρ c 3 (tk (4 + 5)) ∗ ZT c 6 ∗ slotY m ρ c 3 (tk (4 + 6)) ∗ PT c 1 3 ∗ slotY m ρ c 3 (tk 1) ∗ PT c 3 3 ∗ slotY m ρ c 3 (tk 3)) ∗ owesE c (dueZ c 5 :: dueZ c 6 :: dueP c 1 3 :: dueP c 3 3 :: [dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6]))
      ⊢ iprop((((ZC m ρ c 5 ∗ ZC m ρ c 6 ∗ PC m ρ c 1 3 ∗ PC m ρ c 3 3) ∗ owesE c ([dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6])) -∗ Q (Scalar.muli v32 1#32)) -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v3 v20 v24 v28 v32) Q) := by
  rw [text13]
  iintro ⟨#HP, ⟨Z5, T5, Z6, T6, Q1, U1, Q3, U3⟩, HO⟩ Hk
  iapply (xZ m ρ K 5 (by decide) (by decide) (cZ5 c) (dZ5 c)) $$ [Z5 T5 HO]
  · isplitr; · iexact HP
    isplitl [Z5]; · iexact Z5
    isplitl [T5]; · iexact T5
    iexact HO
  iintro ⟨Z5, HO⟩
  iapply (xZ m ρ K 6 (by decide) (by decide) (cZ6 c) (dZ6 c)) $$ [Z6 T6 HO]
  · isplitr; · iexact HP
    isplitl [Z6]; · iexact Z6
    isplitl [T6]; · iexact T6
    iexact HO
  iintro ⟨Z6, HO⟩
  iapply (xP m ρ K 1 3 (.inl rfl) (by decide) (zv_three c) (dP14 c)) $$ [Q1 U1 HO]
  · isplitr; · iexact HP
    isplitl [Q1]; · iexact Q1
    isplitl [U1]; · iexact U1
    iexact HO
  iintro ⟨Q1, HO⟩
  iapply (xP m ρ K 3 3 (.inr (.inr rfl)) (by decide) (zv_three c) (dP15 c)) $$ [Q3 U3 HO]
  · isplitr; · iexact HP
    isplitl [Q3]; · iexact Q3
    isplitl [U3]; · iexact U3
    iexact HO
  iintro ⟨Q3, HO⟩
  iapply retE
  iapply Hk
  isplitr [HO]
  · isplitl [Z5]; · iexact Z5
    isplitl [Z6]; · iexact Z6
    isplitl [Q1]; · iexact Q1
    iexact Q3
  iexact HO

end Cert.KernelIdeal.Moe
end
-- ==== Proof.KI.S14.lean ====
/-
Part fourteen.
-/
module

public import proofs.«01_k».proof.Proof.KI.S0
public import proofs.«01_k».proof.Proof.KI.Steps

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text14 (c : Dev nD) (v20 v24 v28 v32 : BitVec 32) (v165 : IVec S1x1024 32) (v253 : BitVec 32) :
    k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v20 v24 v28 v32 v165 v253 =
      gP (⟨k0_dev16 c, k0_dev16_lt c⟩ : Dev nD) 2 3 (by decide) (by decide) (
      gR (k0_cond11 c = 1#1) (fun h => k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev18 c, k0_dev18_lt c h⟩ : Dev nD)) (fun h => (⟨k0_dev19 c, k0_dev19_lt c h⟩ : Dev nD)) 0 lt7_0 (
      gR (k0_cond12 c = 1#1) (fun h => k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev21 c, k0_dev21_lt c h⟩ : Dev nD)) (fun h => (⟨k0_dev22 c, k0_dev22_lt c h⟩ : Dev nD)) 1 lt7_1 (
      gR (k0_cond13 c = 1#1) (fun h => k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev24 c, k0_dev24_lt c h⟩ : Dev nD)) (fun h => (⟨k0_dev25 c, k0_dev25_lt c h⟩ : Dev nD)) 2 lt7_2 (
      Pure.pure ⟨k0_pay20 (F := F) v165, Scalar.cmpi .sge (Scalar.addi v20 1#32) 0#32, Scalar.cmpi .sle (Scalar.addi v20 1#32) 3#32⟩)))) := by
  rw [k0_part14_eq_skeleton]
  rfl

theorem part14 (c : Dev nD) (v20 v24 v28 v32 : BitVec 32) (v165 : IVec S1x1024 32) (v253 : BitVec 32)
    {Q : (Σ' (v268 : FVec F S1344x1024 .bf16) (v288 : BitVec 1), BitVec 1) → sProp 𝕄} :
    iprop(PER m ρ K ∗ (PT c 2 3 ∗ slotY m ρ c 3 (tk 2) ∗ RZ m ρ c 0 ∗ RZ m ρ c 1 ∗ RZ m ρ c 2) ∗ owesE c ([dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6]))
      ⊢ iprop((((PC m ρ c 2 3 ∗ slotY m ρ c 0 (tk 0) ∗ RZr m ρ c 0 ∗ slotY m ρ c 1 (tk 0) ∗ RZr m ρ c 1 ∗ slotY m ρ c 2 (tk 0) ∗ RZr m ρ c 2) ∗ owesE c ([dueP c 1 4, dueP c 3 4, dueP c 2 4, dueP c 1 5, dueP c 3 5, dueP c 2 5, dueP c 1 6, dueP c 3 6, dueP c 2 6])) -∗ Q ⟨k0_pay20 (F := F) v165, Scalar.cmpi .sge (Scalar.addi v20 1#32) 0#32, Scalar.cmpi .sle (Scalar.addi v20 1#32) 3#32⟩) -∗ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v20 v24 v28 v32 v165 v253) Q) := by
  have hl0 : Above 2 [dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6] := above_duesP c 2 (by decide) [0, 1, 2, 4, 5, 6] (by decide)
  have hl1 : Above 2 [dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6] := above_duesP c 2 (by decide) [1, 2, 4, 5, 6] (by decide)
  have hl2 : Above 2 [dueP c 1 2, dueP c 3 2, dueP c 2 2, dueP c 1 4, dueP c 3 4, dueP c 2 4, dueP c 1 5, dueP c 3 5, dueP c 2 5, dueP c 1 6, dueP c 3 6, dueP c 2 6] := above_duesP c 2 (by decide) [2, 4, 5, 6] (by decide)
  obtain ⟨J4, h4⟩ : ∃ J : PG (F := F) (Σ' (v268 : FVec F S1344x1024 .bf16) (v288 : BitVec 1), BitVec 1), J = Pure.pure ⟨k0_pay20 (F := F) v165, Scalar.cmpi .sge (Scalar.addi v20 1#32) 0#32, Scalar.cmpi .sle (Scalar.addi v20 1#32) 3#32⟩ := ⟨Pure.pure ⟨k0_pay20 (F := F) v165, Scalar.cmpi .sge (Scalar.addi v20 1#32) 0#32, Scalar.cmpi .sle (Scalar.addi v20 1#32) 3#32⟩, rfl⟩
  obtain ⟨J3, h3⟩ : ∃ J : PG (F := F) (Σ' (v268 : FVec F S1344x1024 .bf16) (v288 : BitVec 1), BitVec 1), J = gR (k0_cond13 c = 1#1) (fun h => k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev24 c, k0_dev24_lt c h⟩ : Dev nD)) (fun h => (⟨k0_dev25 c, k0_dev25_lt c h⟩ : Dev nD)) 2 lt7_2 (J4) := ⟨gR (k0_cond13 c = 1#1) (fun h => k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev24 c, k0_dev24_lt c h⟩ : Dev nD)) (fun h => (⟨k0_dev25 c, k0_dev25_lt c h⟩ : Dev nD)) 2 lt7_2 (J4), rfl⟩
  obtain ⟨J2, h2⟩ : ∃ J : PG (F := F) (Σ' (v268 : FVec F S1344x1024 .bf16) (v288 : BitVec 1), BitVec 1), J = gR (k0_cond12 c = 1#1) (fun h => k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev21 c, k0_dev21_lt c h⟩ : Dev nD)) (fun h => (⟨k0_dev22 c, k0_dev22_lt c h⟩ : Dev nD)) 1 lt7_1 (J3) := ⟨gR (k0_cond12 c = 1#1) (fun h => k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev21 c, k0_dev21_lt c h⟩ : Dev nD)) (fun h => (⟨k0_dev22 c, k0_dev22_lt c h⟩ : Dev nD)) 1 lt7_1 (J3), rfl⟩
  obtain ⟨J1, h1⟩ : ∃ J : PG (F := F) (Σ' (v268 : FVec F S1344x1024 .bf16) (v288 : BitVec 1), BitVec 1), J = gR (k0_cond11 c = 1#1) (fun h => k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev18 c, k0_dev18_lt c h⟩ : Dev nD)) (fun h => (⟨k0_dev19 c, k0_dev19_lt c h⟩ : Dev nD)) 0 lt7_0 (J2) := ⟨gR (k0_cond11 c = 1#1) (fun h => k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev18 c, k0_dev18_lt c h⟩ : Dev nD)) (fun h => (⟨k0_dev19 c, k0_dev19_lt c h⟩ : Dev nD)) 0 lt7_0 (J2), rfl⟩
  obtain ⟨J0, h0⟩ : ∃ J : PG (F := F) (Σ' (v268 : FVec F S1344x1024 .bf16) (v288 : BitVec 1), BitVec 1), J = gP (⟨k0_dev16 c, k0_dev16_lt c⟩ : Dev nD) 2 3 (by decide) (by decide) (J1) := ⟨gP (⟨k0_dev16 c, k0_dev16_lt c⟩ : Dev nD) 2 3 (by decide) (by decide) (J1), rfl⟩
  have ht : k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v20 v24 v28 v32 v165 v253 = J0 := by
    rw [text14]
    subst h4
    subst h3
    subst h2
    subst h1
    subst h0
    rfl
  rw [ht]
  clear ht
  iintro ⟨#HP, ⟨Q2, U2, R0, R1, R2⟩, HO⟩ Hk
  rw [h0]
  iapply (xP m ρ K 2 3 (.inr (.inl rfl)) (by decide) (zv_three c) (dP16 c)) $$ [Q2 U2 HO]
  · isplitr; · iexact HP
    isplitl [Q2]; · iexact Q2
    isplitl [U2]; · iexact U2
    iexact HO
  iintro ⟨Q2, HO⟩
  rw [h1]
  iapply (xR m ρ K 0 lt7_0 (by decide) (cR0 c) (dR1_0 c) (dR3_0 c) (dR2_0 c) (fun h => text1 c v24 v28 h) hl0) $$ [R0 HO]
  · isplitr; · iexact HP
    isplitl [R0]; · iexact R0
    iexact HO
  iintro ⟨⟨L0, R0⟩, HO⟩
  rw [h2]
  iapply (xR m ρ K 1 lt7_1 (by decide) (cR1 c) (dR1_1 c) (dR3_1 c) (dR2_1 c) (fun h => text2 c v24 v28 h) hl1) $$ [R1 HO]
  · isplitr; · iexact HP
    isplitl [R1]; · iexact R1
    iexact HO
  iintro ⟨⟨L1, R1⟩, HO⟩
  rw [h3]
  iapply (xR m ρ K 2 lt7_2 (by decide) (cR2 c) (dR1_2 c) (dR3_2 c) (dR2_2 c) (fun h => text3 c v24 v28 h) hl2) $$ [R2 HO]
  · isplitr; · iexact HP
    isplitl [R2]; · iexact R2
    iexact HO
  iintro ⟨⟨L2, R2⟩, HO⟩
  rw [h4]
  iapply retE
  iapply Hk
  isplitr [HO]
  · isplitl [Q2]; · iexact Q2
    isplitl [L0]; · iexact L0
    isplitl [R0]; · iexact R0
    isplitl [L1]; · iexact L1
    isplitl [R1]; · iexact R1
    isplitl [L2]; · iexact L2
    iexact R2
  iexact HO

end Cert.KernelIdeal.Moe
end
-- ==== Proof.KI.S15.lean ====
/-
Part fifteen.
-/
module

public import proofs.«01_k».proof.Proof.KI.S0
public import proofs.«01_k».proof.Proof.KI.Steps

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text15 (c : Dev nD) (v20 v24 v28 v32 : BitVec 32) (v268 : FVec F S1344x1024 .bf16) (v288 v289 : BitVec 1) :
    k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v20 v24 v28 v32 v268 v288 v289 =
      gR (k0_cond14 c = 1#1) (fun h => k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev27 c, k0_dev27_lt c h⟩ : Dev nD)) (fun h => (⟨k0_dev28 c, k0_dev28_lt c h⟩ : Dev nD)) 4 lt7_4 (
      gR (k0_cond15 c = 1#1) (fun h => k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev30 c, k0_dev30_lt c h⟩ : Dev nD)) (fun h => (⟨k0_dev31 c, k0_dev31_lt c h⟩ : Dev nD)) 5 lt7_5 (
      gR (k0_cond16 c = 1#1) (fun h => k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev33 c, k0_dev33_lt c h⟩ : Dev nD)) (fun h => (⟨k0_dev34 c, k0_dev34_lt c h⟩ : Dev nD)) 6 lt7_6 (
      gL0 fun v305 => (
      gRP (Scalar.cmpi .ne (Scalar.extui (Scalar.andi (Scalar.cmpi .sge (Scalar.addi v20 4294967293#32) 0#32) (Scalar.cmpi .sle (Scalar.addi v20 4294967293#32) 3#32)) : BitVec 32) 0#32 = 1#1) 1 0 (by decide) (
      gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 1 1 (by decide) (
      Pure.pure ⟨k0_pay21 v268 v305, Scalar.addi v20 4294967295#32, 0#32⟩)))))) := by
  rw [k0_part15_eq_skeleton]
  rfl

theorem part15 (c : Dev nD) (v20 v24 v28 v32 : BitVec 32) (v268 : FVec F S1344x1024 .bf16) (v288 v289 : BitVec 1)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    (c1 : Scalar.cmpi .ne (Scalar.extui (Scalar.andi (Scalar.cmpi .sge (Scalar.addi v20 4294967294#32) 0#32) (Scalar.cmpi .sle (Scalar.addi v20 4294967294#32) 3#32)) : BitVec 32) 0#32 = 1#1 ↔ zv c 1 = true)
    {Q : (Σ' (v308 : FVec F S1024x1024 .f32) (v321 : BitVec 32), BitVec 32) → sProp 𝕄} :
    iprop(PER m ρ K ∗ (RZ m ρ c 4 ∗ RZ m ρ c 5 ∗ RZ m ρ c 6 ∗ slotY m ρ c 0 (tk 0) ∗ slotY m ρ c 1 (tk 0) ∗ slotY m ρ c 2 (tk 0) ∗ slotY m ρ c 3 (tk 0) ∗ RP m ρ c 1 0 ∗ RP m ρ c 1 1) ∗ owesE c ([dueP c 1 4, dueP c 3 4, dueP c 2 4, dueP c 1 5, dueP c 3 5, dueP c 2 5, dueP c 1 6, dueP c 3 6, dueP c 2 6]))
      ⊢ iprop(((((bigSep (Finset.range 7) fun i => slotY m ρ c i (tk 0)) ∗ RZr m ρ c 4 ∗ RZr m ρ c 5 ∗ RZr m ρ c 6 ∗ RP' m ρ c 1 0 ∗ RP' m ρ c 1 1) ∗ owesE c ([])) -∗ Q ⟨k0_pay21 v268 (out0 m ρ c), Scalar.addi v20 4294967295#32, 0#32⟩) -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v20 v24 v28 v32 v268 v288 v289) Q) := by
  have hl4 : Above 2 [dueP c 1 4, dueP c 3 4, dueP c 2 4, dueP c 1 5, dueP c 3 5, dueP c 2 5, dueP c 1 6, dueP c 3 6, dueP c 2 6] := above_duesP c 2 (by decide) [4, 5, 6] (by decide)
  have hl5 : Above 2 [dueP c 1 5, dueP c 3 5, dueP c 2 5, dueP c 1 6, dueP c 3 6, dueP c 2 6] := above_duesP c 2 (by decide) [5, 6] (by decide)
  have hl6 : Above 2 [dueP c 1 6, dueP c 3 6, dueP c 2 6] := above_duesP c 2 (by decide) [6] (by decide)
  obtain ⟨J6, h6⟩ : ∃ J : Vec F S7x48x1024 .bf16 → PG (F := F) (Σ' (v308 : FVec F S1024x1024 .f32) (v321 : BitVec 32), BitVec 32), ∀ (v305 : Vec F S7x48x1024 .bf16), J v305 = Pure.pure ⟨k0_pay21 v268 v305, Scalar.addi v20 4294967295#32, 0#32⟩ := ⟨fun (v305 : Vec F S7x48x1024 .bf16) => Pure.pure ⟨k0_pay21 v268 v305, Scalar.addi v20 4294967295#32, 0#32⟩, fun _ => rfl⟩
  obtain ⟨J5, h5⟩ : ∃ J : Vec F S7x48x1024 .bf16 → PG (F := F) (Σ' (v308 : FVec F S1024x1024 .f32) (v321 : BitVec 32), BitVec 32), ∀ (v305 : Vec F S7x48x1024 .bf16), J v305 = gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 1 1 (by decide) (J6 v305) := ⟨fun (v305 : Vec F S7x48x1024 .bf16) => gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 1 1 (by decide) (J6 v305), fun _ => rfl⟩
  obtain ⟨J4, h4⟩ : ∃ J : Vec F S7x48x1024 .bf16 → PG (F := F) (Σ' (v308 : FVec F S1024x1024 .f32) (v321 : BitVec 32), BitVec 32), ∀ (v305 : Vec F S7x48x1024 .bf16), J v305 = gRP (Scalar.cmpi .ne (Scalar.extui (Scalar.andi (Scalar.cmpi .sge (Scalar.addi v20 4294967293#32) 0#32) (Scalar.cmpi .sle (Scalar.addi v20 4294967293#32) 3#32)) : BitVec 32) 0#32 = 1#1) 1 0 (by decide) (J5 v305) := ⟨fun (v305 : Vec F S7x48x1024 .bf16) => gRP (Scalar.cmpi .ne (Scalar.extui (Scalar.andi (Scalar.cmpi .sge (Scalar.addi v20 4294967293#32) 0#32) (Scalar.cmpi .sle (Scalar.addi v20 4294967293#32) 3#32)) : BitVec 32) 0#32 = 1#1) 1 0 (by decide) (J5 v305), fun _ => rfl⟩
  obtain ⟨J3, h3⟩ : ∃ J : PG (F := F) (Σ' (v308 : FVec F S1024x1024 .f32) (v321 : BitVec 32), BitVec 32), J = gL0 (J4) := ⟨gL0 (J4), rfl⟩
  obtain ⟨J2, h2⟩ : ∃ J : PG (F := F) (Σ' (v308 : FVec F S1024x1024 .f32) (v321 : BitVec 32), BitVec 32), J = gR (k0_cond16 c = 1#1) (fun h => k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev33 c, k0_dev33_lt c h⟩ : Dev nD)) (fun h => (⟨k0_dev34 c, k0_dev34_lt c h⟩ : Dev nD)) 6 lt7_6 (J3) := ⟨gR (k0_cond16 c = 1#1) (fun h => k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev33 c, k0_dev33_lt c h⟩ : Dev nD)) (fun h => (⟨k0_dev34 c, k0_dev34_lt c h⟩ : Dev nD)) 6 lt7_6 (J3), rfl⟩
  obtain ⟨J1, h1⟩ : ∃ J : PG (F := F) (Σ' (v308 : FVec F S1024x1024 .f32) (v321 : BitVec 32), BitVec 32), J = gR (k0_cond15 c = 1#1) (fun h => k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev30 c, k0_dev30_lt c h⟩ : Dev nD)) (fun h => (⟨k0_dev31 c, k0_dev31_lt c h⟩ : Dev nD)) 5 lt7_5 (J2) := ⟨gR (k0_cond15 c = 1#1) (fun h => k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev30 c, k0_dev30_lt c h⟩ : Dev nD)) (fun h => (⟨k0_dev31 c, k0_dev31_lt c h⟩ : Dev nD)) 5 lt7_5 (J2), rfl⟩
  obtain ⟨J0, h0⟩ : ∃ J : PG (F := F) (Σ' (v308 : FVec F S1024x1024 .f32) (v321 : BitVec 32), BitVec 32), J = gR (k0_cond14 c = 1#1) (fun h => k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev27 c, k0_dev27_lt c h⟩ : Dev nD)) (fun h => (⟨k0_dev28 c, k0_dev28_lt c h⟩ : Dev nD)) 4 lt7_4 (J1) := ⟨gR (k0_cond14 c = 1#1) (fun h => k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v24 v28 h) (fun h => (⟨k0_dev27 c, k0_dev27_lt c h⟩ : Dev nD)) (fun h => (⟨k0_dev28 c, k0_dev28_lt c h⟩ : Dev nD)) 4 lt7_4 (J1), rfl⟩
  have ht : k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 c v20 v24 v28 v32 v268 v288 v289 = J0 := by
    rw [text15]
    obtain rfl : J6 = fun (v305 : Vec F S7x48x1024 .bf16) => Pure.pure ⟨k0_pay21 v268 v305, Scalar.addi v20 4294967295#32, 0#32⟩ := by
      funext v305
      exact h6 v305
    obtain rfl : J5 = fun (v305 : Vec F S7x48x1024 .bf16) => gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 1 1 (by decide) (Pure.pure ⟨k0_pay21 v268 v305, Scalar.addi v20 4294967295#32, 0#32⟩) := by
      funext v305
      exact h5 v305
    obtain rfl : J4 = fun (v305 : Vec F S7x48x1024 .bf16) => gRP (Scalar.cmpi .ne (Scalar.extui (Scalar.andi (Scalar.cmpi .sge (Scalar.addi v20 4294967293#32) 0#32) (Scalar.cmpi .sle (Scalar.addi v20 4294967293#32) 3#32)) : BitVec 32) 0#32 = 1#1) 1 0 (by decide) (gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 1 1 (by decide) (Pure.pure ⟨k0_pay21 v268 v305, Scalar.addi v20 4294967295#32, 0#32⟩)) := by
      funext v305
      exact h4 v305
    subst h3
    subst h2
    subst h1
    subst h0
    rfl
  rw [ht]
  clear ht
  iintro ⟨#HP, ⟨R4, R5, R6, L0, L1, L2, L3, R10, R11⟩, HO⟩ Hk
  rw [h0]
  iapply (xR m ρ K 4 lt7_4 (by decide) (cR4 c) (dR1_4 c) (dR3_4 c) (dR2_4 c) (fun h => text4 c v24 v28 h) hl4) $$ [R4 HO]
  · isplitr; · iexact HP
    isplitl [R4]; · iexact R4
    iexact HO
  iintro ⟨⟨L4, R4⟩, HO⟩
  rw [h1]
  iapply (xR m ρ K 5 lt7_5 (by decide) (cR5 c) (dR1_5 c) (dR3_5 c) (dR2_5 c) (fun h => text5 c v24 v28 h) hl5) $$ [R5 HO]
  · isplitr; · iexact HP
    isplitl [R5]; · iexact R5
    iexact HO
  iintro ⟨⟨L5, R5⟩, HO⟩
  rw [h2]
  iapply (xR m ρ K 6 lt7_6 (by decide) (cR6 c) (dR1_6 c) (dR3_6 c) (dR2_6 c) (fun h => text6 c v24 v28 h) hl6) $$ [R6 HO]
  · isplitr; · iexact HP
    isplitl [R6]; · iexact R6
    iexact HO
  iintro ⟨⟨L6, R6⟩, HO⟩
  rw [h3]
  iapply (xL0 m ρ) $$ [L0 L1 L2 L3 L4 L5 L6]
  · iapply (range7 (F := F) fun i => slotY m ρ c i (tk 0)).2
    isplitl [L0]; · iexact L0
    isplitl [L1]; · iexact L1
    isplitl [L2]; · iexact L2
    isplitl [L3]; · iexact L3
    isplitl [L4]; · iexact L4
    isplitl [L5]; · iexact L5
    iexact L6
  iintro LO
  rw [h4]
  iapply (xRP m ρ K 1 0 (.inl rfl) (by decide) c0) $$ [R10 HO]
  · isplitr; · iexact HP
    isplitl [R10]; · iexact R10
    iexact HO
  iintro ⟨R10, HO⟩
  rw [h5]
  iapply (xRP m ρ K 1 1 (.inl rfl) (by decide) c1) $$ [R11 HO]
  · isplitr; · iexact HP
    isplitl [R11]; · iexact R11
    iexact HO
  iintro ⟨R11, HO⟩
  rw [h6]
  iapply retE
  iapply Hk
  isplitr [HO]
  · isplitl [LO]; · iexact LO
    isplitl [R4]; · iexact R4
    isplitl [R5]; · iexact R5
    isplitl [R6]; · iexact R6
    isplitl [R10]; · iexact R10
    iexact R11
  iexact HO

end Cert.KernelIdeal.Moe
end
-- ==== Proof.KI.S19.lean ====
/-
The rest of the result.
-/
module

public import proofs.«01_k».proof.Proof.KI.S0
public import proofs.«01_k».proof.Proof.KI.Split

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem rp_rows (c : Dev nD) (k : ℕ) : (bigSep (Finset.range 7) fun i => RP' m ρ c k i) ⊢ iprop((bigSep (Finset.range 7) fun i => semVal (cell (rpA k) c i) 0) ∗ (bigSep (Finset.range 7) fun i => slotY m ρ c (7 * k + i) fullShare)) :=
  Entails.of_eq (bigSep_sep _ _ _)

theorem text19 (v3 v20 v24 : BitVec 32) (v268 : FVec F S1344x1024 .bf16) (v308 : FVec F S1024x1024 .f32) (v420 : BitVec 1) :
    k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v24 v268 v308 v420 =
      gRP (Scalar.cmpi .ne (Scalar.extui v420 : BitVec 32) 0#32 = 1#1) 2 4 (by decide) (
      gRP (Scalar.cmpi .ne (Scalar.extui (Scalar.andi (Scalar.cmpi .sge (Scalar.addi v20 2#32) 0#32) (Scalar.cmpi .sle (Scalar.addi v20 2#32) 3#32)) : BitVec 32) 0#32 = 1#1) 2 5 (by decide) (
      gRP (Scalar.cmpi .ne (Scalar.extui (Scalar.andi (Scalar.cmpi .sge (Scalar.addi v20 3#32) 0#32) (Scalar.cmpi .sle (Scalar.addi v20 3#32) 3#32)) : BitVec 32) 0#32 = 1#1) 2 6 (by decide) (
      gL3 fun v435 => (
      gLo (
      gSo (k0_pay22 v268 v308 v435) (
      gZW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (
      Pure.pure (Scalar.cmpi .ne (Scalar.extui (Scalar.andi (Scalar.cmpi .sge (Scalar.addi v20 4294967294#32) 0#32) (Scalar.cmpi .sle (Scalar.addi v20 4294967294#32) 3#32)) : BitVec 32) 0#32)))))))) := by
  rw [k0_part19_eq_skeleton]
  rfl

theorem part19 (c : Dev nD) (v3 v20 v24 : BitVec 32) (v268 : FVec F S1344x1024 .bf16) (v308 : FVec F S1024x1024 .f32) (v420 : BitVec 1)
    (c4 : Scalar.cmpi .ne (Scalar.extui v420 : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (c6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    {f3 : Buf (Elt F) ((c : Thread nD τ).loc cc0_stg3_0)}
    {Q : (BitVec 1) → sProp 𝕄} :
    iprop(PER m ρ K ∗ ((bigSep (Finset.range 7) fun i => RP' m ρ c 1 i) ∗ (bigSep (Finset.range 7) fun i => RP' m ρ c 3 i) ∗ RP' m ρ c 2 0 ∗ RP' m ρ c 2 1 ∗ RP' m ρ c 2 2 ∗ RP' m ρ c 2 3 ∗ RP m ρ c 2 4 ∗ RP m ρ c 2 5 ∗ RP m ρ c 2 6 ∗ (((c : Thread nD τ).loc cc0_stg3_0) ↦{fullShare} f3) ∗ ZW m ρ c 0) ∗ owesE c ([]))
      ⊢ iprop(((((bigSep (Finset.range 7) fun i => semVal (cell (rpA 1) c i) 0) ∗ (bigSep (Finset.range 7) fun i => semVal (cell (rpA 2) c i) 0) ∗ (bigSep (Finset.range 7) fun i => semVal (cell (rpA 3) c i) 0) ∗ (bigSep (Finset.range 7) fun i => slotY m ρ c (7 * 1 + i) fullShare) ∗ (bigSep (Finset.range 7) fun i => slotY m ρ c (7 * 2 + i) fullShare) ∗ (bigSep (Finset.range 7) fun i => slotY m ρ c (7 * 3 + i) fullShare) ∗ (((c : Thread nD τ).loc cc0_stg3_0) ↦{fullShare} k0_pay22 v268 v308 (out3 m ρ c)) ∗ ZW' m ρ c 0) ∗ owesE c ([])) -∗ Q (Scalar.cmpi .ne (Scalar.extui (Scalar.andi (Scalar.cmpi .sge (Scalar.addi v20 4294967294#32) 0#32) (Scalar.cmpi .sle (Scalar.addi v20 4294967294#32) 3#32)) : BitVec 32) 0#32)) -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v24 v268 v308 v420) Q) := by
  obtain ⟨J7, h7⟩ : ∃ J : Vec F S21x48x1024 .bf16 → PG (F := F) (BitVec 1), ∀ (v435 : Vec F S21x48x1024 .bf16), J v435 = Pure.pure (Scalar.cmpi .ne (Scalar.extui (Scalar.andi (Scalar.cmpi .sge (Scalar.addi v20 4294967294#32) 0#32) (Scalar.cmpi .sle (Scalar.addi v20 4294967294#32) 3#32)) : BitVec 32) 0#32) := ⟨fun (v435 : Vec F S21x48x1024 .bf16) => Pure.pure (Scalar.cmpi .ne (Scalar.extui (Scalar.andi (Scalar.cmpi .sge (Scalar.addi v20 4294967294#32) 0#32) (Scalar.cmpi .sle (Scalar.addi v20 4294967294#32) 3#32)) : BitVec 32) 0#32), fun _ => rfl⟩
  obtain ⟨J6, h6⟩ : ∃ J : Vec F S21x48x1024 .bf16 → PG (F := F) (BitVec 1), ∀ (v435 : Vec F S21x48x1024 .bf16), J v435 = gZW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (J7 v435) := ⟨fun (v435 : Vec F S21x48x1024 .bf16) => gZW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (J7 v435), fun _ => rfl⟩
  obtain ⟨J5, h5⟩ : ∃ J : Vec F S21x48x1024 .bf16 → PG (F := F) (BitVec 1), ∀ (v435 : Vec F S21x48x1024 .bf16), J v435 = gSo (k0_pay22 v268 v308 v435) (J6 v435) := ⟨fun (v435 : Vec F S21x48x1024 .bf16) => gSo (k0_pay22 v268 v308 v435) (J6 v435), fun _ => rfl⟩
  obtain ⟨J4, h4⟩ : ∃ J : Vec F S21x48x1024 .bf16 → PG (F := F) (BitVec 1), ∀ (v435 : Vec F S21x48x1024 .bf16), J v435 = gLo (J5 v435) := ⟨fun (v435 : Vec F S21x48x1024 .bf16) => gLo (J5 v435), fun _ => rfl⟩
  obtain ⟨J3, h3⟩ : ∃ J : PG (F := F) (BitVec 1), J = gL3 (J4) := ⟨gL3 (J4), rfl⟩
  obtain ⟨J2, h2⟩ : ∃ J : PG (F := F) (BitVec 1), J = gRP (Scalar.cmpi .ne (Scalar.extui (Scalar.andi (Scalar.cmpi .sge (Scalar.addi v20 3#32) 0#32) (Scalar.cmpi .sle (Scalar.addi v20 3#32) 3#32)) : BitVec 32) 0#32 = 1#1) 2 6 (by decide) (J3) := ⟨gRP (Scalar.cmpi .ne (Scalar.extui (Scalar.andi (Scalar.cmpi .sge (Scalar.addi v20 3#32) 0#32) (Scalar.cmpi .sle (Scalar.addi v20 3#32) 3#32)) : BitVec 32) 0#32 = 1#1) 2 6 (by decide) (J3), rfl⟩
  obtain ⟨J1, h1⟩ : ∃ J : PG (F := F) (BitVec 1), J = gRP (Scalar.cmpi .ne (Scalar.extui (Scalar.andi (Scalar.cmpi .sge (Scalar.addi v20 2#32) 0#32) (Scalar.cmpi .sle (Scalar.addi v20 2#32) 3#32)) : BitVec 32) 0#32 = 1#1) 2 5 (by decide) (J2) := ⟨gRP (Scalar.cmpi .ne (Scalar.extui (Scalar.andi (Scalar.cmpi .sge (Scalar.addi v20 2#32) 0#32) (Scalar.cmpi .sle (Scalar.addi v20 2#32) 3#32)) : BitVec 32) 0#32 = 1#1) 2 5 (by decide) (J2), rfl⟩
  obtain ⟨J0, h0⟩ : ∃ J : PG (F := F) (BitVec 1), J = gRP (Scalar.cmpi .ne (Scalar.extui v420 : BitVec 32) 0#32 = 1#1) 2 4 (by decide) (J1) := ⟨gRP (Scalar.cmpi .ne (Scalar.extui v420 : BitVec 32) 0#32 = 1#1) 2 4 (by decide) (J1), rfl⟩
  have ht : k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v24 v268 v308 v420 = J0 := by
    rw [text19]
    obtain rfl : J7 = fun (v435 : Vec F S21x48x1024 .bf16) => Pure.pure (Scalar.cmpi .ne (Scalar.extui (Scalar.andi (Scalar.cmpi .sge (Scalar.addi v20 4294967294#32) 0#32) (Scalar.cmpi .sle (Scalar.addi v20 4294967294#32) 3#32)) : BitVec 32) 0#32) := by
      funext v435
      exact h7 v435
    obtain rfl : J6 = fun (v435 : Vec F S21x48x1024 .bf16) => gZW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (Pure.pure (Scalar.cmpi .ne (Scalar.extui (Scalar.andi (Scalar.cmpi .sge (Scalar.addi v20 4294967294#32) 0#32) (Scalar.cmpi .sle (Scalar.addi v20 4294967294#32) 3#32)) : BitVec 32) 0#32)) := by
      funext v435
      exact h6 v435
    obtain rfl : J5 = fun (v435 : Vec F S21x48x1024 .bf16) => gSo (k0_pay22 v268 v308 v435) (gZW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (Pure.pure (Scalar.cmpi .ne (Scalar.extui (Scalar.andi (Scalar.cmpi .sge (Scalar.addi v20 4294967294#32) 0#32) (Scalar.cmpi .sle (Scalar.addi v20 4294967294#32) 3#32)) : BitVec 32) 0#32))) := by
      funext v435
      exact h5 v435
    obtain rfl : J4 = fun (v435 : Vec F S21x48x1024 .bf16) => gLo (gSo (k0_pay22 v268 v308 v435) (gZW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (Pure.pure (Scalar.cmpi .ne (Scalar.extui (Scalar.andi (Scalar.cmpi .sge (Scalar.addi v20 4294967294#32) 0#32) (Scalar.cmpi .sle (Scalar.addi v20 4294967294#32) 3#32)) : BitVec 32) 0#32)))) := by
      funext v435
      exact h4 v435
    subst h3
    subst h2
    subst h1
    subst h0
    rfl
  rw [ht]
  clear ht
  iintro ⟨#HP, ⟨X1, X3, R20, R21, R22, R23, R24, R25, R26, OU, Z0⟩, HO⟩ Hk
  rw [h0]
  iapply (xRP m ρ K 2 4 (.inr (.inl rfl)) (by decide) c4) $$ [R24 HO]
  · isplitr; · iexact HP
    isplitl [R24]; · iexact R24
    iexact HO
  iintro ⟨R24, HO⟩
  rw [h1]
  iapply (xRP m ρ K 2 5 (.inr (.inl rfl)) (by decide) c5) $$ [R25 HO]
  · isplitr; · iexact HP
    isplitl [R25]; · iexact R25
    iexact HO
  iintro ⟨R25, HO⟩
  rw [h2]
  iapply (xRP m ρ K 2 6 (.inr (.inl rfl)) (by decide) c6) $$ [R26 HO]
  · isplitr; · iexact HP
    isplitl [R26]; · iexact R26
    iexact HO
  iintro ⟨R26, HO⟩
  rw [h3]
  ihave X2 := (range7 (F := F) fun i => RP' m ρ c 2 i).2 $$ [R20 R21 R22 R23 R24 R25 R26]
  · isplitl [R20]; · iexact R20
    isplitl [R21]; · iexact R21
    isplitl [R22]; · iexact R22
    isplitl [R23]; · iexact R23
    isplitl [R24]; · iexact R24
    isplitl [R25]; · iexact R25
    iexact R26
  ihave X1 := (rp_rows m ρ c 1) $$ X1
  icases X1 with ⟨V1, Y1⟩
  ihave X2 := (rp_rows m ρ c 2) $$ X2
  icases X2 with ⟨V2, Y2⟩
  ihave X3 := (rp_rows m ρ c 3) $$ X3
  icases X3 with ⟨V3, Y3⟩
  iapply (xL3 m ρ) $$ [Y1 Y2 Y3]
  · isplitl [Y1]; · iexact Y1
    isplitl [Y2]; · iexact Y2
    iexact Y3
  iintro ⟨Y1, Y2, Y3⟩
  rw [h4]
  iapply xLo $$ OU
  iintro OU
  rw [h5]
  iapply xSo $$ OU
  iintro OU
  rw [h6]
  iapply (xZW m ρ K 0 (by decide) (by decide) c0) $$ [Z0 HO]
  · isplitr; · iexact HP
    isplitl [Z0]; · iexact Z0
    iexact HO
  iintro ⟨Z0, HO⟩
  rw [h7]
  iapply retE
  iapply Hk
  isplitr [HO]
  · isplitl [V1]; · iexact V1
    isplitl [V2]; · iexact V2
    isplitl [V3]; · iexact V3
    isplitl [Y1]; · iexact Y1
    isplitl [Y2]; · iexact Y2
    isplitl [Y3]; · iexact Y3
    isplitl [OU]; · iexact OU
    iexact Z0
  iexact HO

end Cert.KernelIdeal.Moe
end
-- ==== Proof.KI.Waits.lean ====
/-
The parts of the body that wait.
-/
module

public import proofs.«01_k».proof.Proof.KI.Text

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem text16 (v20 v24 v321 : BitVec 32) :
    k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v321 0#32 =
      gRP (Scalar.cmpi .ne (Scalar.extui (Scalar.andi (Scalar.cmpi .sge v321 0#32) (Scalar.cmpi .sle v321 3#32)) : BitVec 32) 0#32 = 1#1) 1 2 (by decide) (
      gRP (Scalar.cmpi .ne (Scalar.extui (Scalar.andi (Scalar.cmpi .sge (Scalar.addi v20 0#32) 0#32) (Scalar.cmpi .sle (Scalar.addi v20 0#32) 3#32)) : BitVec 32) 0#32 = 1#1) 1 3 (by decide) (
      gRP (Scalar.cmpi .ne (Scalar.extui (Scalar.andi (Scalar.cmpi .sge (Scalar.addi v20 1#32) 0#32) (Scalar.cmpi .sle (Scalar.addi v20 1#32) 3#32)) : BitVec 32) 0#32 = 1#1) 1 4 (by decide) (
      gRP (Scalar.cmpi .ne (Scalar.extui (Scalar.andi (Scalar.cmpi .sge (Scalar.addi v20 2#32) 0#32) (Scalar.cmpi .sle (Scalar.addi v20 2#32) 3#32)) : BitVec 32) 0#32 = 1#1) 1 5 (by decide) (
      gRP (Scalar.cmpi .ne (Scalar.extui (Scalar.andi (Scalar.cmpi .sge (Scalar.addi v20 3#32) 0#32) (Scalar.cmpi .sle (Scalar.addi v20 3#32) 3#32)) : BitVec 32) 0#32 = 1#1) 1 6 (by decide) (
      Pure.pure (Scalar.extui (Scalar.andi (Scalar.cmpi .sge (Scalar.addi v20 4294967293#32) 0#32) (Scalar.cmpi .sle (Scalar.addi v20 4294967293#32) 3#32)))))))) := by
  rw [k0_part16_eq_skeleton]
  rfl

theorem part16 (c : Dev nD) (v20 v24 v321 : BitVec 32)
    (c2 : Scalar.cmpi .ne (Scalar.extui (Scalar.andi (Scalar.cmpi .sge v321 0#32) (Scalar.cmpi .sle v321 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (c6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    {Q : BitVec 32 → sProp 𝕄} :
    iprop(PER m ρ K ∗ (RP m ρ c 1 2 ∗ RP m ρ c 1 3 ∗ RP m ρ c 1 4 ∗ RP m ρ c 1 5 ∗ RP m ρ c 1 6) ∗ owesE c ([]))
      ⊢ iprop((((RP' m ρ c 1 2 ∗ RP' m ρ c 1 3 ∗ RP' m ρ c 1 4 ∗ RP' m ρ c 1 5 ∗ RP' m ρ c 1 6) ∗ owesE c ([])) -∗ Q (Scalar.extui (Scalar.andi (Scalar.cmpi .sge (Scalar.addi v20 4294967293#32) 0#32) (Scalar.cmpi .sle (Scalar.addi v20 4294967293#32) 3#32)))) -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v321 0#32) Q) := by
  rw [text16]
  iintro ⟨#HP, ⟨R12, R13, R14, R15, R16⟩, HO⟩ Hk
  iapply (xRP m ρ K 1 2 (.inl rfl) (by decide) c2) $$ [R12 HO]
  · isplitr; · iexact HP
    isplitl [R12]; · iexact R12
    iexact HO
  iintro ⟨R12, HO⟩
  iapply (xRP m ρ K 1 3 (.inl rfl) (by decide) c3) $$ [R13 HO]
  · isplitr; · iexact HP
    isplitl [R13]; · iexact R13
    iexact HO
  iintro ⟨R13, HO⟩
  iapply (xRP m ρ K 1 4 (.inl rfl) (by decide) c4) $$ [R14 HO]
  · isplitr; · iexact HP
    isplitl [R14]; · iexact R14
    iexact HO
  iintro ⟨R14, HO⟩
  iapply (xRP m ρ K 1 5 (.inl rfl) (by decide) c5) $$ [R15 HO]
  · isplitr; · iexact HP
    isplitl [R15]; · iexact R15
    iexact HO
  iintro ⟨R15, HO⟩
  iapply (xRP m ρ K 1 6 (.inl rfl) (by decide) c6) $$ [R16 HO]
  · isplitr; · iexact HP
    isplitl [R16]; · iexact R16
    iexact HO
  iintro ⟨R16, HO⟩
  iapply retE
  iapply Hk
  isplitr [HO]
  · isplitl [R12]; · iexact R12
    isplitl [R13]; · iexact R13
    isplitl [R14]; · iexact R14
    isplitl [R15]; · iexact R15
    iexact R16
  iexact HO

theorem text17 (v20 v24 v355 : BitVec 32) :
    k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v355 =
      gRP (Scalar.cmpi .ne v355 0#32 = 1#1) 3 0 (by decide) (
      gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 3 1 (by decide) (
      gRP (Scalar.cmpi .ne (Scalar.extui (Scalar.andi (Scalar.cmpi .sge (Scalar.addi v20 4294967295#32) 0#32) (Scalar.cmpi .sle (Scalar.addi v20 4294967295#32) 3#32)) : BitVec 32) 0#32 = 1#1) 3 2 (by decide) (
      gRP (Scalar.cmpi .ne (Scalar.extui (Scalar.andi (Scalar.cmpi .sge (Scalar.addi v20 0#32) 0#32) (Scalar.cmpi .sle (Scalar.addi v20 0#32) 3#32)) : BitVec 32) 0#32 = 1#1) 3 3 (by decide) (
      gRP (Scalar.cmpi .ne (Scalar.extui (Scalar.andi (Scalar.cmpi .sge (Scalar.addi v20 1#32) 0#32) (Scalar.cmpi .sle (Scalar.addi v20 1#32) 3#32)) : BitVec 32) 0#32 = 1#1) 3 4 (by decide) (
      gRP (Scalar.cmpi .ne (Scalar.extui (Scalar.andi (Scalar.cmpi .sge (Scalar.addi v20 2#32) 0#32) (Scalar.cmpi .sle (Scalar.addi v20 2#32) 3#32)) : BitVec 32) 0#32 = 1#1) 3 5 (by decide) (
      Pure.pure (Scalar.addi v20 3#32))))))) := by
  rw [k0_part17_eq_skeleton]
  rfl

theorem part17 (c : Dev nD) (v20 v24 v355 : BitVec 32)
    (c0 : Scalar.cmpi .ne v355 0#32 = 1#1 ↔ zv c 0 = true)
    (c1 : Scalar.cmpi .ne (Scalar.extui (Scalar.andi (Scalar.cmpi .sge (Scalar.addi v20 4294967294#32) 0#32) (Scalar.cmpi .sle (Scalar.addi v20 4294967294#32) 3#32)) : BitVec 32) 0#32 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    {Q : BitVec 32 → sProp 𝕄} :
    iprop(PER m ρ K ∗ (RP m ρ c 3 0 ∗ RP m ρ c 3 1 ∗ RP m ρ c 3 2 ∗ RP m ρ c 3 3 ∗ RP m ρ c 3 4 ∗ RP m ρ c 3 5) ∗ owesE c ([]))
      ⊢ iprop((((RP' m ρ c 3 0 ∗ RP' m ρ c 3 1 ∗ RP' m ρ c 3 2 ∗ RP' m ρ c 3 3 ∗ RP' m ρ c 3 4 ∗ RP' m ρ c 3 5) ∗ owesE c ([])) -∗ Q (Scalar.addi v20 3#32)) -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v355) Q) := by
  rw [text17]
  iintro ⟨#HP, ⟨R30, R31, R32, R33, R34, R35⟩, HO⟩ Hk
  iapply (xRP m ρ K 3 0 (.inr (.inr rfl)) (by decide) c0) $$ [R30 HO]
  · isplitr; · iexact HP
    isplitl [R30]; · iexact R30
    iexact HO
  iintro ⟨R30, HO⟩
  iapply (xRP m ρ K 3 1 (.inr (.inr rfl)) (by decide) c1) $$ [R31 HO]
  · isplitr; · iexact HP
    isplitl [R31]; · iexact R31
    iexact HO
  iintro ⟨R31, HO⟩
  iapply (xRP m ρ K 3 2 (.inr (.inr rfl)) (by decide) c2) $$ [R32 HO]
  · isplitr; · iexact HP
    isplitl [R32]; · iexact R32
    iexact HO
  iintro ⟨R32, HO⟩
  iapply (xRP m ρ K 3 3 (.inr (.inr rfl)) (by decide) c3) $$ [R33 HO]
  · isplitr; · iexact HP
    isplitl [R33]; · iexact R33
    iexact HO
  iintro ⟨R33, HO⟩
  iapply (xRP m ρ K 3 4 (.inr (.inr rfl)) (by decide) c4) $$ [R34 HO]
  · isplitr; · iexact HP
    isplitl [R34]; · iexact R34
    iexact HO
  iintro ⟨R34, HO⟩
  iapply (xRP m ρ K 3 5 (.inr (.inr rfl)) (by decide) c5) $$ [R35 HO]
  · isplitr; · iexact HP
    isplitl [R35]; · iexact R35
    iexact HO
  iintro ⟨R35, HO⟩
  iapply retE
  iapply Hk
  isplitr [HO]
  · isplitl [R30]; · iexact R30
    isplitl [R31]; · iexact R31
    isplitl [R32]; · iexact R32
    isplitl [R33]; · iexact R33
    isplitl [R34]; · iexact R34
    iexact R35
  iexact HO

theorem text18 (v20 v24 v387 : BitVec 32) :
    k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v387 =
      gRP (Scalar.cmpi .ne (Scalar.extui (Scalar.andi (Scalar.cmpi .sge v387 0#32) (Scalar.cmpi .sle v387 3#32)) : BitVec 32) 0#32 = 1#1) 3 6 (by decide) (
      gRP (Scalar.cmpi .ne (Scalar.extui (Scalar.andi (Scalar.cmpi .sge (Scalar.addi v20 4294967293#32) 0#32) (Scalar.cmpi .sle (Scalar.addi v20 4294967293#32) 3#32)) : BitVec 32) 0#32 = 1#1) 2 0 (by decide) (
      gRP (Scalar.cmpi .ne (Scalar.extui (Scalar.andi (Scalar.cmpi .sge (Scalar.addi v20 4294967294#32) 0#32) (Scalar.cmpi .sle (Scalar.addi v20 4294967294#32) 3#32)) : BitVec 32) 0#32 = 1#1) 2 1 (by decide) (
      gRP (Scalar.cmpi .ne (Scalar.extui (Scalar.andi (Scalar.cmpi .sge (Scalar.addi v20 4294967295#32) 0#32) (Scalar.cmpi .sle (Scalar.addi v20 4294967295#32) 3#32)) : BitVec 32) 0#32 = 1#1) 2 2 (by decide) (
      gRP (Scalar.cmpi .ne (Scalar.extui (Scalar.andi (Scalar.cmpi .sge (Scalar.addi v20 0#32) 0#32) (Scalar.cmpi .sle (Scalar.addi v20 0#32) 3#32)) : BitVec 32) 0#32 = 1#1) 2 3 (by decide) (
      Pure.pure (Scalar.andi (Scalar.cmpi .sge (Scalar.addi v20 1#32) 0#32) (Scalar.cmpi .sle (Scalar.addi v20 1#32) 3#32))))))) := by
  rw [k0_part18_eq_skeleton]
  rfl

theorem part18 (c : Dev nD) (v20 v24 v387 : BitVec 32)
    (c6 : Scalar.cmpi .ne (Scalar.extui (Scalar.andi (Scalar.cmpi .sge v387 0#32) (Scalar.cmpi .sle v387 3#32)) : BitVec 32) 0#32 = 1#1 ↔ zv c 6 = true)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    (c1 : Scalar.cmpi .ne (Scalar.extui (Scalar.andi (Scalar.cmpi .sge (Scalar.addi v20 4294967294#32) 0#32) (Scalar.cmpi .sle (Scalar.addi v20 4294967294#32) 3#32)) : BitVec 32) 0#32 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    {Q : BitVec 1 → sProp 𝕄} :
    iprop(PER m ρ K ∗ (RP m ρ c 3 6 ∗ RP m ρ c 2 0 ∗ RP m ρ c 2 1 ∗ RP m ρ c 2 2 ∗ RP m ρ c 2 3) ∗ owesE c ([]))
      ⊢ iprop((((RP' m ρ c 3 6 ∗ RP' m ρ c 2 0 ∗ RP' m ρ c 2 1 ∗ RP' m ρ c 2 2 ∗ RP' m ρ c 2 3) ∗ owesE c ([])) -∗ Q (Scalar.andi (Scalar.cmpi .sge (Scalar.addi v20 1#32) 0#32) (Scalar.cmpi .sle (Scalar.addi v20 1#32) 3#32))) -∗ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v387) Q) := by
  rw [text18]
  iintro ⟨#HP, ⟨R36, R20, R21, R22, R23⟩, HO⟩ Hk
  iapply (xRP m ρ K 3 6 (.inr (.inr rfl)) (by decide) c6) $$ [R36 HO]
  · isplitr; · iexact HP
    isplitl [R36]; · iexact R36
    iexact HO
  iintro ⟨R36, HO⟩
  iapply (xRP m ρ K 2 0 (.inr (.inl rfl)) (by decide) c0) $$ [R20 HO]
  · isplitr; · iexact HP
    isplitl [R20]; · iexact R20
    iexact HO
  iintro ⟨R20, HO⟩
  iapply (xRP m ρ K 2 1 (.inr (.inl rfl)) (by decide) c1) $$ [R21 HO]
  · isplitr; · iexact HP
    isplitl [R21]; · iexact R21
    iexact HO
  iintro ⟨R21, HO⟩
  iapply (xRP m ρ K 2 2 (.inr (.inl rfl)) (by decide) c2) $$ [R22 HO]
  · isplitr; · iexact HP
    isplitl [R22]; · iexact R22
    iexact HO
  iintro ⟨R22, HO⟩
  iapply (xRP m ρ K 2 3 (.inr (.inl rfl)) (by decide) c3) $$ [R23 HO]
  · isplitr; · iexact HP
    isplitl [R23]; · iexact R23
    iexact HO
  iintro ⟨R23, HO⟩
  iapply retE
  iapply Hk
  isplitr [HO]
  · isplitl [R36]; · iexact R36
    isplitl [R20]; · iexact R20
    isplitl [R21]; · iexact R21
    isplitl [R22]; · iexact R22
    iexact R23
  iexact HO

theorem text20 (v3 v20 : BitVec 32) (v452 : BitVec 1) :
    k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v452 =
      gZW (v452 = 1#1) 1 (by decide) (
      gZW (Scalar.cmpi .ne (Scalar.extui (Scalar.andi (Scalar.cmpi .sge (Scalar.addi v20 4294967295#32) 0#32) (Scalar.cmpi .sle (Scalar.addi v20 4294967295#32) 3#32)) : BitVec 32) 0#32 = 1#1) 2 (by decide) (
      gZW (Scalar.cmpi .ne (Scalar.extui (Scalar.andi (Scalar.cmpi .sge (Scalar.addi v20 1#32) 0#32) (Scalar.cmpi .sle (Scalar.addi v20 1#32) 3#32)) : BitVec 32) 0#32 = 1#1) 4 (by decide) (
      gZW (Scalar.cmpi .ne (Scalar.extui (Scalar.andi (Scalar.cmpi .sge (Scalar.addi v20 2#32) 0#32) (Scalar.cmpi .sle (Scalar.addi v20 2#32) 3#32)) : BitVec 32) 0#32 = 1#1) 5 (by decide) (
      gZW (Scalar.cmpi .ne (Scalar.extui (Scalar.andi (Scalar.cmpi .sge (Scalar.addi v20 3#32) 0#32) (Scalar.cmpi .sle (Scalar.addi v20 3#32) 3#32)) : BitVec 32) 0#32 = 1#1) 6 (by decide) (
      gPW (Scalar.cmpi .ne (Scalar.extui (Scalar.andi (Scalar.cmpi .sge (Scalar.addi v20 4294967293#32) 0#32) (Scalar.cmpi .sle (Scalar.addi v20 4294967293#32) 3#32)) : BitVec 32) 0#32 = 1#1) 0 (by decide) (
      Pure.pure ⟨(Scalar.addi v20 4294967294#32), Scalar.cmpi .sge (Scalar.addi v20 4294967294#32) 0#32⟩)))))) := by
  rw [k0_part20_eq_skeleton]
  rfl

theorem part20 (c : Dev nD) (v3 v20 : BitVec 32) (v452 : BitVec 1)
    (c1 : v452 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (c6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    {Q : (Σ' (v483 : BitVec 32), BitVec 1) → sProp 𝕄} :
    iprop(PER m ρ K ∗ (ZW m ρ c 1 ∗ ZW m ρ c 2 ∗ ZW m ρ c 4 ∗ ZW m ρ c 5 ∗ ZW m ρ c 6 ∗ PW m ρ c 0) ∗ owesE c ([]))
      ⊢ iprop((((ZW' m ρ c 1 ∗ ZW' m ρ c 2 ∗ ZW' m ρ c 4 ∗ ZW' m ρ c 5 ∗ ZW' m ρ c 6 ∗ PW' m ρ c 0) ∗ owesE c ([])) -∗ Q ⟨(Scalar.addi v20 4294967294#32), Scalar.cmpi .sge (Scalar.addi v20 4294967294#32) 0#32⟩) -∗ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v452) Q) := by
  rw [text20]
  iintro ⟨#HP, ⟨Z1, Z2, Z4, Z5, Z6, P0⟩, HO⟩ Hk
  iapply (xZW m ρ K 1 (by decide) (by decide) c1) $$ [Z1 HO]
  · isplitr; · iexact HP
    isplitl [Z1]; · iexact Z1
    iexact HO
  iintro ⟨Z1, HO⟩
  iapply (xZW m ρ K 2 (by decide) (by decide) c2) $$ [Z2 HO]
  · isplitr; · iexact HP
    isplitl [Z2]; · iexact Z2
    iexact HO
  iintro ⟨Z2, HO⟩
  iapply (xZW m ρ K 4 (by decide) (by decide) c4) $$ [Z4 HO]
  · isplitr; · iexact HP
    isplitl [Z4]; · iexact Z4
    iexact HO
  iintro ⟨Z4, HO⟩
  iapply (xZW m ρ K 5 (by decide) (by decide) c5) $$ [Z5 HO]
  · isplitr; · iexact HP
    isplitl [Z5]; · iexact Z5
    iexact HO
  iintro ⟨Z5, HO⟩
  iapply (xZW m ρ K 6 (by decide) (by decide) c6) $$ [Z6 HO]
  · isplitr; · iexact HP
    isplitl [Z6]; · iexact Z6
    iexact HO
  iintro ⟨Z6, HO⟩
  iapply (xPW m ρ K 0 _ c0) $$ [P0 HO]
  · isplitr; · iexact HP
    isplitl [P0]; · iexact P0
    iexact HO
  iintro ⟨P0, HO⟩
  iapply retE
  iapply Hk
  isplitr [HO]
  · isplitl [Z1]; · iexact Z1
    isplitl [Z2]; · iexact Z2
    isplitl [Z4]; · iexact Z4
    isplitl [Z5]; · iexact Z5
    isplitl [Z6]; · iexact Z6
    iexact P0
  iexact HO

theorem text21 (v20 v483 : BitVec 32) (v484 : BitVec 1) :
    k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v483 v484 =
      gPW (Scalar.cmpi .ne (Scalar.extui (Scalar.andi v484 (Scalar.cmpi .sle v483 3#32)) : BitVec 32) 0#32 = 1#1) 1 (by decide) (
      gPW (Scalar.cmpi .ne (Scalar.extui (Scalar.andi (Scalar.cmpi .sge (Scalar.addi v20 4294967295#32) 0#32) (Scalar.cmpi .sle (Scalar.addi v20 4294967295#32) 3#32)) : BitVec 32) 0#32 = 1#1) 2 (by decide) (
      gPW (Scalar.cmpi .ne (Scalar.extui (Scalar.andi (Scalar.cmpi .sge (Scalar.addi v20 0#32) 0#32) (Scalar.cmpi .sle (Scalar.addi v20 0#32) 3#32)) : BitVec 32) 0#32 = 1#1) 3 (by decide) (
      gPW (Scalar.cmpi .ne (Scalar.extui (Scalar.andi (Scalar.cmpi .sge (Scalar.addi v20 1#32) 0#32) (Scalar.cmpi .sle (Scalar.addi v20 1#32) 3#32)) : BitVec 32) 0#32 = 1#1) 4 (by decide) (
      gPW (Scalar.cmpi .ne (Scalar.extui (Scalar.andi (Scalar.cmpi .sge (Scalar.addi v20 2#32) 0#32) (Scalar.cmpi .sle (Scalar.addi v20 2#32) 3#32)) : BitVec 32) 0#32 = 1#1) 5 (by decide) (
      Pure.pure ⟨Scalar.extui (Scalar.andi (Scalar.cmpi .sge (Scalar.addi v20 3#32) 0#32) (Scalar.cmpi .sle (Scalar.addi v20 3#32) 3#32)), 0#32⟩))))) := by
  rw [k0_part21_eq_skeleton]
  rfl

theorem part21 (c : Dev nD) (v20 v483 : BitVec 32) (v484 : BitVec 1)
    (c1 : Scalar.cmpi .ne (Scalar.extui (Scalar.andi v484 (Scalar.cmpi .sle v483 3#32)) : BitVec 32) 0#32 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    {Q : (Σ' (v517 : BitVec 32), BitVec 32) → sProp 𝕄} :
    iprop(PER m ρ K ∗ (PW m ρ c 1 ∗ PW m ρ c 2 ∗ PW m ρ c 3 ∗ PW m ρ c 4 ∗ PW m ρ c 5) ∗ owesE c ([]))
      ⊢ iprop((((PW' m ρ c 1 ∗ PW' m ρ c 2 ∗ PW' m ρ c 3 ∗ PW' m ρ c 4 ∗ PW' m ρ c 5) ∗ owesE c ([])) -∗ Q ⟨Scalar.extui (Scalar.andi (Scalar.cmpi .sge (Scalar.addi v20 3#32) 0#32) (Scalar.cmpi .sle (Scalar.addi v20 3#32) 3#32)), 0#32⟩) -∗ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v483 v484) Q) := by
  rw [text21]
  iintro ⟨#HP, ⟨P1, P2, P3, P4, P5⟩, HO⟩ Hk
  iapply (xPW m ρ K 1 _ c1) $$ [P1 HO]
  · isplitr; · iexact HP
    isplitl [P1]; · iexact P1
    iexact HO
  iintro ⟨P1, HO⟩
  iapply (xPW m ρ K 2 _ c2) $$ [P2 HO]
  · isplitr; · iexact HP
    isplitl [P2]; · iexact P2
    iexact HO
  iintro ⟨P2, HO⟩
  iapply (xPW m ρ K 3 _ c3) $$ [P3 HO]
  · isplitr; · iexact HP
    isplitl [P3]; · iexact P3
    iexact HO
  iintro ⟨P3, HO⟩
  iapply (xPW m ρ K 4 _ c4) $$ [P4 HO]
  · isplitr; · iexact HP
    isplitl [P4]; · iexact P4
    iexact HO
  iintro ⟨P4, HO⟩
  iapply (xPW m ρ K 5 _ c5) $$ [P5 HO]
  · isplitr; · iexact HP
    isplitl [P5]; · iexact P5
    iexact HO
  iintro ⟨P5, HO⟩
  iapply retE
  iapply Hk
  isplitr [HO]
  · isplitl [P1]; · iexact P1
    isplitl [P2]; · iexact P2
    isplitl [P3]; · iexact P3
    isplitl [P4]; · iexact P4
    iexact P5
  iexact HO

end Cert.KernelIdeal.Moe
end
-- ==== Proof.KI.Ends.lean ====
/-
Rows of positions and rights to wait, and the scratch put together again.
-/
module

public import proofs.«01_k».proof.Proof.KI.Split

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- A row of positions, of rights to wait, and of semaphores at nought. -/
def POS (c : Dev nD) (A : ℕ) : sProp 𝕄 := bigSep (Finset.range 7) fun s => pos A c s
def CR (c : Dev nD) (A : ℕ) : sProp 𝕄 := bigSep (Finset.range 7) fun s => gd (vd c A s) (cred (tallyAt (cell A c s) () N))
def SV (c : Dev nD) (A : ℕ) : sProp 𝕄 := bigSep (Finset.range 7) fun s => semVal (cell A c s) 0

theorem mkRP (c : Dev nD) (k : ℕ) : iprop(POS c (rpA k) ∗ CR c (rpA k) ∗ INV m ρ c k) ⊢ bigSep (Finset.range 7) fun s => RP m ρ c k s := by
  unfold POS CR INV
  have e : iprop((bigSep (Finset.range 7) fun s => (pos (rpA k) c s : sProp 𝕄)) ∗ (bigSep (Finset.range 7) fun s => gd (vd c (rpA k) s) (cred (tallyAt (cell (rpA k) c s) () N)))
      ∗ (bigSep (Finset.range 7) fun s => gd (!zv c s) (slotY m ρ c (7 * k + s) fullShare)))
      = bigSep (Finset.range 7) fun s => iprop(pos (rpA k) c s ∗ gd (vd c (rpA k) s) (cred (tallyAt (cell (rpA k) c s) () N)) ∗ gd (!zv c s) (slotY m ρ c (7 * k + s) fullShare)) := by
    rw [show (bigSep (Finset.range 7) fun s => iprop(pos (rpA k) c s ∗ gd (vd c (rpA k) s) (cred (tallyAt (cell (rpA k) c s) () N)) ∗ gd (!zv c s) (slotY m ρ c (7 * k + s) fullShare)))
      = iprop((bigSep (Finset.range 7) fun s => (pos (rpA k) c s : sProp 𝕄)) ∗ (bigSep (Finset.range 7) fun s => iprop(gd (vd c (rpA k) s) (cred (tallyAt (cell (rpA k) c s) () N)) ∗ gd (!zv c s) (slotY m ρ c (7 * k + s) fullShare)))) from bigSep_sep _ _ _]
    rw [show (bigSep (Finset.range 7) fun s => iprop(gd (vd c (rpA k) s) (cred (tallyAt (cell (rpA k) c s) () N)) ∗ gd (!zv c s) (slotY m ρ c (7 * k + s) fullShare)))
      = iprop((bigSep (Finset.range 7) fun s => gd (vd c (rpA k) s) (cred (tallyAt (cell (rpA k) c s) () N))) ∗ (bigSep (Finset.range 7) fun s => gd (!zv c s) (slotY m ρ c (7 * k + s) fullShare))) from bigSep_sep _ _ _]
  rw [e]
  refine bigSep_mono fun s _ => ?_
  unfold RP
  rw [vd_rp]
  show iprop(pos (rpA k) c s ∗ gd (zv c s) (cred (tallyAt (cell (rpA k) c s) () N)) ∗ gd (!zv c s) (slotY m ρ c (7 * k + s) fullShare)) ⊢ iprop(pos (rpA k) c s ∗ sel (zv c s) (cred (tallyAt (cell (rpA k) c s) () N)) (slotY m ρ c (7 * k + s) fullShare))
  iintro ⟨A, B⟩
  isplitl [A]; · iexact A
  iapply (sel_gd (F := F)); iexact B

theorem mkRZ (c : Dev nD) (s : ℕ) (hs : s ≠ 3) : iprop(pos 1 c s ∗ gd (vd c 1 s) (cred (tallyAt (cell 1 c s) () N)) ∗ gd (!zv c s) (slotY m ρ c (7 * 0 + s) fullShare) ∗ PT c 1 s ∗ PT c 3 s ∗ PT c 2 s) ⊢ RZ m ρ c s := by
  unfold RZ
  rw [vd_z c 1 s (by decide) hs, show 7 * 0 + s = s by omega]
  iintro ⟨A, B, C, D⟩
  isplitl [A]; · iexact A
  isplitl [B C]
  · iapply (sel_gd (F := F))
    isplitl [B]; · iexact B
    iexact C
  iexact D

theorem whole_slotsY (c : Dev nD) : iprop((bigSep (Finset.range 7) fun i => slotY m ρ c i fullShare) ∗ (bigSep (Finset.range 7) fun i => slotY m ρ c (7 * 1 + i) fullShare) ∗ (bigSep (Finset.range 7) fun i => slotY m ρ c (7 * 2 + i) fullShare) ∗ (bigSep (Finset.range 7) fun i => slotY m ρ c (7 * 3 + i) fullShare)) ⊢ (scrL c ↦{fullShare} Yall m ρ c : sProp 𝕄) :=
  (whole_slots (F := F) c (Yall m ρ c)).2

/-- What the waits leave, put together again. -/
theorem fin_all (c : Dev nD) : iprop((semVal (cell 1 c 0) 0 ∗ slotY m ρ c 0 (Transfers.shareDrop fullShare 4) ∗ semVal (cell 1 c 1) 0 ∗ slotY m ρ c 1 (Transfers.shareDrop fullShare 4) ∗ semVal (cell 1 c 2) 0 ∗ slotY m ρ c 2 (Transfers.shareDrop fullShare 4) ∗ semVal (cell 1 c 4) 0 ∗ slotY m ρ c 4 (Transfers.shareDrop fullShare 4) ∗ semVal (cell 1 c 5) 0 ∗ slotY m ρ c 5 (Transfers.shareDrop fullShare 4) ∗ semVal (cell 1 c 6) 0 ∗ slotY m ρ c 6 (Transfers.shareDrop fullShare 4) ∗ semVal (cell 0 c 0) 0 ∗ slotY m ρ c 3 (tk (4 + 0)) ∗ semVal (cell 0 c 1) 0 ∗ slotY m ρ c 3 (tk (4 + 1)) ∗ semVal (cell 0 c 2) 0 ∗ slotY m ρ c 3 (tk (4 + 2)) ∗ semVal (cell 0 c 4) 0 ∗ slotY m ρ c 3 (tk (4 + 4)) ∗ semVal (cell 0 c 5) 0 ∗ slotY m ρ c 3 (tk (4 + 5)) ∗ semVal (cell 0 c 6) 0 ∗ slotY m ρ c 3 (tk (4 + 6)) ∗ slotY m ρ c 3 (Transfers.shareDrop fullShare 11) ∗ slotY m ρ c 3 (tk (4 + 3)) ∗ semVal (cell 0 c 3) 0 ∗ semVal (cell 1 c 3) 0) ∗ ((bigSep (Finset.range 7) fun i => slotY m ρ c i (tk 0)) ∗ (bigSep (Finset.range 7) fun i => semVal (cell (rpA 1) c i) 0) ∗ (bigSep (Finset.range 7) fun i => semVal (cell (rpA 2) c i) 0) ∗ (bigSep (Finset.range 7) fun i => semVal (cell (rpA 3) c i) 0) ∗ (bigSep (Finset.range 7) fun i => slotY m ρ c (7 * 1 + i) fullShare) ∗ (bigSep (Finset.range 7) fun i => slotY m ρ c (7 * 2 + i) fullShare) ∗ (bigSep (Finset.range 7) fun i => slotY m ρ c (7 * 3 + i) fullShare)) ∗ ((semVal (cell 2 c 0) 0 ∗ slotY m ρ c 0 (tk 1)) ∗ (semVal (cell 4 c 0) 0 ∗ slotY m ρ c 0 (tk 3)) ∗ (semVal (cell 6 c 0) 0 ∗ slotY m ρ c 0 (tk 2))) ∗ ((semVal (cell 2 c 1) 0 ∗ slotY m ρ c 1 (tk 1)) ∗ (semVal (cell 4 c 1) 0 ∗ slotY m ρ c 1 (tk 3)) ∗ (semVal (cell 6 c 1) 0 ∗ slotY m ρ c 1 (tk 2))) ∗ ((semVal (cell 2 c 2) 0 ∗ slotY m ρ c 2 (tk 1)) ∗ (semVal (cell 4 c 2) 0 ∗ slotY m ρ c 2 (tk 3)) ∗ (semVal (cell 6 c 2) 0 ∗ slotY m ρ c 2 (tk 2))) ∗ ((semVal (cell 2 c 3) 0 ∗ slotY m ρ c 3 (tk 1)) ∗ (semVal (cell 4 c 3) 0 ∗ slotY m ρ c 3 (tk 3)) ∗ (semVal (cell 6 c 3) 0 ∗ slotY m ρ c 3 (tk 2))) ∗ ((semVal (cell 2 c 4) 0 ∗ slotY m ρ c 4 (tk 1)) ∗ (semVal (cell 4 c 4) 0 ∗ slotY m ρ c 4 (tk 3)) ∗ (semVal (cell 6 c 4) 0 ∗ slotY m ρ c 4 (tk 2))) ∗ ((semVal (cell 2 c 5) 0 ∗ slotY m ρ c 5 (tk 1)) ∗ (semVal (cell 4 c 5) 0 ∗ slotY m ρ c 5 (tk 3)) ∗ (semVal (cell 6 c 5) 0 ∗ slotY m ρ c 5 (tk 2))) ∗ ((semVal (cell 2 c 6) 0 ∗ slotY m ρ c 6 (tk 1)) ∗ (semVal (cell 4 c 6) 0 ∗ slotY m ρ c 6 (tk 3)) ∗ (semVal (cell 6 c 6) 0 ∗ slotY m ρ c 6 (tk 2))))
    ⊢ iprop((scrL c ↦{fullShare} Yall m ρ c) ∗ SV c 0 ∗ SV c 1 ∗ SV c 2 ∗ SV c 3 ∗ SV c 4 ∗ SV c 5 ∗ SV c 6 ∗ SV c 7) := by
  iintro ⟨⟨RV0, DR0, RV1, DR1, RV2, DR2, RV4, DR4, RV5, DR5, RV6, DR6, ZV0, ZS0, ZV1, ZS1, ZV2, ZS2, ZV4, ZS4, ZV5, ZS5, ZV6, ZS6, D11, T3, E0, E1⟩, ⟨LO, V1, V2, V3, Y1, Y2, Y3⟩, ⟨⟨A20, B10⟩, ⟨A40, B30⟩, ⟨A60, B20⟩⟩, ⟨⟨A21, B11⟩, ⟨A41, B31⟩, ⟨A61, B21⟩⟩, ⟨⟨A22, B12⟩, ⟨A42, B32⟩, ⟨A62, B22⟩⟩, ⟨⟨A23, B13⟩, ⟨A43, B33⟩, ⟨A63, B23⟩⟩, ⟨⟨A24, B14⟩, ⟨A44, B34⟩, ⟨A64, B24⟩⟩, ⟨⟨A25, B15⟩, ⟨A45, B35⟩, ⟨A65, B25⟩⟩, ⟨⟨A26, B16⟩, ⟨A46, B36⟩, ⟨A66, B26⟩⟩⟩
  ihave LO := (range7 (F := F) fun i => slotY m ρ c i (tk 0)).1 $$ LO
  icases LO with ⟨L0, L1, L2, L3, L4, L5, L6⟩
  ihave W0 := (split4 m ρ c 0).2 $$ [DR0 L0 B10 B20 B30]
  · isplitl [DR0]; · iexact DR0
    isplitl [L0]; · iexact L0
    isplitl [B10]; · iexact B10
    isplitl [B20]; · iexact B20
    iexact B30
  ihave W1 := (split4 m ρ c 1).2 $$ [DR1 L1 B11 B21 B31]
  · isplitl [DR1]; · iexact DR1
    isplitl [L1]; · iexact L1
    isplitl [B11]; · iexact B11
    isplitl [B21]; · iexact B21
    iexact B31
  ihave W2 := (split4 m ρ c 2).2 $$ [DR2 L2 B12 B22 B32]
  · isplitl [DR2]; · iexact DR2
    isplitl [L2]; · iexact L2
    isplitl [B12]; · iexact B12
    isplitl [B22]; · iexact B22
    iexact B32
  ihave W3 := (split11 m ρ c 3).2 $$ [D11 L3 B13 B23 B33 T3 ZS0 ZS1 ZS2 ZS4 ZS5 ZS6]
  · isplitl [D11]; · iexact D11
    isplitl [L3 B13 B23 B33]
    · isplitl [L3]; · iexact L3
      isplitl [B13]; · iexact B13
      isplitl [B23]; · iexact B23
      iexact B33
    isplitl [ZS0]; · iexact ZS0
    isplitl [ZS1]; · iexact ZS1
    isplitl [ZS2]; · iexact ZS2
    isplitl [T3]; · iexact T3
    isplitl [ZS4]; · iexact ZS4
    isplitl [ZS5]; · iexact ZS5
    iexact ZS6
  ihave W4 := (split4 m ρ c 4).2 $$ [DR4 L4 B14 B24 B34]
  · isplitl [DR4]; · iexact DR4
    isplitl [L4]; · iexact L4
    isplitl [B14]; · iexact B14
    isplitl [B24]; · iexact B24
    iexact B34
  ihave W5 := (split4 m ρ c 5).2 $$ [DR5 L5 B15 B25 B35]
  · isplitl [DR5]; · iexact DR5
    isplitl [L5]; · iexact L5
    isplitl [B15]; · iexact B15
    isplitl [B25]; · iexact B25
    iexact B35
  ihave W6 := (split4 m ρ c 6).2 $$ [DR6 L6 B16 B26 B36]
  · isplitl [DR6]; · iexact DR6
    isplitl [L6]; · iexact L6
    isplitl [B16]; · iexact B16
    isplitl [B26]; · iexact B26
    iexact B36
  isplitl [Y1 Y2 Y3 W0 W1 W2 W3 W4 W5 W6]
  · iapply (whole_slotsY m ρ c)
    isplitl [W0 W1 W2 W3 W4 W5 W6]
    · iapply (range7 (F := F) fun i => slotY m ρ c i fullShare).2
      isplitl [W0]; · iexact W0
      isplitl [W1]; · iexact W1
      isplitl [W2]; · iexact W2
      isplitl [W3]; · iexact W3
      isplitl [W4]; · iexact W4
      isplitl [W5]; · iexact W5
      iexact W6
    isplitl [Y1]; · iexact Y1
    isplitl [Y2]; · iexact Y2
    iexact Y3
  isplitl [ZV0 ZV1 ZV2 E0 ZV4 ZV5 ZV6]
  · unfold SV
    iapply (range7 (F := F) fun s => semVal (cell 0 c s) 0).2
    isplitl [ZV0]; · iexact ZV0
    isplitl [ZV1]; · iexact ZV1
    isplitl [ZV2]; · iexact ZV2
    isplitl [E0]; · iexact E0
    isplitl [ZV4]; · iexact ZV4
    isplitl [ZV5]; · iexact ZV5
    iexact ZV6
  isplitl [RV0 RV1 RV2 E1 RV4 RV5 RV6]
  · unfold SV
    iapply (range7 (F := F) fun s => semVal (cell 1 c s) 0).2
    isplitl [RV0]; · iexact RV0
    isplitl [RV1]; · iexact RV1
    isplitl [RV2]; · iexact RV2
    isplitl [E1]; · iexact E1
    isplitl [RV4]; · iexact RV4
    isplitl [RV5]; · iexact RV5
    iexact RV6
  isplitl [A20 A21 A22 A23 A24 A25 A26]
  · unfold SV
    iapply (range7 (F := F) fun s => semVal (cell 2 c s) 0).2
    isplitl [A20]; · iexact A20
    isplitl [A21]; · iexact A21
    isplitl [A22]; · iexact A22
    isplitl [A23]; · iexact A23
    isplitl [A24]; · iexact A24
    isplitl [A25]; · iexact A25
    iexact A26
  isplitl [V1]
  · iapply (Entails.of_eq (show (bigSep (Finset.range 7) fun i => semVal (cell (rpA 1) c i) 0 : sProp 𝕄) = SV c 3 from rfl))
    iexact V1
  isplitl [A40 A41 A42 A43 A44 A45 A46]
  · unfold SV
    iapply (range7 (F := F) fun s => semVal (cell 4 c s) 0).2
    isplitl [A40]; · iexact A40
    isplitl [A41]; · iexact A41
    isplitl [A42]; · iexact A42
    isplitl [A43]; · iexact A43
    isplitl [A44]; · iexact A44
    isplitl [A45]; · iexact A45
    iexact A46
  isplitl [V3]
  · iapply (Entails.of_eq (show (bigSep (Finset.range 7) fun i => semVal (cell (rpA 3) c i) 0 : sProp 𝕄) = SV c 5 from rfl))
    iexact V3
  isplitl [A60 A61 A62 A63 A64 A65 A66]
  · unfold SV
    iapply (range7 (F := F) fun s => semVal (cell 6 c s) 0).2
    isplitl [A60]; · iexact A60
    isplitl [A61]; · iexact A61
    isplitl [A62]; · iexact A62
    isplitl [A63]; · iexact A63
    isplitl [A64]; · iexact A64
    isplitl [A65]; · iexact A65
    iexact A66
  iapply (Entails.of_eq (show (bigSep (Finset.range 7) fun i => semVal (cell (rpA 2) c i) 0 : sProp 𝕄) = SV c 7 from rfl))
  iexact V2

end Cert.KernelIdeal.Moe
end
-- ==== Proof.KI.Body.lean ====
/-
The body.
-/
module

public import proofs.«01_k».proof.Proof.KI.S7
public import proofs.«01_k».proof.Proof.KI.S8
public import proofs.«01_k».proof.Proof.KI.S11
public import proofs.«01_k».proof.Proof.KI.S12
public import proofs.«01_k».proof.Proof.KI.S13
public import proofs.«01_k».proof.Proof.KI.S14
public import proofs.«01_k».proof.Proof.KI.S15
public import proofs.«01_k».proof.Proof.KI.S19
public import proofs.«01_k».proof.Proof.KI.Waits
public import proofs.«01_k».proof.Proof.KI.Ends

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The body as a chain of its parts -/

def bTail (v517 cz : BitVec 32) : PG (F := F) PUnit := gPW (Scalar.cmpi .ne v517 cz = 1#1) 6 (by decide) (Pure.pure ⟨⟩)
def b21 (v20 v483 : BitVec 32) (v484 : BitVec 1) : PG (F := F) PUnit := k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v483 v484 >>= fun r => bTail r.1 r.2
def b20 (v3 v20 : BitVec 32) (v452 : BitVec 1) : PG (F := F) PUnit := k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v452 >>= fun r => b21 v20 r.1 r.2
def b19 (v3 v20 v24 : BitVec 32) (v268 : FVec F S1344x1024 .bf16) (v308 : FVec F S1024x1024 .f32) (v420 : BitVec 1) : PG (F := F) PUnit := k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v24 v268 v308 v420 >>= fun r => b20 v3 v20 r
def b18 (v3 v20 v24 : BitVec 32) (v268 : FVec F S1344x1024 .bf16) (v308 : FVec F S1024x1024 .f32) (v387 : BitVec 32) : PG (F := F) PUnit := k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v387 >>= fun r => b19 v3 v20 v24 v268 v308 r
def b17 (v3 v20 v24 : BitVec 32) (v268 : FVec F S1344x1024 .bf16) (v308 : FVec F S1024x1024 .f32) (v355 : BitVec 32) : PG (F := F) PUnit := k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v355 >>= fun r => b18 v3 v20 v24 v268 v308 r
def b16 (v3 v20 v24 : BitVec 32) (v268 : FVec F S1344x1024 .bf16) (v308 : FVec F S1024x1024 .f32) (v321 cz : BitVec 32) : PG (F := F) PUnit := k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v321 cz >>= fun r => b17 v3 v20 v24 v268 v308 r
def b15 (d0 : Dev nD) (v3 v20 v24 v28 v32 : BitVec 32) (v268 : FVec F S1344x1024 .bf16) (v288 v289 : BitVec 1) : PG (F := F) PUnit := k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v20 v24 v28 v32 v268 v288 v289 >>= fun r => b16 v3 v20 v24 v268 r.1 r.2.1 r.2.2
def b14 (d0 : Dev nD) (v3 v20 v24 v28 v32 : BitVec 32) (v165 : IVec S1x1024 32) (v253 : BitVec 32) : PG (F := F) PUnit := k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v20 v24 v28 v32 v165 v253 >>= fun r => b15 d0 v3 v20 v24 v28 v32 r.1 r.2.1 r.2.2
def b13 (d0 : Dev nD) (v3 v20 v24 v28 v32 : BitVec 32) (v165 : IVec S1x1024 32) : PG (F := F) PUnit := k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v3 v20 v24 v28 v32 >>= fun r => b14 d0 v3 v20 v24 v28 v32 v165 r
def b12 (d0 : Dev nD) (v3 v20 v24 v28 v32 : BitVec 32) (v37 : Sems sig S_) (v165 : IVec S1x1024 32) (v193 : FVec F S48x1024 .bf16) (v194 : Vec F S1x48x1024 .bf16) : PG (F := F) PUnit := k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v3 v20 v37 v193 v194 >>= fun _ => b13 d0 v3 v20 v24 v28 v32 v165
def b11 (d0 : Dev nD) (v3 v20 v24 v28 v32 : BitVec 32) (v37 : Sems sig S_) (v77 : IVec S1x1024 1) (v121 v158 v159 : IVec S1x1024 32) : PG (F := F) PUnit := k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v77 v121 v158 v159 >>= fun r => b12 d0 v3 v20 v24 v28 v32 v37 r.1 r.2.1 r.2.2
def b10 (d0 : Dev nD) (v3 v20 v24 v28 v32 : BitVec 32) (v37 : Sems sig S_) (v77 : IVec S1x1024 1) (v78 v102 : IVec S1x1024 32) (v104 : BitVec 32) (v106 : IVec S1x1024 32) (v108 v110 v112 : IVec S1x1024 1) : PG (F := F) PUnit :=
  k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v78 v102 v104 v106 v108 v110 v112 >>= fun r => b11 d0 v3 v20 v24 v28 v32 v37 v77 r.1 r.2.1 r.2.2
def b9 (d0 : Dev nD) (v3 v20 v24 v28 v32 : BitVec 32) (v37 : Sems sig S_) (v58 : IVec S1x1024 32) (v64 : FVec F S64x1024 .bf16) (v68 : IVec S1024x1024 32) : PG (F := F) PUnit :=
  k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v58 v64 v68 >>= fun r => b10 d0 v3 v20 v24 v28 v32 v37 r.1 r.2.1 r.2.2.1 r.2.2.2.1 r.2.2.2.2.1 r.2.2.2.2.2.1 r.2.2.2.2.2.2.1 r.2.2.2.2.2.2.2
def b8 (d0 : Dev nD) (v3 v20 v24 v28 v32 : BitVec 32) (v33 : FVec F S28x48x1024 .bf16) : PG (F := F) PUnit := k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 d0 v3 v20 v24 v28 v32 v33 >>= fun r => b9 d0 v3 v20 v24 v28 v32 r.1 r.2.1 r.2.2.1 r.2.2.2
def b7 : PG (F := F) PUnit := k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 >>= fun r => b8 r.1 r.2.1 r.2.2.1 r.2.2.2.1 r.2.2.2.2.1 r.2.2.2.2.2.1 r.2.2.2.2.2.2
theorem textBody : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 = b7 := by
  rw [cc0_body_eq_skeleton]
  rfl

theorem tup2 {c : Dev nD} {T0 T1 β : Type} {p : PG (F := F) (Σ' (_ : T0), T1)} (J : T0 → T1 → PG (F := F) β)
    {a0 : T0} {a1 : T1} {P R : sProp 𝕄} {Q : β → sProp 𝕄}
    (h : ∀ Q' : (Σ' (_ : T0), T1) → sProp 𝕄, P ⊢ iprop((R -∗ Q' ⟨a0, a1⟩) -∗ WP c p Q')) :
    P ⊢ iprop((R -∗ WP c (J a0 a1) Q) -∗ WP c (p >>= fun r => J r.1 r.2) Q) := by
  have e := h (fun r => WP c (J r.1 r.2) Q)
  iintro H Hk
  iapply bindE
  iapply e $$ H
  iexact Hk
theorem ptup2 {c : Dev nD} {T0 T1 β : Type} (J : T0 → T1 → PG (F := F) β)
    {a0 : T0} {a1 : T1} {Q : β → sProp 𝕄} :
    WP c (J a0 a1) Q ⊢ WP c ((Pure.pure ⟨a0, a1⟩ : PG (F := F) (Σ' (_ : T0), T1)) >>= fun r => J r.1 r.2) Q := by
  exact Entails.of_eq rfl
theorem tup3 {c : Dev nD} {T0 T1 T2 β : Type} {p : PG (F := F) (Σ' (_ : T0) (_ : T1), T2)} (J : T0 → T1 → T2 → PG (F := F) β)
    {a0 : T0} {a1 : T1} {a2 : T2} {P R : sProp 𝕄} {Q : β → sProp 𝕄}
    (h : ∀ Q' : (Σ' (_ : T0) (_ : T1), T2) → sProp 𝕄, P ⊢ iprop((R -∗ Q' ⟨a0, a1, a2⟩) -∗ WP c p Q')) :
    P ⊢ iprop((R -∗ WP c (J a0 a1 a2) Q) -∗ WP c (p >>= fun r => J r.1 r.2.1 r.2.2) Q) := by
  have e := h (fun r => WP c (J r.1 r.2.1 r.2.2) Q)
  iintro H Hk
  iapply bindE
  iapply e $$ H
  iexact Hk
theorem ptup3 {c : Dev nD} {T0 T1 T2 β : Type} (J : T0 → T1 → T2 → PG (F := F) β)
    {a0 : T0} {a1 : T1} {a2 : T2} {Q : β → sProp 𝕄} :
    WP c (J a0 a1 a2) Q ⊢ WP c ((Pure.pure ⟨a0, a1, a2⟩ : PG (F := F) (Σ' (_ : T0) (_ : T1), T2)) >>= fun r => J r.1 r.2.1 r.2.2) Q := by
  exact Entails.of_eq rfl
theorem tup4 {c : Dev nD} {T0 T1 T2 T3 β : Type} {p : PG (F := F) (Σ' (_ : T0) (_ : T1) (_ : T2), T3)} (J : T0 → T1 → T2 → T3 → PG (F := F) β)
    {a0 : T0} {a1 : T1} {a2 : T2} {a3 : T3} {P R : sProp 𝕄} {Q : β → sProp 𝕄}
    (h : ∀ Q' : (Σ' (_ : T0) (_ : T1) (_ : T2), T3) → sProp 𝕄, P ⊢ iprop((R -∗ Q' ⟨a0, a1, a2, a3⟩) -∗ WP c p Q')) :
    P ⊢ iprop((R -∗ WP c (J a0 a1 a2 a3) Q) -∗ WP c (p >>= fun r => J r.1 r.2.1 r.2.2.1 r.2.2.2) Q) := by
  have e := h (fun r => WP c (J r.1 r.2.1 r.2.2.1 r.2.2.2) Q)
  iintro H Hk
  iapply bindE
  iapply e $$ H
  iexact Hk
theorem ptup4 {c : Dev nD} {T0 T1 T2 T3 β : Type} (J : T0 → T1 → T2 → T3 → PG (F := F) β)
    {a0 : T0} {a1 : T1} {a2 : T2} {a3 : T3} {Q : β → sProp 𝕄} :
    WP c (J a0 a1 a2 a3) Q ⊢ WP c ((Pure.pure ⟨a0, a1, a2, a3⟩ : PG (F := F) (Σ' (_ : T0) (_ : T1) (_ : T2), T3)) >>= fun r => J r.1 r.2.1 r.2.2.1 r.2.2.2) Q := by
  exact Entails.of_eq rfl
theorem tup7 {c : Dev nD} {T0 T1 T2 T3 T4 T5 T6 β : Type} {p : PG (F := F) (Σ' (_ : T0) (_ : T1) (_ : T2) (_ : T3) (_ : T4) (_ : T5), T6)} (J : T0 → T1 → T2 → T3 → T4 → T5 → T6 → PG (F := F) β)
    {a0 : T0} {a1 : T1} {a2 : T2} {a3 : T3} {a4 : T4} {a5 : T5} {a6 : T6} {P R : sProp 𝕄} {Q : β → sProp 𝕄}
    (h : ∀ Q' : (Σ' (_ : T0) (_ : T1) (_ : T2) (_ : T3) (_ : T4) (_ : T5), T6) → sProp 𝕄, P ⊢ iprop((R -∗ Q' ⟨a0, a1, a2, a3, a4, a5, a6⟩) -∗ WP c p Q')) :
    P ⊢ iprop((R -∗ WP c (J a0 a1 a2 a3 a4 a5 a6) Q) -∗ WP c (p >>= fun r => J r.1 r.2.1 r.2.2.1 r.2.2.2.1 r.2.2.2.2.1 r.2.2.2.2.2.1 r.2.2.2.2.2.2) Q) := by
  have e := h (fun r => WP c (J r.1 r.2.1 r.2.2.1 r.2.2.2.1 r.2.2.2.2.1 r.2.2.2.2.2.1 r.2.2.2.2.2.2) Q)
  iintro H Hk
  iapply bindE
  iapply e $$ H
  iexact Hk
theorem ptup7 {c : Dev nD} {T0 T1 T2 T3 T4 T5 T6 β : Type} (J : T0 → T1 → T2 → T3 → T4 → T5 → T6 → PG (F := F) β)
    {a0 : T0} {a1 : T1} {a2 : T2} {a3 : T3} {a4 : T4} {a5 : T5} {a6 : T6} {Q : β → sProp 𝕄} :
    WP c (J a0 a1 a2 a3 a4 a5 a6) Q ⊢ WP c ((Pure.pure ⟨a0, a1, a2, a3, a4, a5, a6⟩ : PG (F := F) (Σ' (_ : T0) (_ : T1) (_ : T2) (_ : T3) (_ : T4) (_ : T5), T6)) >>= fun r => J r.1 r.2.1 r.2.2.1 r.2.2.2.1 r.2.2.2.2.1 r.2.2.2.2.2.1 r.2.2.2.2.2.2) Q := by
  exact Entails.of_eq rfl
theorem tup8 {c : Dev nD} {T0 T1 T2 T3 T4 T5 T6 T7 β : Type} {p : PG (F := F) (Σ' (_ : T0) (_ : T1) (_ : T2) (_ : T3) (_ : T4) (_ : T5) (_ : T6), T7)} (J : T0 → T1 → T2 → T3 → T4 → T5 → T6 → T7 → PG (F := F) β)
    {a0 : T0} {a1 : T1} {a2 : T2} {a3 : T3} {a4 : T4} {a5 : T5} {a6 : T6} {a7 : T7} {P R : sProp 𝕄} {Q : β → sProp 𝕄}
    (h : ∀ Q' : (Σ' (_ : T0) (_ : T1) (_ : T2) (_ : T3) (_ : T4) (_ : T5) (_ : T6), T7) → sProp 𝕄, P ⊢ iprop((R -∗ Q' ⟨a0, a1, a2, a3, a4, a5, a6, a7⟩) -∗ WP c p Q')) :
    P ⊢ iprop((R -∗ WP c (J a0 a1 a2 a3 a4 a5 a6 a7) Q) -∗ WP c (p >>= fun r => J r.1 r.2.1 r.2.2.1 r.2.2.2.1 r.2.2.2.2.1 r.2.2.2.2.2.1 r.2.2.2.2.2.2.1 r.2.2.2.2.2.2.2) Q) := by
  have e := h (fun r => WP c (J r.1 r.2.1 r.2.2.1 r.2.2.2.1 r.2.2.2.2.1 r.2.2.2.2.2.1 r.2.2.2.2.2.2.1 r.2.2.2.2.2.2.2) Q)
  iintro H Hk
  iapply bindE
  iapply e $$ H
  iexact Hk
theorem ptup8 {c : Dev nD} {T0 T1 T2 T3 T4 T5 T6 T7 β : Type} (J : T0 → T1 → T2 → T3 → T4 → T5 → T6 → T7 → PG (F := F) β)
    {a0 : T0} {a1 : T1} {a2 : T2} {a3 : T3} {a4 : T4} {a5 : T5} {a6 : T6} {a7 : T7} {Q : β → sProp 𝕄} :
    WP c (J a0 a1 a2 a3 a4 a5 a6 a7) Q ⊢ WP c ((Pure.pure ⟨a0, a1, a2, a3, a4, a5, a6, a7⟩ : PG (F := F) (Σ' (_ : T0) (_ : T1) (_ : T2) (_ : T3) (_ : T4) (_ : T5) (_ : T6), T7)) >>= fun r => J r.1 r.2.1 r.2.2.1 r.2.2.2.1 r.2.2.2.2.1 r.2.2.2.2.2.1 r.2.2.2.2.2.2.1 r.2.2.2.2.2.2.2) Q := by
  exact Entails.of_eq rfl
theorem one {c : Dev nD} {T β : Type} {p : PG (F := F) T} (J : T → PG (F := F) β) {a : T} {P R : sProp 𝕄} {Q : β → sProp 𝕄}
    (h : ∀ Q' : T → sProp 𝕄, P ⊢ iprop((R -∗ Q' a) -∗ WP c p Q')) :
    P ⊢ iprop((R -∗ WP c (J a) Q) -∗ WP c (p >>= J) Q) := by
  have e := h (fun r => WP c (J r) Q)
  iintro H Hk
  iapply bindE
  iapply e $$ H
  iexact Hk

theorem b16_eq (v3 v20 v24 v321 : BitVec 32) (v268 : FVec F S1344x1024 .bf16) (v308 : FVec F S1024x1024 .f32) :
    b16 v3 v20 v24 v268 v308 v321 0#32 = ((k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v321 0#32) >>= b17 v3 v20 v24 v268 v308 : PG (F := F) PUnit) := rfl

theorem st16 (c : Dev nD) (v3 : BitVec 32) (v268 : FVec F S1344x1024 .bf16) (v308 : FVec F S1024x1024 .f32) (v20 v24 v321 : BitVec 32)
    (c2 : Scalar.cmpi .ne (Scalar.extui (Scalar.andi (Scalar.cmpi .sge v321 0#32) (Scalar.cmpi .sle v321 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (c6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    {Q : PUnit → sProp 𝕄} :
    iprop(PER m ρ K ∗ (RP m ρ c 1 2 ∗ RP m ρ c 1 3 ∗ RP m ρ c 1 4 ∗ RP m ρ c 1 5 ∗ RP m ρ c 1 6) ∗ owesE c ([]))
      ⊢ iprop((((RP' m ρ c 1 2 ∗ RP' m ρ c 1 3 ∗ RP' m ρ c 1 4 ∗ RP' m ρ c 1 5 ∗ RP' m ρ c 1 6) ∗ owesE c ([])) -∗ WP c (b17 v3 v20 v24 v268 v308 ((Scalar.extui (Scalar.andi (Scalar.cmpi .sge (Scalar.addi v20 4294967293#32) 0#32) (Scalar.cmpi .sle (Scalar.addi v20 4294967293#32) 3#32))))) Q) -∗ WP c (b16 v3 v20 v24 v268 v308 v321 0#32) Q) := by
  rw [b16_eq]
  exact one (b17 v3 v20 v24 v268 v308) (fun Q' => part16 (Q := Q') m ρ K c v20 v24 v321 c2 c3 c4 c5 c6)

theorem b17_eq (v3 v20 v24 v355 : BitVec 32) (v268 : FVec F S1344x1024 .bf16) (v308 : FVec F S1024x1024 .f32) :
    b17 v3 v20 v24 v268 v308 v355 = ((k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v355) >>= b18 v3 v20 v24 v268 v308 : PG (F := F) PUnit) := rfl

theorem st17 (c : Dev nD) (v3 : BitVec 32) (v268 : FVec F S1344x1024 .bf16) (v308 : FVec F S1024x1024 .f32) (v20 v24 v355 : BitVec 32)
    (c0 : Scalar.cmpi .ne v355 0#32 = 1#1 ↔ zv c 0 = true)
    (c1 : Scalar.cmpi .ne (Scalar.extui (Scalar.andi (Scalar.cmpi .sge (Scalar.addi v20 4294967294#32) 0#32) (Scalar.cmpi .sle (Scalar.addi v20 4294967294#32) 3#32)) : BitVec 32) 0#32 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    {Q : PUnit → sProp 𝕄} :
    iprop(PER m ρ K ∗ (RP m ρ c 3 0 ∗ RP m ρ c 3 1 ∗ RP m ρ c 3 2 ∗ RP m ρ c 3 3 ∗ RP m ρ c 3 4 ∗ RP m ρ c 3 5) ∗ owesE c ([]))
      ⊢ iprop((((RP' m ρ c 3 0 ∗ RP' m ρ c 3 1 ∗ RP' m ρ c 3 2 ∗ RP' m ρ c 3 3 ∗ RP' m ρ c 3 4 ∗ RP' m ρ c 3 5) ∗ owesE c ([])) -∗ WP c (b18 v3 v20 v24 v268 v308 ((Scalar.addi v20 3#32))) Q) -∗ WP c (b17 v3 v20 v24 v268 v308 v355) Q) := by
  rw [b17_eq]
  exact one (b18 v3 v20 v24 v268 v308) (fun Q' => part17 (Q := Q') m ρ K c v20 v24 v355 c0 c1 c2 c3 c4 c5)

theorem b18_eq (v3 v20 v24 v387 : BitVec 32) (v268 : FVec F S1344x1024 .bf16) (v308 : FVec F S1024x1024 .f32) :
    b18 v3 v20 v24 v268 v308 v387 = ((k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v24 v387) >>= b19 v3 v20 v24 v268 v308 : PG (F := F) PUnit) := rfl

theorem st18 (c : Dev nD) (v3 : BitVec 32) (v268 : FVec F S1344x1024 .bf16) (v308 : FVec F S1024x1024 .f32) (v20 v24 v387 : BitVec 32)
    (c6 : Scalar.cmpi .ne (Scalar.extui (Scalar.andi (Scalar.cmpi .sge v387 0#32) (Scalar.cmpi .sle v387 3#32)) : BitVec 32) 0#32 = 1#1 ↔ zv c 6 = true)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    (c1 : Scalar.cmpi .ne (Scalar.extui (Scalar.andi (Scalar.cmpi .sge (Scalar.addi v20 4294967294#32) 0#32) (Scalar.cmpi .sle (Scalar.addi v20 4294967294#32) 3#32)) : BitVec 32) 0#32 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    {Q : PUnit → sProp 𝕄} :
    iprop(PER m ρ K ∗ (RP m ρ c 3 6 ∗ RP m ρ c 2 0 ∗ RP m ρ c 2 1 ∗ RP m ρ c 2 2 ∗ RP m ρ c 2 3) ∗ owesE c ([]))
      ⊢ iprop((((RP' m ρ c 3 6 ∗ RP' m ρ c 2 0 ∗ RP' m ρ c 2 1 ∗ RP' m ρ c 2 2 ∗ RP' m ρ c 2 3) ∗ owesE c ([])) -∗ WP c (b19 v3 v20 v24 v268 v308 ((Scalar.andi (Scalar.cmpi .sge (Scalar.addi v20 1#32) 0#32) (Scalar.cmpi .sle (Scalar.addi v20 1#32) 3#32)))) Q) -∗ WP c (b18 v3 v20 v24 v268 v308 v387) Q) := by
  rw [b18_eq]
  exact one (b19 v3 v20 v24 v268 v308) (fun Q' => part18 (Q := Q') m ρ K c v20 v24 v387 c6 c0 c1 c2 c3)

theorem b19_eq (v3 v20 v24 : BitVec 32) (v268 : FVec F S1344x1024 .bf16) (v308 : FVec F S1024x1024 .f32) (v420 : BitVec 1) :
    b19 v3 v20 v24 v268 v308 v420 = ((k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v24 v268 v308 v420) >>= b20 v3 v20 : PG (F := F) PUnit) := rfl

theorem st19 (c : Dev nD) (v3 v20 v24 : BitVec 32) (v268 : FVec F S1344x1024 .bf16) (v308 : FVec F S1024x1024 .f32) (v420 : BitVec 1)
    (c4 : Scalar.cmpi .ne (Scalar.extui v420 : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (c6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    {f3 : Buf (Elt F) ((c : Thread nD τ).loc cc0_stg3_0)}
    {Q : PUnit → sProp 𝕄} :
    iprop(PER m ρ K ∗ ((bigSep (Finset.range 7) fun i => RP' m ρ c 1 i) ∗ (bigSep (Finset.range 7) fun i => RP' m ρ c 3 i) ∗ RP' m ρ c 2 0 ∗ RP' m ρ c 2 1 ∗ RP' m ρ c 2 2 ∗ RP' m ρ c 2 3 ∗ RP m ρ c 2 4 ∗ RP m ρ c 2 5 ∗ RP m ρ c 2 6 ∗ (((c : Thread nD τ).loc cc0_stg3_0) ↦{fullShare} f3) ∗ ZW m ρ c 0) ∗ owesE c ([]))
      ⊢ iprop(((((bigSep (Finset.range 7) fun i => semVal (cell (rpA 1) c i) 0) ∗ (bigSep (Finset.range 7) fun i => semVal (cell (rpA 2) c i) 0) ∗ (bigSep (Finset.range 7) fun i => semVal (cell (rpA 3) c i) 0) ∗ (bigSep (Finset.range 7) fun i => slotY m ρ c (7 * 1 + i) fullShare) ∗ (bigSep (Finset.range 7) fun i => slotY m ρ c (7 * 2 + i) fullShare) ∗ (bigSep (Finset.range 7) fun i => slotY m ρ c (7 * 3 + i) fullShare) ∗ (((c : Thread nD τ).loc cc0_stg3_0) ↦{fullShare} k0_pay22 v268 v308 (out3 m ρ c)) ∗ ZW' m ρ c 0) ∗ owesE c ([])) -∗ WP c (b20 v3 v20 ((Scalar.cmpi .ne (Scalar.extui (Scalar.andi (Scalar.cmpi .sge (Scalar.addi v20 4294967294#32) 0#32) (Scalar.cmpi .sle (Scalar.addi v20 4294967294#32) 3#32)) : BitVec 32) 0#32))) Q) -∗ WP c (b19 v3 v20 v24 v268 v308 v420) Q) := by
  rw [b19_eq]
  exact one (b20 v3 v20) (fun Q' => part19 (Q := Q') m ρ K c v3 v20 v24 v268 v308 v420 c4 c5 c6 c0)

theorem b20_eq (v3 v20 : BitVec 32) (v452 : BitVec 1) :
    b20 v3 v20 v452 = ((k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v3 v20 v452) >>= fun r => b21 v20 r.1 r.2 : PG (F := F) PUnit) := rfl

theorem st20 (c : Dev nD) (v3 v20 : BitVec 32) (v452 : BitVec 1)
    (c1 : v452 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (c6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    (c0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    {Q : PUnit → sProp 𝕄} :
    iprop(PER m ρ K ∗ (ZW m ρ c 1 ∗ ZW m ρ c 2 ∗ ZW m ρ c 4 ∗ ZW m ρ c 5 ∗ ZW m ρ c 6 ∗ PW m ρ c 0) ∗ owesE c ([]))
      ⊢ iprop((((ZW' m ρ c 1 ∗ ZW' m ρ c 2 ∗ ZW' m ρ c 4 ∗ ZW' m ρ c 5 ∗ ZW' m ρ c 6 ∗ PW' m ρ c 0) ∗ owesE c ([])) -∗ WP c (b21 v20 ((Scalar.addi v20 4294967294#32)) (Scalar.cmpi .sge (Scalar.addi v20 4294967294#32) 0#32)) Q) -∗ WP c (b20 v3 v20 v452) Q) := by
  rw [b20_eq]
  exact tup2 (b21 v20) (fun Q' => part20 (Q := Q') m ρ K c v3 v20 v452 c1 c2 c4 c5 c6 c0)

theorem b21_eq (v20 v483 : BitVec 32) (v484 : BitVec 1) :
    b21 v20 v483 v484 = ((k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 v20 v483 v484) >>= fun r => bTail r.1 r.2 : PG (F := F) PUnit) := rfl

theorem st21 (c : Dev nD) (v20 v483 : BitVec 32) (v484 : BitVec 1)
    (c1 : Scalar.cmpi .ne (Scalar.extui (Scalar.andi v484 (Scalar.cmpi .sle v483 3#32)) : BitVec 32) 0#32 = 1#1 ↔ zv c 1 = true)
    (c2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (c3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (c4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (c5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    {Q : PUnit → sProp 𝕄} :
    iprop(PER m ρ K ∗ (PW m ρ c 1 ∗ PW m ρ c 2 ∗ PW m ρ c 3 ∗ PW m ρ c 4 ∗ PW m ρ c 5) ∗ owesE c ([]))
      ⊢ iprop((((PW' m ρ c 1 ∗ PW' m ρ c 2 ∗ PW' m ρ c 3 ∗ PW' m ρ c 4 ∗ PW' m ρ c 5) ∗ owesE c ([])) -∗ WP c (bTail (Scalar.extui (Scalar.andi (Scalar.cmpi .sge (Scalar.addi v20 3#32) 0#32) (Scalar.cmpi .sle (Scalar.addi v20 3#32) 3#32))) (0#32)) Q) -∗ WP c (b21 v20 v483 v484) Q) := by
  rw [b21_eq]
  exact tup2 (bTail) (fun Q' => part21 (Q := Q') m ρ K c v20 v483 v484 c1 c2 c3 c4 c5)

/-- What the body leaves in the result's stage. -/
def outV (c : Dev nD) : FVec F S1024x1024 .f32 :=
  k0_pay22 (k0_pay20 (gpV m ρ c)) (k0_pay21 (k0_pay20 (gpV m ρ c)) (out0 m ρ c)) (out3 m ρ c)

theorem outE (c : Dev nD) : k0_pay22 (k0_pay20 (gpV m ρ c)) (k0_pay21 (k0_pay20 (gpV m ρ c)) (out0 m ρ c)) (out3 m ρ c) = outV m ρ c := rfl

theorem vd_three (c : Dev nD) (A : ℕ) (hA : A < 2) : vd c A 3 = false := by
  unfold vd
  rw [decide_eq_false (by omega : ¬ 2 ≤ A)]
  simp

theorem fupd_retE {c : Dev nD} {α : Type} {Q : α → sProp 𝕄} {a : α} : iprop(|={Set.univ}=> Q a) ⊢ (WP c (Pure.pure a) Q : sProp 𝕄) := Entails.of_eq rfl

/-- Part of what the last waits start from. -/
def GA (c : Dev nD) (f3 : Buf (Elt F) ((c : Thread nD τ).loc cc0_stg3_0)) : sProp 𝕄 := iprop((((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} f3) ∗ semVal (barCell c) 0)

/-- Part of what the last waits start from. -/
def GP (c : Dev nD) : sProp 𝕄 := iprop(POS c 0 ∗ POS c 2 ∗ POS c 4 ∗ POS c 6)

/-- Part of what the last waits start from. -/
def GM (c : Dev nD) : sProp 𝕄 := iprop(RP m ρ c 1 2 ∗ RP m ρ c 1 3 ∗ RP m ρ c 1 4 ∗ RP m ρ c 1 5 ∗ RP m ρ c 1 6 ∗ RP m ρ c 3 0 ∗ RP m ρ c 3 1 ∗ RP m ρ c 3 2 ∗ RP m ρ c 3 3 ∗ RP m ρ c 3 4 ∗ RP m ρ c 3 5 ∗ RP m ρ c 3 6 ∗ RP m ρ c 2 0 ∗ RP m ρ c 2 1 ∗ RP m ρ c 2 2 ∗ RP m ρ c 2 3 ∗ RP m ρ c 2 4 ∗ RP m ρ c 2 5 ∗ RP m ρ c 2 6)

/-- Part of what the last waits start from. -/
def GZ (c : Dev nD) : sProp 𝕄 := iprop(pos 1 c 3 ∗ ZC m ρ c 0 ∗ ZC m ρ c 1 ∗ ZC m ρ c 2 ∗ ZC m ρ c 4 ∗ slotY m ρ c 3 (Transfers.shareDrop fullShare 11) ∗ slotY m ρ c 3 (tk (4 + 3)))

/-- Part of what the last waits start from. -/
def GE (c : Dev nD) : sProp 𝕄 := iprop(ZC m ρ c 5 ∗ ZC m ρ c 6 ∗ PC m ρ c 1 3 ∗ PC m ρ c 3 3 ∗ PC m ρ c 2 3)

/-- Part of what the last waits start from. -/
def GR (c : Dev nD) : sProp 𝕄 := iprop(RZr m ρ c 0 ∗ RZr m ρ c 1 ∗ RZr m ρ c 2 ∗ RZr m ρ c 4 ∗ RZr m ρ c 5 ∗ RZr m ρ c 6)

theorem rest16 (c : Dev nD) (v3 v20 : BitVec 32)
    (h0 : Scalar.cmpi .ne (Scalar.extui (Scalar.andi (Scalar.cmpi .sge (Scalar.addi v20 4294967293#32) 0#32) (Scalar.cmpi .sle (Scalar.addi v20 4294967293#32) 3#32)) : BitVec 32) 0#32 = 1#1 ↔ zv c 0 = true)
    (h1 : Scalar.cmpi .ne (Scalar.extui (Scalar.andi (Scalar.cmpi .sge (Scalar.addi v20 4294967294#32) 0#32) (Scalar.cmpi .sle (Scalar.addi v20 4294967294#32) 3#32)) : BitVec 32) 0#32 = 1#1 ↔ zv c 1 = true)
    (h2 : Scalar.cmpi .ne (Scalar.extui (Scalar.andi (Scalar.cmpi .sge (Scalar.addi v20 4294967295#32) 0#32) (Scalar.cmpi .sle (Scalar.addi v20 4294967295#32) 3#32)) : BitVec 32) 0#32 = 1#1 ↔ zv c 2 = true)
    (h3 : Scalar.cmpi .ne (Scalar.extui (Scalar.andi (Scalar.cmpi .sge (Scalar.addi v20 0#32) 0#32) (Scalar.cmpi .sle (Scalar.addi v20 0#32) 3#32)) : BitVec 32) 0#32 = 1#1 ↔ zv c 3 = true)
    (h4 : Scalar.cmpi .ne (Scalar.extui (Scalar.andi (Scalar.cmpi .sge (Scalar.addi v20 1#32) 0#32) (Scalar.cmpi .sle (Scalar.addi v20 1#32) 3#32)) : BitVec 32) 0#32 = 1#1 ↔ zv c 4 = true)
    (h5 : Scalar.cmpi .ne (Scalar.extui (Scalar.andi (Scalar.cmpi .sge (Scalar.addi v20 2#32) 0#32) (Scalar.cmpi .sle (Scalar.addi v20 2#32) 3#32)) : BitVec 32) 0#32 = 1#1 ↔ zv c 5 = true)
    (h6 : Scalar.cmpi .ne (Scalar.extui (Scalar.andi (Scalar.cmpi .sge (Scalar.addi v20 3#32) 0#32) (Scalar.cmpi .sle (Scalar.addi v20 3#32) 3#32)) : BitVec 32) 0#32 = 1#1 ↔ zv c 6 = true)
    {v268 : FVec F S1344x1024 .bf16} {v308 : FVec F S1024x1024 .f32} {v24 : BitVec 32} {f3 : Buf (Elt F) ((c : Thread nD τ).loc cc0_stg3_0)}
    {Q : PUnit → sProp 𝕄}
    (hv : k0_pay22 v268 v308 (out3 m ρ c) = outV m ρ c)
    (hQ : iprop(((scrL c ↦{fullShare} Yall m ρ c) ∗ SV c 0 ∗ SV c 1 ∗ SV c 2 ∗ SV c 3 ∗ SV c 4 ∗ SV c 5 ∗ SV c 6 ∗ SV c 7) ∗ (((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} outV m ρ c) ∗ semVal (barCell c) 0 ∗ owesE c []) ⊢ Q ⟨⟩) :
    iprop(PER m ρ K ∗ (GA m ρ c f3 ∗ GP c ∗ GM m ρ c ∗ GZ m ρ c ∗ GE m ρ c ∗ GR m ρ c ∗ (bigSep (Finset.range 7) fun i => slotY m ρ c i (tk 0)) ∗ RP' m ρ c 1 0 ∗ RP' m ρ c 1 1) ∗ owesE c [])
      ⊢ WP c (b16 v3 v20 v24 v268 v308 (Scalar.addi v20 4294967295#32) 0#32) Q := by
  iintro ⟨#HP, ⟨GA, GP, GM, GZ, GE, GR, LO, M10, M11⟩, HO⟩
  ihave GA := (Entails.of_eq (show GA m ρ c f3 = iprop((((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} f3) ∗ semVal (barCell c) 0) from rfl)) $$ GA
  icases GA with ⟨XS, WS, IX, OU, BV⟩
  ihave GP := (Entails.of_eq (show GP c = iprop(POS c 0 ∗ POS c 2 ∗ POS c 4 ∗ POS c 6) from rfl)) $$ GP
  icases GP with ⟨A0, A2, A4, A6⟩
  ihave GM := (Entails.of_eq (show GM m ρ c = iprop(RP m ρ c 1 2 ∗ RP m ρ c 1 3 ∗ RP m ρ c 1 4 ∗ RP m ρ c 1 5 ∗ RP m ρ c 1 6 ∗ RP m ρ c 3 0 ∗ RP m ρ c 3 1 ∗ RP m ρ c 3 2 ∗ RP m ρ c 3 3 ∗ RP m ρ c 3 4 ∗ RP m ρ c 3 5 ∗ RP m ρ c 3 6 ∗ RP m ρ c 2 0 ∗ RP m ρ c 2 1 ∗ RP m ρ c 2 2 ∗ RP m ρ c 2 3 ∗ RP m ρ c 2 4 ∗ RP m ρ c 2 5 ∗ RP m ρ c 2 6) from rfl)) $$ GM
  icases GM with ⟨M12, M13, M14, M15, M16, M30, M31, M32, M33, M34, M35, M36, M20, M21, M22, M23, M24, M25, M26⟩
  ihave GZ := (Entails.of_eq (show GZ m ρ c = iprop(pos 1 c 3 ∗ ZC m ρ c 0 ∗ ZC m ρ c 1 ∗ ZC m ρ c 2 ∗ ZC m ρ c 4 ∗ slotY m ρ c 3 (Transfers.shareDrop fullShare 11) ∗ slotY m ρ c 3 (tk (4 + 3))) from rfl)) $$ GZ
  icases GZ with ⟨A13, Z0, Z1, Z2, Z4, D11, T3⟩
  ihave GE := (Entails.of_eq (show GE m ρ c = iprop(ZC m ρ c 5 ∗ ZC m ρ c 6 ∗ PC m ρ c 1 3 ∗ PC m ρ c 3 3 ∗ PC m ρ c 2 3) from rfl)) $$ GE
  icases GE with ⟨Z5, Z6, P13, P33, P23⟩
  ihave GR := (Entails.of_eq (show GR m ρ c = iprop(RZr m ρ c 0 ∗ RZr m ρ c 1 ∗ RZr m ρ c 2 ∗ RZr m ρ c 4 ∗ RZr m ρ c 5 ∗ RZr m ρ c 6) from rfl)) $$ GR
  icases GR with ⟨R0, R1, R2, R4, R5, R6⟩
  iapply (st16 m ρ K c _ _ _ _ _ _ h2 h3 h4 h5 h6) $$ [M12 M13 M14 M15 M16 HO]
  · isplitr; · iexact HP
    isplitl [M12 M13 M14 M15 M16]
    · isplitl [M12]; · iexact M12
      isplitl [M13]; · iexact M13
      isplitl [M14]; · iexact M14
      isplitl [M15]; · iexact M15
      iexact M16
    iexact HO
  iintro ⟨⟨M12, M13, M14, M15, M16⟩, HO⟩
  iapply (st17 m ρ K c _ _ _ _ _ _ h0 h1 h2 h3 h4 h5) $$ [M30 M31 M32 M33 M34 M35 HO]
  · isplitr; · iexact HP
    isplitl [M30 M31 M32 M33 M34 M35]
    · isplitl [M30]; · iexact M30
      isplitl [M31]; · iexact M31
      isplitl [M32]; · iexact M32
      isplitl [M33]; · iexact M33
      isplitl [M34]; · iexact M34
      iexact M35
    iexact HO
  iintro ⟨⟨M30, M31, M32, M33, M34, M35⟩, HO⟩
  iapply (st18 m ρ K c _ _ _ _ _ _ h6 h0 h1 h2 h3) $$ [M36 M20 M21 M22 M23 HO]
  · isplitr; · iexact HP
    isplitl [M36 M20 M21 M22 M23]
    · isplitl [M36]; · iexact M36
      isplitl [M20]; · iexact M20
      isplitl [M21]; · iexact M21
      isplitl [M22]; · iexact M22
      iexact M23
    iexact HO
  iintro ⟨⟨M36, M20, M21, M22, M23⟩, HO⟩
  ihave X1 := (range7 (F := F) fun i => RP' m ρ c 1 i).2 $$ [M10 M11 M12 M13 M14 M15 M16]
  · isplitl [M10]; · iexact M10
    isplitl [M11]; · iexact M11
    isplitl [M12]; · iexact M12
    isplitl [M13]; · iexact M13
    isplitl [M14]; · iexact M14
    isplitl [M15]; · iexact M15
    iexact M16
  ihave X3 := (range7 (F := F) fun i => RP' m ρ c 3 i).2 $$ [M30 M31 M32 M33 M34 M35 M36]
  · isplitl [M30]; · iexact M30
    isplitl [M31]; · iexact M31
    isplitl [M32]; · iexact M32
    isplitl [M33]; · iexact M33
    isplitl [M34]; · iexact M34
    isplitl [M35]; · iexact M35
    iexact M36
  ihave A0 := (Entails.of_eq (show POS c 0 = bigSep (Finset.range 7) fun s => (pos 0 c s : sProp 𝕄) from rfl)) $$ A0
  ihave A0 := (range7 (F := F) fun s => (pos 0 c s : sProp 𝕄)).1 $$ A0
  icases A0 with ⟨A00, A01, A02, A03, A04, A05, A06⟩
  ihave A2 := (Entails.of_eq (show POS c 2 = bigSep (Finset.range 7) fun s => (pos 2 c s : sProp 𝕄) from rfl)) $$ A2
  ihave A2 := (range7 (F := F) fun s => (pos 2 c s : sProp 𝕄)).1 $$ A2
  icases A2 with ⟨A20, A21, A22, A23, A24, A25, A26⟩
  ihave A4 := (Entails.of_eq (show POS c 4 = bigSep (Finset.range 7) fun s => (pos 4 c s : sProp 𝕄) from rfl)) $$ A4
  ihave A4 := (range7 (F := F) fun s => (pos 4 c s : sProp 𝕄)).1 $$ A4
  icases A4 with ⟨A40, A41, A42, A43, A44, A45, A46⟩
  ihave A6 := (Entails.of_eq (show POS c 6 = bigSep (Finset.range 7) fun s => (pos 6 c s : sProp 𝕄) from rfl)) $$ A6
  ihave A6 := (range7 (F := F) fun s => (pos 6 c s : sProp 𝕄)).1 $$ A6
  icases A6 with ⟨A60, A61, A62, A63, A64, A65, A66⟩
  ihave R0 := (Entails.of_eq (show RZr m ρ c 0 = iprop(semVal (cell 1 c 0) 0 ∗ slotY m ρ c 0 (Transfers.shareDrop fullShare 4) ∗ PC m ρ c 1 0 ∗ PC m ρ c 3 0 ∗ PC m ρ c 2 0) from rfl)) $$ R0
  icases R0 with ⟨RV0, DR0, P10, P30, P20⟩
  ihave R1 := (Entails.of_eq (show RZr m ρ c 1 = iprop(semVal (cell 1 c 1) 0 ∗ slotY m ρ c 1 (Transfers.shareDrop fullShare 4) ∗ PC m ρ c 1 1 ∗ PC m ρ c 3 1 ∗ PC m ρ c 2 1) from rfl)) $$ R1
  icases R1 with ⟨RV1, DR1, P11, P31, P21⟩
  ihave R2 := (Entails.of_eq (show RZr m ρ c 2 = iprop(semVal (cell 1 c 2) 0 ∗ slotY m ρ c 2 (Transfers.shareDrop fullShare 4) ∗ PC m ρ c 1 2 ∗ PC m ρ c 3 2 ∗ PC m ρ c 2 2) from rfl)) $$ R2
  icases R2 with ⟨RV2, DR2, P12, P32, P22⟩
  ihave R4 := (Entails.of_eq (show RZr m ρ c 4 = iprop(semVal (cell 1 c 4) 0 ∗ slotY m ρ c 4 (Transfers.shareDrop fullShare 4) ∗ PC m ρ c 1 4 ∗ PC m ρ c 3 4 ∗ PC m ρ c 2 4) from rfl)) $$ R4
  icases R4 with ⟨RV4, DR4, P14, P34, P24⟩
  ihave R5 := (Entails.of_eq (show RZr m ρ c 5 = iprop(semVal (cell 1 c 5) 0 ∗ slotY m ρ c 5 (Transfers.shareDrop fullShare 4) ∗ PC m ρ c 1 5 ∗ PC m ρ c 3 5 ∗ PC m ρ c 2 5) from rfl)) $$ R5
  icases R5 with ⟨RV5, DR5, P15, P35, P25⟩
  ihave R6 := (Entails.of_eq (show RZr m ρ c 6 = iprop(semVal (cell 1 c 6) 0 ∗ slotY m ρ c 6 (Transfers.shareDrop fullShare 4) ∗ PC m ρ c 1 6 ∗ PC m ρ c 3 6 ∗ PC m ρ c 2 6) from rfl)) $$ R6
  icases R6 with ⟨RV6, DR6, P16, P36, P26⟩
  ihave Z0 := (Entails.of_eq (show iprop(pos 0 c 0 ∗ ZC m ρ c 0) = ZW m ρ c 0 from rfl)) $$ [A00 Z0]
  · isplitl [A00]; · iexact A00
    iexact Z0
  ihave Z1 := (Entails.of_eq (show iprop(pos 0 c 1 ∗ ZC m ρ c 1) = ZW m ρ c 1 from rfl)) $$ [A01 Z1]
  · isplitl [A01]; · iexact A01
    iexact Z1
  ihave Z2 := (Entails.of_eq (show iprop(pos 0 c 2 ∗ ZC m ρ c 2) = ZW m ρ c 2 from rfl)) $$ [A02 Z2]
  · isplitl [A02]; · iexact A02
    iexact Z2
  ihave Z4 := (Entails.of_eq (show iprop(pos 0 c 4 ∗ ZC m ρ c 4) = ZW m ρ c 4 from rfl)) $$ [A04 Z4]
  · isplitl [A04]; · iexact A04
    iexact Z4
  ihave Z5 := (Entails.of_eq (show iprop(pos 0 c 5 ∗ ZC m ρ c 5) = ZW m ρ c 5 from rfl)) $$ [A05 Z5]
  · isplitl [A05]; · iexact A05
    iexact Z5
  ihave Z6 := (Entails.of_eq (show iprop(pos 0 c 6 ∗ ZC m ρ c 6) = ZW m ρ c 6 from rfl)) $$ [A06 Z6]
  · isplitl [A06]; · iexact A06
    iexact Z6
  ihave P0 := (Entails.of_eq (show iprop((pos 2 c 0 ∗ PC m ρ c 1 0) ∗ (pos 4 c 0 ∗ PC m ρ c 3 0) ∗ (pos 6 c 0 ∗ PC m ρ c 2 0)) = PW m ρ c 0 from rfl)) $$ [A20 P10 A40 P30 A60 P20]
  · isplitl [A20 P10]
    · isplitl [A20]; · iexact A20
      iexact P10
    isplitl [A40 P30]
    · isplitl [A40]; · iexact A40
      iexact P30
    isplitl [A60]; · iexact A60
    iexact P20
  ihave P1 := (Entails.of_eq (show iprop((pos 2 c 1 ∗ PC m ρ c 1 1) ∗ (pos 4 c 1 ∗ PC m ρ c 3 1) ∗ (pos 6 c 1 ∗ PC m ρ c 2 1)) = PW m ρ c 1 from rfl)) $$ [A21 P11 A41 P31 A61 P21]
  · isplitl [A21 P11]
    · isplitl [A21]; · iexact A21
      iexact P11
    isplitl [A41 P31]
    · isplitl [A41]; · iexact A41
      iexact P31
    isplitl [A61]; · iexact A61
    iexact P21
  ihave P2 := (Entails.of_eq (show iprop((pos 2 c 2 ∗ PC m ρ c 1 2) ∗ (pos 4 c 2 ∗ PC m ρ c 3 2) ∗ (pos 6 c 2 ∗ PC m ρ c 2 2)) = PW m ρ c 2 from rfl)) $$ [A22 P12 A42 P32 A62 P22]
  · isplitl [A22 P12]
    · isplitl [A22]; · iexact A22
      iexact P12
    isplitl [A42 P32]
    · isplitl [A42]; · iexact A42
      iexact P32
    isplitl [A62]; · iexact A62
    iexact P22
  ihave P3 := (Entails.of_eq (show iprop((pos 2 c 3 ∗ PC m ρ c 1 3) ∗ (pos 4 c 3 ∗ PC m ρ c 3 3) ∗ (pos 6 c 3 ∗ PC m ρ c 2 3)) = PW m ρ c 3 from rfl)) $$ [A23 P13 A43 P33 A63 P23]
  · isplitl [A23 P13]
    · isplitl [A23]; · iexact A23
      iexact P13
    isplitl [A43 P33]
    · isplitl [A43]; · iexact A43
      iexact P33
    isplitl [A63]; · iexact A63
    iexact P23
  ihave P4 := (Entails.of_eq (show iprop((pos 2 c 4 ∗ PC m ρ c 1 4) ∗ (pos 4 c 4 ∗ PC m ρ c 3 4) ∗ (pos 6 c 4 ∗ PC m ρ c 2 4)) = PW m ρ c 4 from rfl)) $$ [A24 P14 A44 P34 A64 P24]
  · isplitl [A24 P14]
    · isplitl [A24]; · iexact A24
      iexact P14
    isplitl [A44 P34]
    · isplitl [A44]; · iexact A44
      iexact P34
    isplitl [A64]; · iexact A64
    iexact P24
  ihave P5 := (Entails.of_eq (show iprop((pos 2 c 5 ∗ PC m ρ c 1 5) ∗ (pos 4 c 5 ∗ PC m ρ c 3 5) ∗ (pos 6 c 5 ∗ PC m ρ c 2 5)) = PW m ρ c 5 from rfl)) $$ [A25 P15 A45 P35 A65 P25]
  · isplitl [A25 P15]
    · isplitl [A25]; · iexact A25
      iexact P15
    isplitl [A45 P35]
    · isplitl [A45]; · iexact A45
      iexact P35
    isplitl [A65]; · iexact A65
    iexact P25
  ihave P6 := (Entails.of_eq (show iprop((pos 2 c 6 ∗ PC m ρ c 1 6) ∗ (pos 4 c 6 ∗ PC m ρ c 3 6) ∗ (pos 6 c 6 ∗ PC m ρ c 2 6)) = PW m ρ c 6 from rfl)) $$ [A26 P16 A46 P36 A66 P26]
  · isplitl [A26 P16]
    · isplitl [A26]; · iexact A26
      iexact P16
    isplitl [A46 P36]
    · isplitl [A46]; · iexact A46
      iexact P36
    isplitl [A66]; · iexact A66
    iexact P26
  iapply (st19 m ρ K c _ _ _ _ _ _ h4 h5 h6 h0) $$ [X1 X3 M20 M21 M22 M23 M24 M25 M26 OU Z0 HO]
  · isplitr; · iexact HP
    isplitl [X1 X3 M20 M21 M22 M23 M24 M25 M26 OU Z0]
    · isplitl [X1]; · iexact X1
      isplitl [X3]; · iexact X3
      isplitl [M20]; · iexact M20
      isplitl [M21]; · iexact M21
      isplitl [M22]; · iexact M22
      isplitl [M23]; · iexact M23
      isplitl [M24]; · iexact M24
      isplitl [M25]; · iexact M25
      isplitl [M26]; · iexact M26
      isplitl [OU]; · iexact OU
      iexact Z0
    iexact HO
  iintro ⟨⟨V1, V2, V3, Y1, Y2, Y3, OU, Z0⟩, HO⟩
  iapply (st20 m ρ K c _ _ _ h1 h2 h4 h5 h6 h0) $$ [Z1 Z2 Z4 Z5 Z6 P0 HO]
  · isplitr; · iexact HP
    isplitl [Z1 Z2 Z4 Z5 Z6 P0]
    · isplitl [Z1]; · iexact Z1
      isplitl [Z2]; · iexact Z2
      isplitl [Z4]; · iexact Z4
      isplitl [Z5]; · iexact Z5
      isplitl [Z6]; · iexact Z6
      iexact P0
    iexact HO
  iintro ⟨⟨Z1, Z2, Z4, Z5, Z6, P0⟩, HO⟩
  iapply (st21 m ρ K c _ _ _ h1 h2 h3 h4 h5) $$ [P1 P2 P3 P4 P5 HO]
  · isplitr; · iexact HP
    isplitl [P1 P2 P3 P4 P5]
    · isplitl [P1]; · iexact P1
      isplitl [P2]; · iexact P2
      isplitl [P3]; · iexact P3
      isplitl [P4]; · iexact P4
      iexact P5
    iexact HO
  iintro ⟨⟨P1, P2, P3, P4, P5⟩, HO⟩
  unfold bTail
  iapply (xPW m ρ K 6 _ h6) $$ [P6 HO]
  · isplitr; · iexact HP
    isplitl [P6]; · iexact P6
    iexact HO
  iintro ⟨P6, HO⟩
  iapply fupd_retE
  ihave E0 := (close1 m ρ K (c := c) (A := 0) (s := 3) (by decide) (by decide) (vd_three c 0 (by decide))) $$ [A03]
  · isplitr; · iexact HP
    iexact A03
  imod E0
  ihave E1 := (close1 m ρ K (c := c) (A := 1) (s := 3) (by decide) (by decide) (vd_three c 1 (by decide))) $$ [A13]
  · isplitr; · iexact HP
    iexact A13
  imod E1
  imodintro
  iapply hQ
  rw [← hv]
  ihave P0 := (Entails.of_eq (show PW' m ρ c 0 = iprop((semVal (cell 2 c 0) 0 ∗ slotY m ρ c 0 (tk 1)) ∗ (semVal (cell 4 c 0) 0 ∗ slotY m ρ c 0 (tk 3)) ∗ (semVal (cell 6 c 0) 0 ∗ slotY m ρ c 0 (tk 2))) from rfl)) $$ P0
  ihave P1 := (Entails.of_eq (show PW' m ρ c 1 = iprop((semVal (cell 2 c 1) 0 ∗ slotY m ρ c 1 (tk 1)) ∗ (semVal (cell 4 c 1) 0 ∗ slotY m ρ c 1 (tk 3)) ∗ (semVal (cell 6 c 1) 0 ∗ slotY m ρ c 1 (tk 2))) from rfl)) $$ P1
  ihave P2 := (Entails.of_eq (show PW' m ρ c 2 = iprop((semVal (cell 2 c 2) 0 ∗ slotY m ρ c 2 (tk 1)) ∗ (semVal (cell 4 c 2) 0 ∗ slotY m ρ c 2 (tk 3)) ∗ (semVal (cell 6 c 2) 0 ∗ slotY m ρ c 2 (tk 2))) from rfl)) $$ P2
  ihave P3 := (Entails.of_eq (show PW' m ρ c 3 = iprop((semVal (cell 2 c 3) 0 ∗ slotY m ρ c 3 (tk 1)) ∗ (semVal (cell 4 c 3) 0 ∗ slotY m ρ c 3 (tk 3)) ∗ (semVal (cell 6 c 3) 0 ∗ slotY m ρ c 3 (tk 2))) from rfl)) $$ P3
  ihave P4 := (Entails.of_eq (show PW' m ρ c 4 = iprop((semVal (cell 2 c 4) 0 ∗ slotY m ρ c 4 (tk 1)) ∗ (semVal (cell 4 c 4) 0 ∗ slotY m ρ c 4 (tk 3)) ∗ (semVal (cell 6 c 4) 0 ∗ slotY m ρ c 4 (tk 2))) from rfl)) $$ P4
  ihave P5 := (Entails.of_eq (show PW' m ρ c 5 = iprop((semVal (cell 2 c 5) 0 ∗ slotY m ρ c 5 (tk 1)) ∗ (semVal (cell 4 c 5) 0 ∗ slotY m ρ c 5 (tk 3)) ∗ (semVal (cell 6 c 5) 0 ∗ slotY m ρ c 5 (tk 2))) from rfl)) $$ P5
  ihave P6 := (Entails.of_eq (show PW' m ρ c 6 = iprop((semVal (cell 2 c 6) 0 ∗ slotY m ρ c 6 (tk 1)) ∗ (semVal (cell 4 c 6) 0 ∗ slotY m ρ c 6 (tk 3)) ∗ (semVal (cell 6 c 6) 0 ∗ slotY m ρ c 6 (tk 2))) from rfl)) $$ P6
  ihave Z0 := (Entails.of_eq (show ZW' m ρ c 0 = iprop(semVal (cell 0 c 0) 0 ∗ slotY m ρ c 3 (tk (4 + 0))) from rfl)) $$ Z0
  icases Z0 with ⟨ZV0, ZS0⟩
  ihave Z1 := (Entails.of_eq (show ZW' m ρ c 1 = iprop(semVal (cell 0 c 1) 0 ∗ slotY m ρ c 3 (tk (4 + 1))) from rfl)) $$ Z1
  icases Z1 with ⟨ZV1, ZS1⟩
  ihave Z2 := (Entails.of_eq (show ZW' m ρ c 2 = iprop(semVal (cell 0 c 2) 0 ∗ slotY m ρ c 3 (tk (4 + 2))) from rfl)) $$ Z2
  icases Z2 with ⟨ZV2, ZS2⟩
  ihave Z4 := (Entails.of_eq (show ZW' m ρ c 4 = iprop(semVal (cell 0 c 4) 0 ∗ slotY m ρ c 3 (tk (4 + 4))) from rfl)) $$ Z4
  icases Z4 with ⟨ZV4, ZS4⟩
  ihave Z5 := (Entails.of_eq (show ZW' m ρ c 5 = iprop(semVal (cell 0 c 5) 0 ∗ slotY m ρ c 3 (tk (4 + 5))) from rfl)) $$ Z5
  icases Z5 with ⟨ZV5, ZS5⟩
  ihave Z6 := (Entails.of_eq (show ZW' m ρ c 6 = iprop(semVal (cell 0 c 6) 0 ∗ slotY m ρ c 3 (tk (4 + 6))) from rfl)) $$ Z6
  icases Z6 with ⟨ZV6, ZS6⟩
  isplitl [RV0 DR0 RV1 DR1 RV2 DR2 RV4 DR4 RV5 DR5 RV6 DR6 ZV0 ZS0 ZV1 ZS1 ZV2 ZS2 ZV4 ZS4 ZV5 ZS5 ZV6 ZS6 D11 T3 E0 E1 LO V1 V2 V3 Y1 Y2 Y3 P0 P1 P2 P3 P4 P5 P6]
  · iapply (fin_all m ρ c)
    isplitl [RV0 DR0 RV1 DR1 RV2 DR2 RV4 DR4 RV5 DR5 RV6 DR6 ZV0 ZS0 ZV1 ZS1 ZV2 ZS2 ZV4 ZS4 ZV5 ZS5 ZV6 ZS6 D11 T3 E0 E1]
    · isplitl [RV0]; · iexact RV0
      isplitl [DR0]; · iexact DR0
      isplitl [RV1]; · iexact RV1
      isplitl [DR1]; · iexact DR1
      isplitl [RV2]; · iexact RV2
      isplitl [DR2]; · iexact DR2
      isplitl [RV4]; · iexact RV4
      isplitl [DR4]; · iexact DR4
      isplitl [RV5]; · iexact RV5
      isplitl [DR5]; · iexact DR5
      isplitl [RV6]; · iexact RV6
      isplitl [DR6]; · iexact DR6
      isplitl [ZV0]; · iexact ZV0
      isplitl [ZS0]; · iexact ZS0
      isplitl [ZV1]; · iexact ZV1
      isplitl [ZS1]; · iexact ZS1
      isplitl [ZV2]; · iexact ZV2
      isplitl [ZS2]; · iexact ZS2
      isplitl [ZV4]; · iexact ZV4
      isplitl [ZS4]; · iexact ZS4
      isplitl [ZV5]; · iexact ZV5
      isplitl [ZS5]; · iexact ZS5
      isplitl [ZV6]; · iexact ZV6
      isplitl [ZS6]; · iexact ZS6
      isplitl [D11]; · iexact D11
      isplitl [T3]; · iexact T3
      isplitl [E0]; · iexact E0
      iexact E1
    isplitl [LO V1 V2 V3 Y1 Y2 Y3]
    · isplitl [LO]; · iexact LO
      isplitl [V1]; · iexact V1
      isplitl [V2]; · iexact V2
      isplitl [V3]; · iexact V3
      isplitl [Y1]; · iexact Y1
      isplitl [Y2]; · iexact Y2
      iexact Y3
    isplitl [P0]; · iexact P0
    isplitl [P1]; · iexact P1
    isplitl [P2]; · iexact P2
    isplitl [P3]; · iexact P3
    isplitl [P4]; · iexact P4
    isplitl [P5]; · iexact P5
    iexact P6
  isplitl [XS]; · iexact XS
  isplitl [WS]; · iexact WS
  isplitl [IX]; · iexact IX
  isplitl [OU]; · iexact OU
  isplitl [BV]; · iexact BV
  iexact HO

theorem reord {P A B C D L' M N' O E R : sProp 𝕄} : iprop((((((((((□ P ∗ A) ∗ B) ∗ C) ∗ D) ∗ L') ∗ M) ∗ N') ∗ O) ∗ E) ∗ R) ⊢ iprop(P ∗ (A ∗ B ∗ C ∗ D ∗ E ∗ R ∗ L' ∗ M ∗ N') ∗ O) := by
  iintro ⟨⟨⟨⟨⟨⟨⟨⟨⟨⟨#P, A⟩, B⟩, C⟩, D⟩, L'⟩, M⟩, N'⟩, O⟩, E⟩, R⟩
  isplitr; · iexact P
  isplitl [A B C D E R L' M N']
  · isplitl [A]; · iexact A
    isplitl [B]; · iexact B
    isplitl [C]; · iexact C
    isplitl [D]; · iexact D
    isplitl [E]; · iexact E
    isplitl [R]; · iexact R
    isplitl [L']; · iexact L'
    isplitl [M]; · iexact M
    iexact N'
  iexact O

theorem body_wp (c : Dev nD) {f0 : Buf (Elt F) (scrL c)} {f3 : Buf (Elt F) ((c : Thread nD τ).loc cc0_stg3_0)} {Q : PUnit → sProp 𝕄}
    (hQ : iprop(((scrL c ↦{fullShare} Yall m ρ c) ∗ SV c 0 ∗ SV c 1 ∗ SV c 2 ∗ SV c 3 ∗ SV c 4 ∗ SV c 5 ∗ SV c 6 ∗ SV c 7) ∗ (((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} outV m ρ c) ∗ semVal (barCell c) 0 ∗ owesE c []) ⊢ Q ⟨⟩) :
    iprop(PER m ρ K ∗ ((scrL c ↦{fullShare} f0) ∗ (((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} f3)) ∗ (dutyTok ER (barCell (pd c 0)) 0 (dz c) ∗ dutyTok ER (barCell (pd c 1)) 0 (dz c) ∗ dutyTok ER (barCell (pd c 2)) 0 (dz c) ∗ dutyTok ER (barCell (pd c 3)) 0 (dz c) ∗ dutyTok ER (barCell (pl c 1)) 0 (⟨(1 + 3) % 7, Nat.mod_lt _ (by decide)⟩ : Fin 7) ∗ dutyTok ER (barCell (pl c 3)) 0 (⟨(3 + 3) % 7, Nat.mod_lt _ (by decide)⟩ : Fin 7) ∗ dutyTok ER (barCell (pl c 2)) 0 (⟨(2 + 3) % 7, Nat.mod_lt _ (by decide)⟩ : Fin 7) ∗ ZK c ∗ PK c 1 ∗ PK c 3 ∗ PK c 2) ∗ (atPos ER (barCell c) 0 ∅ 0 ∗ cred (tallyAt (barCell c) () 6) ∗ POS c 0 ∗ POS c 1 ∗ POS c 2 ∗ POS c 3 ∗ POS c 4 ∗ POS c 5 ∗ POS c 6 ∗ POS c 7 ∗ CR c 1 ∗ CR c 3 ∗ CR c 5 ∗ CR c 7) ∗ owesE c [dueS c 0, dueS c 1, dueS c 2, dueS c 3, dueB c 1, dueB c 3, dueB c 2, dueZ c 0, dueZ c 1, dueZ c 2, dueZ c 4, dueZ c 5, dueZ c 6, dueP c 1 3, dueP c 3 3, dueP c 2 3, dueP c 1 0, dueP c 3 0, dueP c 2 0, dueP c 1 1, dueP c 3 1, dueP c 2 1, dueP c 1 2, dueP c 3 2, dueP c 2 2, dueP c 1 4, dueP c 3 4, dueP c 2 4, dueP c 1 5, dueP c 3 5, dueP c 2 5, dueP c 1 6, dueP c 3 6, dueP c 2 6])
      ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8) Q := by
  iintro ⟨#HP, ⟨SC, XS, WS, IX, OU⟩, ⟨D0, D1, D2, D3, B1, B3, B2, ZZ, K1, K3, K2⟩, ⟨BP, BC, A0, A1, A2, A3, A4, A5, A6, A7, C1, C3, C5, C7⟩, HO⟩
  rw [textBody]
  unfold b7
  iapply (tup7 b8 (fun Q' => part7 (Q := Q') c)) $$ SC
  iintro SC
  rw [w3_eq c, w20_eq c]
  generalize wPl 1#32 c = v24
  generalize wPl 3#32 c = v28
  generalize wPl 2#32 c = v32
  unfold b8
  iapply (tup4 (b9 c (qW c) (pW c) v24 v28 v32) (fun Q' => part8 (Q := Q') m ρ K c (qW c) (pW c) v24 v28 v32 k0_pay1 rfl)) $$ [SC D0 D1 D2 D3 B1 B3 B2 IX HO]
  · isplitr; · iexact HP
    isplitl [SC D0 D1 D2 D3 B1 B3 B2 IX]
    · isplitl [SC]; · iexact SC
      isplitl [D0]; · iexact D0
      isplitl [D1]; · iexact D1
      isplitl [D2]; · iexact D2
      isplitl [D3]; · iexact D3
      isplitl [B1]; · iexact B1
      isplitl [B3]; · iexact B3
      isplitl [B2]; · iexact B2
      iexact IX
    iexact HO
  iintro ⟨⟨S3, I0, I1, I2, I3, IX⟩, HO⟩
  unfold b9
  rw [text9]
  iapply (ptup8 (b10 c (qW c) (pW c) v24 v28 v32 (SemArray.scalar (sig.barrier 0 rfl))))
  unfold b10
  rw [text10]
  iapply (ptup3 (b11 c (qW c) (pW c) v24 v28 v32 (SemArray.scalar (sig.barrier 0 rfl)) _))
  unfold b11
  iapply (tup3 (b12 c (qW c) (pW c) v24 v28 v32 (SemArray.scalar (sig.barrier 0 rfl))) (fun Q' => part11 (Q := Q') m ρ K c _ _ _ _)) $$ [XS WS S3]
  · isplitr; · iexact HP
    isplitl [XS]; · iexact XS
    isplitl [WS]; · iexact WS
    iexact S3
  iintro ⟨XS, WS, S3⟩
  unfold b12
  iapply bindE
  iapply (part12 m ρ K c (qW c) (pW c) _ _ rfl) $$ [S3 BP BC ZZ K1 K3 K2 HO]
  · isplitr; · iexact HP
    isplitl [S3 BP BC ZZ K1 K3 K2]
    · isplitl [S3]; · iexact S3
      isplitl [BP]; · iexact BP
      isplitl [BC]; · iexact BC
      isplitl [ZZ]; · iexact ZZ
      isplitl [K1]; · iexact K1
      isplitl [K3]; · iexact K3
      iexact K2
    iexact HO
  iintro ⟨⟨BV, Z0, Z1, Z2, Z4, Z5, Z6, Q1, Q3, Q2, D11, U0, U1, U2, U3, T3, T5, T6⟩, HO⟩
  ihave Q1 := (Entails.of_eq (show PTs c 1 = bigSep (Finset.range 7) fun s => (PT c 1 s : sProp 𝕄) from rfl)) $$ Q1
  ihave Q1 := (range7 (F := F) fun s => PT c 1 s).1 $$ Q1
  icases Q1 with ⟨Q10, Q11, Q12, Q13, Q14, Q15, Q16⟩
  ihave Q3 := (Entails.of_eq (show PTs c 3 = bigSep (Finset.range 7) fun s => (PT c 3 s : sProp 𝕄) from rfl)) $$ Q3
  ihave Q3 := (range7 (F := F) fun s => PT c 3 s).1 $$ Q3
  icases Q3 with ⟨Q30, Q31, Q32, Q33, Q34, Q35, Q36⟩
  ihave Q2 := (Entails.of_eq (show PTs c 2 = bigSep (Finset.range 7) fun s => (PT c 2 s : sProp 𝕄) from rfl)) $$ Q2
  ihave Q2 := (range7 (F := F) fun s => PT c 2 s).1 $$ Q2
  icases Q2 with ⟨Q20, Q21, Q22, Q23, Q24, Q25, Q26⟩
  ihave A1 := (Entails.of_eq (show POS c 1 = bigSep (Finset.range 7) fun s => (pos 1 c s : sProp 𝕄) from rfl)) $$ A1
  ihave A1 := (range7 (F := F) fun s => (pos 1 c s : sProp 𝕄)).1 $$ A1
  icases A1 with ⟨A10, A11, A12, A13, A14, A15, A16⟩
  ihave C1 := (Entails.of_eq (show CR c 1 = bigSep (Finset.range 7) fun s => gd (vd c 1 s) (cred (tallyAt (cell 1 c s) () N)) from rfl)) $$ C1
  ihave C1 := (range7 (F := F) fun s => gd (vd c 1 s) (cred (tallyAt (cell 1 c s) () N))).1 $$ C1
  icases C1 with ⟨C10, C11, C12, C13, C14, C15, C16⟩
  ihave I0 := (Entails.of_eq (show INV m ρ c 0 = bigSep (Finset.range 7) fun s => gd (!zv c s) (slotY m ρ c (7 * 0 + s) fullShare) from rfl)) $$ I0
  ihave I0 := (range7 (F := F) fun s => gd (!zv c s) (slotY m ρ c (7 * 0 + s) fullShare)).1 $$ I0
  icases I0 with ⟨I00, I01, I02, I03, I04, I05, I06⟩
  ihave R0 := (mkRZ m ρ c 0 (by decide)) $$ [A10 C10 I00 Q10 Q30 Q20]
  · isplitl [A10]; · iexact A10
    isplitl [C10]; · iexact C10
    isplitl [I00]; · iexact I00
    isplitl [Q10]; · iexact Q10
    isplitl [Q30]; · iexact Q30
    iexact Q20
  ihave R1 := (mkRZ m ρ c 1 (by decide)) $$ [A11 C11 I01 Q11 Q31 Q21]
  · isplitl [A11]; · iexact A11
    isplitl [C11]; · iexact C11
    isplitl [I01]; · iexact I01
    isplitl [Q11]; · iexact Q11
    isplitl [Q31]; · iexact Q31
    iexact Q21
  ihave R2 := (mkRZ m ρ c 2 (by decide)) $$ [A12 C12 I02 Q12 Q32 Q22]
  · isplitl [A12]; · iexact A12
    isplitl [C12]; · iexact C12
    isplitl [I02]; · iexact I02
    isplitl [Q12]; · iexact Q12
    isplitl [Q32]; · iexact Q32
    iexact Q22
  ihave R4 := (mkRZ m ρ c 4 (by decide)) $$ [A14 C14 I04 Q14 Q34 Q24]
  · isplitl [A14]; · iexact A14
    isplitl [C14]; · iexact C14
    isplitl [I04]; · iexact I04
    isplitl [Q14]; · iexact Q14
    isplitl [Q34]; · iexact Q34
    iexact Q24
  ihave R5 := (mkRZ m ρ c 5 (by decide)) $$ [A15 C15 I05 Q15 Q35 Q25]
  · isplitl [A15]; · iexact A15
    isplitl [C15]; · iexact C15
    isplitl [I05]; · iexact I05
    isplitl [Q15]; · iexact Q15
    isplitl [Q35]; · iexact Q35
    iexact Q25
  ihave R6 := (mkRZ m ρ c 6 (by decide)) $$ [A16 C16 I06 Q16 Q36 Q26]
  · isplitl [A16]; · iexact A16
    isplitl [C16]; · iexact C16
    isplitl [I06]; · iexact I06
    isplitl [Q16]; · iexact Q16
    isplitl [Q36]; · iexact Q36
    iexact Q26
  ihave M1 := (mkRP m ρ c 1) $$ [A3 C3 I1]
  · isplitl [A3]; · iexact A3
    isplitl [C3]; · iexact C3
    iexact I1
  ihave M1 := (range7 (F := F) fun s => RP m ρ c 1 s).1 $$ M1
  icases M1 with ⟨M10, M11, M12, M13, M14, M15, M16⟩
  ihave M3 := (mkRP m ρ c 3) $$ [A5 C5 I3]
  · isplitl [A5]; · iexact A5
    isplitl [C5]; · iexact C5
    iexact I3
  ihave M3 := (range7 (F := F) fun s => RP m ρ c 3 s).1 $$ M3
  icases M3 with ⟨M30, M31, M32, M33, M34, M35, M36⟩
  ihave M2 := (mkRP m ρ c 2) $$ [A7 C7 I2]
  · isplitl [A7]; · iexact A7
    isplitl [C7]; · iexact C7
    iexact I2
  ihave M2 := (range7 (F := F) fun s => RP m ρ c 2 s).1 $$ M2
  icases M2 with ⟨M20, M21, M22, M23, M24, M25, M26⟩
  iclear C13
  iclear I03
  ihave GA := (Entails.of_eq (show iprop((((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} f3) ∗ semVal (barCell c) 0) = GA m ρ c f3 from rfl)) $$ [XS WS IX OU BV]
  · isplitl [XS]; · iexact XS
    isplitl [WS]; · iexact WS
    isplitl [IX]; · iexact IX
    isplitl [OU]; · iexact OU
    iexact BV
  ihave GP := (Entails.of_eq (show iprop(POS c 0 ∗ POS c 2 ∗ POS c 4 ∗ POS c 6) = GP c from rfl)) $$ [A0 A2 A4 A6]
  · isplitl [A0]; · iexact A0
    isplitl [A2]; · iexact A2
    isplitl [A4]; · iexact A4
    iexact A6
  ihave GM := (Entails.of_eq (show iprop(RP m ρ c 1 2 ∗ RP m ρ c 1 3 ∗ RP m ρ c 1 4 ∗ RP m ρ c 1 5 ∗ RP m ρ c 1 6 ∗ RP m ρ c 3 0 ∗ RP m ρ c 3 1 ∗ RP m ρ c 3 2 ∗ RP m ρ c 3 3 ∗ RP m ρ c 3 4 ∗ RP m ρ c 3 5 ∗ RP m ρ c 3 6 ∗ RP m ρ c 2 0 ∗ RP m ρ c 2 1 ∗ RP m ρ c 2 2 ∗ RP m ρ c 2 3 ∗ RP m ρ c 2 4 ∗ RP m ρ c 2 5 ∗ RP m ρ c 2 6) = GM m ρ c from rfl)) $$ [M12 M13 M14 M15 M16 M30 M31 M32 M33 M34 M35 M36 M20 M21 M22 M23 M24 M25 M26]
  · isplitl [M12]; · iexact M12
    isplitl [M13]; · iexact M13
    isplitl [M14]; · iexact M14
    isplitl [M15]; · iexact M15
    isplitl [M16]; · iexact M16
    isplitl [M30]; · iexact M30
    isplitl [M31]; · iexact M31
    isplitl [M32]; · iexact M32
    isplitl [M33]; · iexact M33
    isplitl [M34]; · iexact M34
    isplitl [M35]; · iexact M35
    isplitl [M36]; · iexact M36
    isplitl [M20]; · iexact M20
    isplitl [M21]; · iexact M21
    isplitl [M22]; · iexact M22
    isplitl [M23]; · iexact M23
    isplitl [M24]; · iexact M24
    isplitl [M25]; · iexact M25
    iexact M26
  ihave GZ := (Entails.of_eq (show iprop(pos 1 c 3 ∗ ZC m ρ c 0 ∗ ZC m ρ c 1 ∗ ZC m ρ c 2 ∗ ZC m ρ c 4 ∗ slotY m ρ c 3 (Transfers.shareDrop fullShare 11) ∗ slotY m ρ c 3 (tk (4 + 3))) = GZ m ρ c from rfl)) $$ [A13 Z0 Z1 Z2 Z4 D11 T3]
  · isplitl [A13]; · iexact A13
    isplitl [Z0]; · iexact Z0
    isplitl [Z1]; · iexact Z1
    isplitl [Z2]; · iexact Z2
    isplitl [Z4]; · iexact Z4
    isplitl [D11]; · iexact D11
    iexact T3
  unfold b13
  iapply bindE
  iapply (part13 m ρ K c _ _ _ _ _) $$ [Z5 T5 Z6 T6 Q13 U1 Q33 U3 HO]
  · isplitr; · iexact HP
    isplitl [Z5 T5 Z6 T6 Q13 U1 Q33 U3]
    · isplitl [Z5]; · iexact Z5
      isplitl [T5]; · iexact T5
      isplitl [Z6]; · iexact Z6
      isplitl [T6]; · iexact T6
      isplitl [Q13]; · iexact Q13
      isplitl [U1]; · iexact U1
      isplitl [Q33]; · iexact Q33
      iexact U3
    iexact HO
  iintro ⟨⟨Z5, Z6, P13, P33⟩, HO⟩
  unfold b14
  iapply (tup3 (b15 c (qW c) (pW c) v24 v28 v32) (fun Q' => part14 (Q := Q') m ρ K c _ _ _ _ _ _)) $$ [Q23 U2 R0 R1 R2 HO]
  · isplitr; · iexact HP
    isplitl [Q23 U2 R0 R1 R2]
    · isplitl [Q23]; · iexact Q23
      isplitl [U2]; · iexact U2
      isplitl [R0]; · iexact R0
      isplitl [R1]; · iexact R1
      iexact R2
    iexact HO
  iintro ⟨⟨P23, L0, R0, L1, R1, L2, R2⟩, HO⟩
  unfold b15
  iapply (tup3 (b16 (qW c) (pW c) v24 _) (fun Q' => part15 (Q := Q') m ρ K c _ _ _ _ _ _ _ (cW0 c) (cW1 c))) $$ [R4 R5 R6 L0 L1 L2 U0 M10 M11 HO]
  · isplitr; · iexact HP
    isplitl [R4 R5 R6 L0 L1 L2 U0 M10 M11]
    · isplitl [R4]; · iexact R4
      isplitl [R5]; · iexact R5
      isplitl [R6]; · iexact R6
      isplitl [L0]; · iexact L0
      isplitl [L1]; · iexact L1
      isplitl [L2]; · iexact L2
      isplitl [U0]; · iexact U0
      isplitl [M10]; · iexact M10
      iexact M11
    iexact HO
  iintro ⟨⟨LO, R4, R5, R6, M10, M11⟩, HO⟩
  ihave GE := (Entails.of_eq (show iprop(ZC m ρ c 5 ∗ ZC m ρ c 6 ∗ PC m ρ c 1 3 ∗ PC m ρ c 3 3 ∗ PC m ρ c 2 3) = GE m ρ c from rfl)) $$ [Z5 Z6 P13 P33 P23]
  · isplitl [Z5]; · iexact Z5
    isplitl [Z6]; · iexact Z6
    isplitl [P13]; · iexact P13
    isplitl [P33]; · iexact P33
    iexact P23
  ihave GR := (Entails.of_eq (show iprop(RZr m ρ c 0 ∗ RZr m ρ c 1 ∗ RZr m ρ c 2 ∗ RZr m ρ c 4 ∗ RZr m ρ c 5 ∗ RZr m ρ c 6) = GR m ρ c from rfl)) $$ [R0 R1 R2 R4 R5 R6]
  · isplitl [R0]; · iexact R0
    isplitl [R1]; · iexact R1
    isplitl [R2]; · iexact R2
    isplitl [R4]; · iexact R4
    isplitl [R5]; · iexact R5
    iexact R6
  exact BIBase.Entails.trans (reord (F := F)) (rest16 (f3 := f3) m ρ K c _ _ (cW0 c) (cW1 c) (cW2 c) (cW3 c) (cW4 c) (cW5 c) (cW6 c) (outE m ρ c) hQ)

end Cert.KernelIdeal.Moe
end
-- ==== Proof.KI.Tokens.lean ====
/-
The cells and the tokens, as they are minted and as they are paid.
-/
module

public import proofs.«01_k».proof.Proof.KI.Ends

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device owes at the launch. -/
def O₀ (c : Dev nD) : CellTallies nD τ sig Unit := OL (dues c)

/-! ## The rows of a device's semaphores -/

theorem fin7 (Ψ : ℕ → sProp 𝕄) : (bigSep Finset.univ fun s : Fin 7 => Ψ s.val) = bigSep (Finset.range 7) Ψ := by
  rw [bigSep_univ_eq_bigSepL [(0 : Fin 7), 1, 2, 3, 4, 5, 6] (by decide) (by decide), bigSep_eq_bigSepL_of_eq [0, 1, 2, 3, 4, 5, 6] (by decide) (by decide)]
  rfl

theorem option_eq (Φ : CI → sProp 𝕄) : bigSep Finset.univ Φ = iprop(Φ none ∗ bigSep Finset.univ fun i : Fin 56 => Φ (some i)) := by
  rw [bigSep_univ_at Φ none]
  have e : (Finset.univ.erase none : Finset CI) = Finset.univ.map Function.Embedding.some := by
    ext x
    cases x with
    | none => simp
    | some i => simp
  rw [e, bigSep_map]
  rfl

theorem ix_fin : ∀ (A : Fin 8) (s : Fin 7), (finProdFinEquiv (A, s) : Fin (8 * 7)) = ix A.val s.val := by decide

theorem rows (Φ : Fin 56 → sProp 𝕄) : bigSep Finset.univ Φ = iprop((bigSep (Finset.range 7) fun s => Φ (ix 0 s)) ∗ (bigSep (Finset.range 7) fun s => Φ (ix 1 s)) ∗ (bigSep (Finset.range 7) fun s => Φ (ix 2 s)) ∗ (bigSep (Finset.range 7) fun s => Φ (ix 3 s)) ∗ (bigSep (Finset.range 7) fun s => Φ (ix 4 s)) ∗ (bigSep (Finset.range 7) fun s => Φ (ix 5 s)) ∗ (bigSep (Finset.range 7) fun s => Φ (ix 6 s)) ∗ bigSep (Finset.range 7) fun s => Φ (ix 7 s)) := by
  refine (bigSep_univ_equiv (finProdFinEquiv : Fin 8 × Fin 7 ≃ Fin 56) Φ).trans ?_
  refine (bigSep_univ_prod _).trans ?_
  refine (bigSep_congr (Ψ := fun A : Fin 8 => bigSep (Finset.range 7) fun s => Φ (ix A.val s)) fun A _ => ?_).trans ?_
  · refine (bigSep_congr (Ψ := fun s : Fin 7 => Φ (ix A.val s.val)) fun s _ => congrArg Φ (ix_fin A s)).trans ?_
    exact fin7 fun s => Φ (ix A.val s)
  · rw [bigSep_univ_eq_bigSepL [(0 : Fin 8), 1, 2, 3, 4, 5, 6, 7] (by decide) (by decide)]
    rfl

theorem kcell_ix (c : Dev nD) (A s : ℕ) (hA : A < 8) (hs : s < 7) : kcell (c, some (ix A s)) = cell A c s :=
  congrArg (Prod.mk (c : Thread nD τ)) (osem_ix A s hA hs)

theorem row_cell (c : Dev nD) (A : ℕ) (hA : A < 8) (Φ : GSem nD τ sig → sProp 𝕄) :
    (bigSep (Finset.range 7) fun s => Φ (kcell (c, some (ix A s)))) = bigSep (Finset.range 7) fun s => Φ (cell A c s) :=
  bigSep_congr fun s hs => by rw [kcell_ix c A s hA (Finset.mem_range.mp hs)]

/-- A device's cells: the barrier's, then the eight rows. -/
theorem cells_eq (c : Dev nD) (Φ : GSem nD τ sig → sProp 𝕄) : (bigSep Finset.univ fun k : CI => Φ (kcell (c, k))) =
    iprop(Φ (barCell c) ∗ (bigSep (Finset.range 7) fun s => Φ (cell 0 c s)) ∗ (bigSep (Finset.range 7) fun s => Φ (cell 1 c s)) ∗ (bigSep (Finset.range 7) fun s => Φ (cell 2 c s)) ∗ (bigSep (Finset.range 7) fun s => Φ (cell 3 c s)) ∗ (bigSep (Finset.range 7) fun s => Φ (cell 4 c s)) ∗ (bigSep (Finset.range 7) fun s => Φ (cell 5 c s)) ∗ (bigSep (Finset.range 7) fun s => Φ (cell 6 c s)) ∗ bigSep (Finset.range 7) fun s => Φ (cell 7 c s)) := by
  rw [option_eq, rows, row_cell c 0 (by decide), row_cell c 1 (by decide), row_cell c 2 (by decide), row_cell c 3 (by decide), row_cell c 4 (by decide), row_cell c 5 (by decide), row_cell c 6 (by decide), row_cell c 7 (by decide)]

/-! ## The tokens, as minted and as paid -/

theorem osem_injective : Function.Injective osem := by
  intro i j h
  have h1 : (⟨4 + i.val, by have := i.isLt; show _ < 60; omega⟩ : Fin 60) = ⟨4 + j.val, by have := j.isLt; show _ < 60; omega⟩ := SemLoc.dma.inj h
  have h2 : 4 + i.val = 4 + j.val := congrArg Fin.val h1
  exact Fin.ext (by omega)

theorem kcell_injective : Function.Injective (kcell : Dev nD × CI → GSem nD τ sig) := by
  rintro ⟨c, k⟩ ⟨c', k'⟩ h
  have h1 : c = c' := congrArg (fun g : GSem nD τ sig => g.1.1) h
  subst h1
  have h2 : csem k = csem k' := congrArg Prod.snd h
  cases k with
  | none =>
    cases k' with
    | none => rfl
    | some j => exact absurd h2 (fun hh => by cases hh)
  | some i =>
    cases k' with
    | none => exact absurd h2 (fun hh => by cases hh)
    | some j => rw [osem_injective h2]

def allCells : Finset (GSem nD τ sig) := Finset.univ.map ⟨kcell, kcell_injective⟩

abbrev tokOf (x : Dev nD × (Fin 7 ⊕ Fin 56)) : GSem nD τ sig × ℕ × Fin 7 := match x.2 with
  | .inl d => (barCell x.1, 0, d)
  | .inr i => (kcell (x.1, some i), 0, 0)
theorem tokOf_injective : Function.Injective tokOf := by
  rintro ⟨c, x⟩ ⟨c', x'⟩ h
  cases x with
  | inl d =>
    cases x' with
    | inl d' =>
      have h1 : c = c' := congrArg (fun g : GSem nD τ sig × ℕ × Fin 7 => g.1.1.1) h
      have h2 : d = d' := congrArg (fun g : GSem nD τ sig × ℕ × Fin 7 => g.2.2) h
      rw [h1, h2]
    | inr i => exact absurd (congrArg (fun g : GSem nD τ sig × ℕ × Fin 7 => g.1.2) h) (fun hh => by cases hh)
  | inr i =>
    cases x' with
    | inl d => exact absurd (congrArg (fun g : GSem nD τ sig × ℕ × Fin 7 => g.1.2) h) (fun hh => by cases hh)
    | inr i' =>
      have h1 := kcell_injective (congrArg (fun g : GSem nD τ sig × ℕ × Fin 7 => g.1) h)
      have h2 : c = c' := congrArg Prod.fst h1
      have h3 : some i = some i' := congrArg Prod.snd h1
      rw [h2, Option.some.inj h3]
def allToks : Finset (GSem nD τ sig × ℕ × Fin 7) := Finset.univ.map ⟨tokOf, tokOf_injective⟩

abbrev BK (c : Dev nD) (d : Fin 7) : sProp 𝕄 := dutyTok ER (barCell c) 0 d
abbrev CT (A : ℕ) (c : Dev nD) (s : ℕ) : sProp 𝕄 := dutyTok ER (cell A c s) 0 0
def BQ (c : Dev nD) : sProp 𝕄 := iprop(BK c 0 ∗ BK c 1 ∗ BK c 2 ∗ BK c 3)
def BP (c : Dev nD) : sProp 𝕄 := iprop(BK (pd c 0) (dz c) ∗ BK (pd c 1) (dz c) ∗ BK (pd c 2) (dz c) ∗ BK (pd c 3) (dz c))
def RT (A : ℕ) (c : Dev nD) : sProp 𝕄 := bigSep (Finset.range 7) fun s => CT A c s

/-- The tokens of a device's own cells. -/
def toks (c : Dev nD) : sProp 𝕄 :=
  iprop((BQ c ∗ BK c 4 ∗ BK c 5 ∗ BK c 6) ∗ RT 0 c ∗ RT 1 c ∗ RT 2 c ∗ RT 3 c ∗ RT 4 c ∗ RT 5 c ∗ RT 6 c ∗ RT 7 c)

theorem toks_eq (c : Dev nD) : (bigSep Finset.univ fun x : Fin 7 ⊕ Fin 56 => (dutyTok ER (tokOf (c, x)).1 (tokOf (c, x)).2.1 (tokOf (c, x)).2.2 : sProp 𝕄)) ⊢ toks c := by
  rw [bigSep_univ_sum]
  unfold toks RT BQ
  have e := rows (F := F) fun i => (dutyTok ER (kcell (c, some i)) 0 0 : sProp 𝕄)
  rw [row_cell c 0 (by decide) (fun g => dutyTok ER g 0 0), row_cell c 1 (by decide) (fun g => dutyTok ER g 0 0), row_cell c 2 (by decide) (fun g => dutyTok ER g 0 0), row_cell c 3 (by decide) (fun g => dutyTok ER g 0 0), row_cell c 4 (by decide) (fun g => dutyTok ER g 0 0), row_cell c 5 (by decide) (fun g => dutyTok ER g 0 0), row_cell c 6 (by decide) (fun g => dutyTok ER g 0 0), row_cell c 7 (by decide) (fun g => dutyTok ER g 0 0)] at e
  rw [← e]
  have e0 : (bigSep Finset.univ fun d : Fin 7 => (BK c d : sProp 𝕄)) = iprop(BK c 0 ∗ BK c 1 ∗ BK c 2 ∗ BK c 3 ∗ BK c 4 ∗ BK c 5 ∗ BK c 6) := bigSep_univ_eq_bigSepL [(0 : Fin 7), 1, 2, 3, 4, 5, 6] (by decide) (by decide) _
  show iprop((bigSep Finset.univ fun d : Fin 7 => (BK c d : sProp 𝕄)) ∗ _) ⊢ _
  rw [e0]
  iintro ⟨⟨H0, H1, H2, H3, H4, H5, H6⟩, R⟩
  isplitr [R]
  · isplitl [H0 H1 H2 H3]
    · isplitl [H0]; · iexact H0
      isplitl [H1]; · iexact H1
      isplitl [H2]; · iexact H2
      iexact H3
    isplitl [H4]; · iexact H4
    isplitl [H5]; · iexact H5
    iexact H6
  iexact R

/-- The tokens of the duties a device pays. -/
def payToks (c : Dev nD) : sProp 𝕄 :=
  iprop(BP c ∗ (BK (pl c 1) 4 ∗ BK (pl c 3) 6 ∗ BK (pl c 2) 5) ∗ ZK c ∗ PK c 1 ∗ PK c 3 ∗ PK c 2)

def zeroD : Fin 4 → Fin 7 := fun j => ⟨j.val, by have := j.isLt; omega⟩
def barSwap : Dev nD × Fin 4 ≃ Dev nD × Fin 4 :=
  Function.Involutive.toPerm (fun x => (pd x.1 x.2, ⟨x.1.val / 4, by have : x.1.val < 16 := x.1.isLt; omega⟩)) (by
    have h : ∀ (c : Fin 16) (j : Fin 4), (pd (pd c j) ⟨c.val / 4, by have := c.isLt; omega⟩, (⟨(pd c j).val / 4, by have : (pd c j).val < 16 := (pd c j).isLt; omega⟩ : Fin 4)) = ((c : Dev nD), j) := by decide
    rintro ⟨c, j⟩; exact h c j)
def zSwap : Dev nD × Fin 7 ≃ Dev nD × Fin 7 :=
  Function.Involutive.toPerm (fun x => (zp x.1 x.2.val, ⟨6 - x.2.val, by omega⟩)) (by
    have h : ∀ (c : Fin 16) (s : Fin 7), (zp (zp c s.val) (6 - s.val), (⟨6 - (6 - s.val), by omega⟩ : Fin 7)) = ((c : Dev nD), s) := by decide
    rintro ⟨c, s⟩; exact h c s)
def plSwap (k : Fin 4) : Dev nD ≃ Dev nD := ⟨fun c => pl c k.val, fun c => pl c (4 - k.val), by
    have h : ∀ (k : Fin 4) (c : Fin 16), pl (pl c k.val) (4 - k.val) = (c : Dev nD) := by decide
    exact h k, by
    have h : ∀ (k : Fin 4) (c : Fin 16), pl (pl c (4 - k.val)) k.val = (c : Dev nD) := by decide
    exact h k⟩

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem bar_around : (bigSep Finset.univ fun c : Dev nD => (BQ c : sProp 𝕄)) = bigSep Finset.univ fun c : Dev nD => BP c := by
  have e1 : (bigSep Finset.univ fun c : Dev nD => (BQ c : sProp 𝕄))
      = bigSep Finset.univ fun x : Dev nD × Fin 4 => (BK x.1 (zeroD x.2) : sProp 𝕄) := by
    rw [bigSep_univ_prod]
    exact bigSep_congr fun c _ => (fin4 fun j => BK c (zeroD j)).symm
  have e2 : (bigSep Finset.univ fun c : Dev nD => (BP c : sProp 𝕄))
      = bigSep Finset.univ fun x : Dev nD × Fin 4 => (BK (pd x.1 x.2) (dz x.1) : sProp 𝕄) := by
    rw [bigSep_univ_prod]
    exact bigSep_congr fun c _ => (fin4 fun j => BK (pd c j) (dz c)).symm
  rw [e1, e2, bigSep_univ_equiv barSwap]
  rfl

theorem z_around : (bigSep Finset.univ fun c : Dev nD => (RT 1 c : sProp 𝕄)) = bigSep Finset.univ fun c : Dev nD => bigSep (Finset.range 7) fun s => CT 1 (zp c s) (6 - s) := by
  have e1 : (bigSep Finset.univ fun c : Dev nD => (RT 1 c : sProp 𝕄)) = bigSep Finset.univ fun x : Dev nD × Fin 7 => (CT 1 x.1 x.2.val : sProp 𝕄) := by
    rw [bigSep_univ_prod]
    exact bigSep_congr fun c _ => (fin7 fun s => CT 1 c s).symm
  have e2 : (bigSep Finset.univ fun c : Dev nD => (bigSep (Finset.range 7) fun s => CT 1 (zp c s) (6 - s) : sProp 𝕄)) = bigSep Finset.univ fun x : Dev nD × Fin 7 => (CT 1 (zp x.1 x.2.val) (6 - x.2.val) : sProp 𝕄) := by
    rw [bigSep_univ_prod]
    exact bigSep_congr fun c _ => (fin7 fun s => CT 1 (zp c s) (6 - s)).symm
  rw [e1, e2, bigSep_univ_equiv zSwap]
  rfl

theorem pl_around (k : Fin 4) (Φ : Dev nD → sProp 𝕄) : bigSep Finset.univ Φ = bigSep Finset.univ fun c : Dev nD => Φ (pl c k.val) :=
  bigSep_univ_equiv (plSwap k) Φ

theorem zk_eq (c : Dev nD) : (ZK c : sProp 𝕄) = iprop(RT 0 c ∗ bigSep (Finset.range 7) fun s => CT 1 (zp c s) (6 - s)) := by
  unfold ZK RT; exact bigSep_sep' _ _ _
theorem pk_eq (c : Dev nD) (k : ℕ) : (PK c k : sProp 𝕄) = iprop(RT (spA k) c ∗ RT (rpA k) (pl c k)) := by
  unfold PK RT; exact bigSep_sep' _ _ _

theorem toks_around : (bigSep Finset.univ fun c : Dev nD => (toks c : sProp 𝕄)) ⊢ bigSep Finset.univ fun c : Dev nD => payToks c := by
  unfold toks
  unfold payToks
  simp only [zk_eq, pk_eq]
  rw [show spA 1 = 2 from rfl, show spA 3 = 4 from rfl, show spA 2 = 6 from rfl, show rpA 1 = 3 from rfl, show rpA 3 = 5 from rfl, show rpA 2 = 7 from rfl]
  iintro H
  ihave H := (Entails.of_eq (bigSep_sep' Finset.univ (fun c : Dev nD => (iprop(BQ c ∗ BK c 4 ∗ BK c 5 ∗ BK c 6) : sProp 𝕄)) fun c => iprop(RT 0 c ∗ RT 1 c ∗ RT 2 c ∗ RT 3 c ∗ RT 4 c ∗ RT 5 c ∗ RT 6 c ∗ RT 7 c))) $$ H
  icases H with ⟨HB, HR⟩
  ihave HB := (Entails.of_eq (by rw [bigSep_sep', bigSep_sep', bigSep_sep', bar_around, pl_around 1 (fun c => BK c 4), pl_around 2 (fun c => BK c 5), pl_around 3 (fun c => BK c 6)] : (bigSep Finset.univ fun c : Dev nD => (iprop(BQ c ∗ BK c 4 ∗ BK c 5 ∗ BK c 6) : sProp 𝕄)) = iprop((bigSep Finset.univ fun c : Dev nD => BP c) ∗ (bigSep Finset.univ fun c : Dev nD => BK (pl c (1 : Fin 4).val) 4) ∗ (bigSep Finset.univ fun c : Dev nD => BK (pl c (2 : Fin 4).val) 5) ∗ bigSep Finset.univ fun c : Dev nD => BK (pl c (3 : Fin 4).val) 6))) $$ HB
  ihave HR := (Entails.of_eq (by rw [bigSep_sep', bigSep_sep', bigSep_sep', bigSep_sep', bigSep_sep', bigSep_sep', bigSep_sep', z_around, pl_around 1 (RT 3), pl_around 3 (RT 5), pl_around 2 (RT 7)] : (bigSep Finset.univ fun c : Dev nD => (iprop(RT 0 c ∗ RT 1 c ∗ RT 2 c ∗ RT 3 c ∗ RT 4 c ∗ RT 5 c ∗ RT 6 c ∗ RT 7 c) : sProp 𝕄)) = iprop((bigSep Finset.univ fun c : Dev nD => RT 0 c) ∗ (bigSep Finset.univ fun c : Dev nD => bigSep (Finset.range 7) fun s => CT 1 (zp c s) (6 - s)) ∗ (bigSep Finset.univ fun c : Dev nD => RT 2 c) ∗ (bigSep Finset.univ fun c : Dev nD => RT 3 (pl c (1 : Fin 4).val)) ∗ (bigSep Finset.univ fun c : Dev nD => RT 4 c) ∗ (bigSep Finset.univ fun c : Dev nD => RT 5 (pl c (3 : Fin 4).val)) ∗ (bigSep Finset.univ fun c : Dev nD => RT 6 c) ∗ bigSep Finset.univ fun c : Dev nD => RT 7 (pl c (2 : Fin 4).val)))) $$ HR
  icases HB with ⟨D, H4, H5, H6⟩
  icases HR with ⟨R0, R1, R2, R3, R4, R5, R6, R7⟩
  simp only [bigSep_sep']
  isplitl [D]; · iexact D
  isplitl [H4 H5 H6]
  · isplitl [H4]; · iexact H4
    isplitl [H6]; · iexact H6
    iexact H5
  isplitl [R0 R1]
  · isplitl [R0]; · iexact R0
    iexact R1
  isplitl [R2 R3]
  · isplitl [R2]; · iexact R2
    iexact R3
  isplitl [R4 R5]
  · isplitl [R4]; · iexact R4
    iexact R5
  isplitl [R6]; · iexact R6
  iexact R7

end Cert.KernelIdeal.Moe
end
-- ==== Proof.KI.Duty.lean ====
/-
What a device starts from, and the body's obligation.
-/
module

public import proofs.«01_k».proof.Proof.KI.Body
public import proofs.«01_k».proof.Proof.KI.Tokens
public import proofs.«01_k».proof.Proof.Gen.KernelIdeal.Points

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from, and the body's obligation -/

/-- The tokens of the duties a device pays. -/
def toksP (c : Dev nD) : sProp 𝕄 :=
  iprop(dutyTok ER (barCell (pd c 0)) 0 (dz c) ∗ dutyTok ER (barCell (pd c 1)) 0 (dz c) ∗ dutyTok ER (barCell (pd c 2)) 0 (dz c) ∗ dutyTok ER (barCell (pd c 3)) 0 (dz c) ∗ dutyTok ER (barCell (pl c 1)) 0 (⟨(1 + 3) % 7, Nat.mod_lt _ (by decide)⟩ : Fin 7) ∗ dutyTok ER (barCell (pl c 3)) 0 (⟨(3 + 3) % 7, Nat.mod_lt _ (by decide)⟩ : Fin 7) ∗ dutyTok ER (barCell (pl c 2)) 0 (⟨(2 + 3) % 7, Nat.mod_lt _ (by decide)⟩ : Fin 7) ∗ ZK c ∗ PK c 1 ∗ PK c 3 ∗ PK c 2)
/-- Its own cells' positions, and what it is credited. -/
def ghP (c : Dev nD) : sProp 𝕄 :=
  iprop(atPos ER (barCell c) 0 ∅ 0 ∗ cred (tallyAt (barCell c) () 6) ∗ POS c 0 ∗ POS c 1 ∗ POS c 2 ∗ POS c 3 ∗ POS c 4 ∗ POS c 5 ∗ POS c 6 ∗ POS c 7 ∗ CR c 1 ∗ CR c 3 ∗ CR c 5 ∗ CR c 7)
def start (c : Dev nD) : sProp 𝕄 := iprop((∃ K, PER m ρ K) ∗ toksP c ∗ ghP c)
def Φ₀ (c : Dev nD) : sProp 𝕄 := iprop(start m ρ c ∗ ∃ f, scrL c ↦{fullShare} f)
def Φ₁ (c : Dev nD) : sProp 𝕄 :=
  iprop(((scrL c ↦{fullShare} Yall m ρ c) ∗ SV c 0 ∗ SV c 1 ∗ SV c 2 ∗ SV c 3 ∗ SV c 4 ∗ SV c 5 ∗ SV c 6 ∗ SV c 7) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wst m ρ c
    | ⟨2, _⟩ => ist m ρ c
    | ⟨3, _⟩ => outV m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ m ρ c ∗ (dats m ρ 0 c).owesAt () t0_0.succ
    ∗ stg c cc0_stg0_0 (xst m ρ c) ∗ stg c cc0_stg1_0 (wst m ρ c) ∗ stg c cc0_stg2_0 (ist m ρ c) ∗ stg c cc0_stg3_0 (outV m ρ c))

theorem before0 (c : Dev nD) (d) : (dats m ρ 0 c).before (0 : Fin 4) t0_0 d = xst m ρ c := by
  unfold Dat.before; rw [if_pos (fetch0_0 t0_0)]; rfl
theorem before1 (c : Dev nD) (d) : (dats m ρ 0 c).before (1 : Fin 4) t0_0 d = wst m ρ c := by
  unfold Dat.before; rw [if_pos (fetch0_1 t0_0)]; rfl
theorem before2 (c : Dev nD) (d) : (dats m ρ 0 c).before (2 : Fin 4) t0_0 d = ist m ρ c := by
  unfold Dat.before; rw [if_pos (fetch0_2 t0_0)]; rfl

theorem stg_intro (c : Dev nD) (b : Ref sig .tc) (X : b.ty.Contents (Elt F)) : ((((c : Thread nD τ).loc b) ↦{fullShare} X) : sProp 𝕄) ⊢ stg c b X := by
  unfold stg
  iintro H
  iexists X
  isplitr; · (ipureintro; rfl)
  iexact H

theorem post_of (c : Dev nD) : iprop(((scrL c ↦{fullShare} Yall m ρ c) ∗ SV c 0 ∗ SV c 1 ∗ SV c 2 ∗ SV c 3 ∗ SV c 4 ∗ SV c 5 ∗ SV c 6 ∗ SV c 7) ∗ (((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} outV m ρ c) ∗ semVal (barCell c) 0 ∗ owesE c []) ⊢ bodyPost m ρ c := by
  unfold bodyPost Φ₁ Dat.owesAt Pipeline.owesWithin owesE
  iintro ⟨HS, H0, H1, H2, H3, HB, %W, HO⟩
  isplitl [HS HB]
  · isplitl [HS]; · iexact HS
    iexact HB
  isplitl [HO]
  · iexists W
    isplitr; · ipureintro; exact fun _ _ => Or.inl trivial
    iexact HO
  isplitl [H0]; · iapply (stg_intro c cc0_stg0_0 (xst m ρ c)); iexact H0
  isplitl [H1]; · iapply (stg_intro c cc0_stg1_0 (wst m ρ c)); iexact H1
  isplitl [H2]; · iapply (stg_intro c cc0_stg2_0 (ist m ρ c)); iexact H2
  iapply (stg_intro c cc0_stg3_0 (outV m ρ c)); iexact H3

def runPre (c : Dev nD) (K : Dev nD × CI → ℕ) (f0 : Buf (Elt F) (scrL c)) (f3 : Buf (Elt F) ((c : Thread nD τ).loc cc0_stg3_0)) : sProp 𝕄 :=
  iprop(PER m ρ K ∗ ((scrL c ↦{fullShare} f0) ∗ (((c : Thread nD τ).loc cc0_stg0_0) ↦{fullShare} xst m ρ c) ∗ (((c : Thread nD τ).loc cc0_stg1_0) ↦{fullShare} wst m ρ c) ∗ (((c : Thread nD τ).loc cc0_stg2_0) ↦{fullShare} ist m ρ c) ∗ (((c : Thread nD τ).loc cc0_stg3_0) ↦{fullShare} f3)) ∗ toksP c ∗ ghP c ∗ owesE c (dues c))

theorem pre_of (c : Dev nD) : bodyPre m ρ c ⊢ (iprop(∃ K f0 f3, runPre m ρ c K f0 f3) : sProp 𝕄) := by
  unfold bodyPre runPre Φ₀ start Dat.owesAt Pipeline.owesWithin owesE
  iintro ⟨⟨⟨⟨%K, #HP⟩, HT, HG⟩, %f0, HS⟩, ⟨%W, %hW, HO⟩, ⟨%d0, H0⟩, ⟨%d1, H1⟩, ⟨%d2, H2⟩, ⟨%d3, H3⟩⟩
  rw [before0, before1, before2]
  unfold stg
  icases H0 with ⟨%g0, %e0, H0⟩
  icases H1 with ⟨%g1, %e1, H1⟩
  icases H2 with ⟨%g2, %e2, H2⟩
  icases H3 with ⟨%g3, %e3, H3⟩
  subst e0 e1 e2
  iexists K
  iexists f0
  iexists g3
  isplitr; · iexact HP
  isplitl [HS H0 H1 H2 H3]
  · isplitl [HS]; · iexact HS
    isplitl [H0]; · iexact H0
    isplitl [H1]; · iexact H1
    isplitl [H2]; · iexact H2
    iexact H3
  isplitl [HT]; · iexact HT
  isplitl [HG]; · iexact HG
  iexists W
  iexact HO

theorem exists_run {A B C : Type} {P : A → B → C → sProp 𝕄} {R : sProp 𝕄} (h : ∀ a b c, P a b c ⊢ R) : (iprop(∃ a b c, P a b c) : sProp 𝕄) ⊢ R := by
  iintro ⟨%a, %b, %c, H⟩
  iapply (h a b c)
  iexact H

theorem run_of (c : Dev nD) (K f0 f3) : runPre m ρ c K f0 f3 ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8) (fun _ => bodyPost m ρ c) :=
  body_wp m ρ K c (f0 := f0) (f3 := f3) (Q := fun _ => bodyPost m ρ c) (post_of m ρ c)

theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8) (fun _ => bodyPost m ρ c)
  exact (pre_of m ρ c).trans (exists_run (run_of m ρ c))

end Cert.KernelIdeal.Moe
end
-- ==== Proof.KI.Credits.lean ====
/-
What is owed to each cell at the launch.
-/
module

public import proofs.«01_k».proof.Proof.KI.Tokens

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices owe a cell -/

def cnt : List (Bool × GSem nD τ sig × ℕ) → GSem nD τ sig → ℕ
  | [], _ => 0
  | t :: ts, g => cnt ts g + (if t.1 = true ∧ g = t.2.1 then t.2.2 else 0)

theorem OL_apply (l : List (Bool × GSem nD τ sig × ℕ)) (g : GSem nD τ sig) : OL l g () = cnt l g := by
  induction l with
  | nil => rfl
  | cons t ts ih =>
    show (OL ts + tal t) g () = _
    rw [Pi.add_apply, Finsupp.add_apply, ih]
    show _ = cnt ts g + (if t.1 = true ∧ g = t.2.1 then t.2.2 else 0)
    congr 1
    unfold tal
    by_cases h : t.1 = true
    · rw [if_pos h, tallyAt_apply]
      by_cases h' : g = t.2.1
      · rw [if_pos ⟨h', rfl⟩, if_pos ⟨h, h'⟩]
      · rw [if_neg (fun hh => h' hh.1), if_neg (fun hh => h' hh.2)]
    · rw [if_neg h, if_neg (fun hh => h hh.1)]; rfl

theorem cell_iff (A s B r : ℕ) (hA : A < 8) (hs : s < 7) (hB : B < 8) (hr : r < 7) (c d : Dev nD) :
    cell A c s = cell B d r ↔ A = B ∧ s = r ∧ c = d := by
  constructor
  · intro h
    have h1 : c = d := congrArg (fun g : GSem nD τ sig => g.1.1) h
    have h2 : (SemLoc.dma (sm A s) : SemLoc sig) = .dma (sm B r) := congrArg Prod.snd h
    have h3 : (sm A s).val = (sm B r).val := congrArg Fin.val (SemLoc.dma.inj h2)
    rw [sm_val A s hA hs, sm_val B r hB hr] at h3
    exact ⟨by omega, by omega, h1⟩
  · rintro ⟨rfl, rfl, rfl⟩; rfl
theorem bar_ne (A s : ℕ) (c d : Dev nD) : barCell c ≠ cell A d s := fun h => by cases (congrArg Prod.snd h)
theorem bar_iff (c d : Dev nD) : barCell c = barCell d ↔ c = d :=
  ⟨fun h => congrArg (fun g : GSem nD τ sig => g.1.1) h, fun h => h ▸ rfl⟩

theorem if_add (p : Prop) [Decidable p] : (if p then N else 0) = (decide p).toNat * N := by
  by_cases h : p <;> simp [h]

/-- The number of transfers of `d` that signal `cell A c s`. -/
def nP (A s : ℕ) (c d : Dev nD) : List ℕ → ℕ
  | [] => 0
  | r :: rs => nP A s c d rs + (decide (zv d r = true ∧ A = 7 ∧ s = r ∧ c = pl d 2)).toNat + (decide (zv d r = true ∧ A = 5 ∧ s = r ∧ c = pl d 3)).toNat + (decide (zv d r = true ∧ A = 3 ∧ s = r ∧ c = pl d 1)).toNat
def nZ (A s : ℕ) (c d : Dev nD) : List ℕ → ℕ
  | [] => nP A s c d [3, 0, 1, 2, 4, 5, 6]
  | r :: rs => nZ A s c d rs + (decide (zv d r = true ∧ A = 1 ∧ s = 6 - r ∧ c = zp d r)).toNat
def nB (c d : Dev nD) : ℕ :=
  (decide (c = pl d 2)).toNat + (decide (c = pl d 3)).toNat + (decide (c = pl d 1)).toNat + (decide ((!decide (d.val / 4 = (3 : Fin 4).val)) = true ∧ c = pd d 3)).toNat
    + (decide ((!decide (d.val / 4 = (2 : Fin 4).val)) = true ∧ c = pd d 2)).toNat + (decide ((!decide (d.val / 4 = (1 : Fin 4).val)) = true ∧ c = pd d 1)).toNat + (decide ((!decide (d.val / 4 = (0 : Fin 4).val)) = true ∧ c = pd d 0)).toNat

theorem cntP (A s : ℕ) (hA : A < 8) (hs : s < 7) (c d : Dev nD) : ∀ l : List ℕ, (∀ r ∈ l, r < 7) → cnt (duesP d l) (cell A c s) = nP A s c d l * N
  | [], _ => by show 0 = 0 * N; omega
  | r :: rs, h => by
    have hr := h r (List.mem_cons_self ..)
    have ih := cntP A s hA hs c d rs fun x hx => h x (List.mem_cons_of_mem _ hx)
    show cnt (duesP d rs) (cell A c s) + (if zv d r = true ∧ cell A c s = cell 7 (pl d 2) r then N else 0) + (if zv d r = true ∧ cell A c s = cell 5 (pl d 3) r then N else 0) + (if zv d r = true ∧ cell A c s = cell 3 (pl d 1) r then N else 0) = _
    simp only [cell_iff A s 7 r hA hs (by decide) hr, cell_iff A s 5 r hA hs (by decide) hr, cell_iff A s 3 r hA hs (by decide) hr, ih, if_add]
    rw [← Nat.add_mul, ← Nat.add_mul, ← Nat.add_mul]
    rfl
theorem cntZ (A s : ℕ) (hA : A < 8) (hs : s < 7) (c d : Dev nD) : ∀ l : List ℕ, (∀ r ∈ l, r < 7) → cnt (duesZ d l) (cell A c s) = nZ A s c d l * N
  | [], _ => cntP A s hA hs c d _ (by decide)
  | r :: rs, h => by
    have hr := h r (List.mem_cons_self ..)
    have ih := cntZ A s hA hs c d rs fun x hx => h x (List.mem_cons_of_mem _ hx)
    show cnt (duesZ d rs) (cell A c s) + (if zv d r = true ∧ cell A c s = cell 1 (zp d r) (6 - r) then N else 0) = _
    simp only [cell_iff A s 1 (6 - r) hA hs (by decide) (by omega), ih, if_add]
    rw [← Nat.add_mul]
    rfl
theorem cnt_cell (A s : ℕ) (hA : A < 8) (hs : s < 7) (c d : Dev nD) : cnt (dues d) (cell A c s) = nZ A s c d [0, 1, 2, 4, 5, 6] * N := by
  have e := cntZ A s hA hs c d [0, 1, 2, 4, 5, 6] (by decide)
  show cnt (duesZ d [0, 1, 2, 4, 5, 6]) (cell A c s) + (if true = true ∧ cell A c s = barCell (pl d 2) then 1 else 0) + (if true = true ∧ cell A c s = barCell (pl d 3) then 1 else 0) + (if true = true ∧ cell A c s = barCell (pl d 1) then 1 else 0)
    + (if (!decide (d.val / 4 = (3 : Fin 4).val)) = true ∧ cell A c s = barCell (pd d 3) then 1 else 0) + (if (!decide (d.val / 4 = (2 : Fin 4).val)) = true ∧ cell A c s = barCell (pd d 2) then 1 else 0)
    + (if (!decide (d.val / 4 = (1 : Fin 4).val)) = true ∧ cell A c s = barCell (pd d 1) then 1 else 0) + (if (!decide (d.val / 4 = (0 : Fin 4).val)) = true ∧ cell A c s = barCell (pd d 0) then 1 else 0) = _
  rw [if_neg (fun h => bar_ne _ _ _ _ h.2.symm), if_neg (fun h => bar_ne _ _ _ _ h.2.symm), if_neg (fun h => bar_ne _ _ _ _ h.2.symm), if_neg (fun h => bar_ne _ _ _ _ h.2.symm), if_neg (fun h => bar_ne _ _ _ _ h.2.symm), if_neg (fun h => bar_ne _ _ _ _ h.2.symm), if_neg (fun h => bar_ne _ _ _ _ h.2.symm), e]
  simp only [Nat.add_zero]

theorem cntP_bar (c d : Dev nD) : ∀ l : List ℕ, cnt (duesP d l) (barCell c) = 0
  | [] => rfl
  | r :: rs => by
    have ih := cntP_bar c d rs
    show cnt (duesP d rs) (barCell c) + (if zv d r = true ∧ barCell c = cell 7 (pl d 2) r then N else 0) + (if zv d r = true ∧ barCell c = cell 5 (pl d 3) r then N else 0) + (if zv d r = true ∧ barCell c = cell 3 (pl d 1) r then N else 0) = _
    rw [if_neg (fun h => bar_ne _ _ _ _ h.2), if_neg (fun h => bar_ne _ _ _ _ h.2), if_neg (fun h => bar_ne _ _ _ _ h.2), ih]
theorem cntZ_bar (c d : Dev nD) : ∀ l : List ℕ, cnt (duesZ d l) (barCell c) = 0
  | [] => cntP_bar c d _
  | r :: rs => by
    have ih := cntZ_bar c d rs
    show cnt (duesZ d rs) (barCell c) + (if zv d r = true ∧ barCell c = cell 1 (zp d r) (6 - r) then N else 0) = _
    rw [if_neg (fun h => bar_ne _ _ _ _ h.2), ih]
theorem if_one (p : Prop) [Decidable p] : (if p then 1 else 0) = (decide p).toNat := by
  by_cases h : p <;> simp [h]
theorem cnt_bar (c d : Dev nD) : cnt (dues d) (barCell c) = nB c d := by
  have e := cntZ_bar c d [0, 1, 2, 4, 5, 6]
  show cnt (duesZ d [0, 1, 2, 4, 5, 6]) (barCell c) + (if true = true ∧ barCell c = barCell (pl d 2) then 1 else 0) + (if true = true ∧ barCell c = barCell (pl d 3) then 1 else 0) + (if true = true ∧ barCell c = barCell (pl d 1) then 1 else 0)
    + (if (!decide (d.val / 4 = (3 : Fin 4).val)) = true ∧ barCell c = barCell (pd d 3) then 1 else 0) + (if (!decide (d.val / 4 = (2 : Fin 4).val)) = true ∧ barCell c = barCell (pd d 2) then 1 else 0)
    + (if (!decide (d.val / 4 = (1 : Fin 4).val)) = true ∧ barCell c = barCell (pd d 1) then 1 else 0) + (if (!decide (d.val / 4 = (0 : Fin 4).val)) = true ∧ barCell c = barCell (pd d 0) then 1 else 0) = _
  simp only [bar_iff, e, if_one, true_and, Nat.zero_add]
  rfl

theorem sumB : ∀ c : Fin 16, (∑ d : Fin 16, nB c d) = 6 := by decide +kernel
theorem sumZ : ∀ (A : Fin 4) (s : Fin 7) (c : Fin 16), (∑ d : Fin 16, nZ (2 * A.val + 1) s.val c d [0, 1, 2, 4, 5, 6]) = (vd c (2 * A.val + 1) s.val).toNat := by decide +kernel

theorem launch_bar (c : Dev nD) : tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same]
  exact (Finset.sum_congr rfl fun d _ => (OL_apply _ _).trans (cnt_bar c d)).trans (sumB c)

theorem launch_cell (A : Fin 4) (s : Fin 7) (c : Dev nD) : tallyOn (cell (2 * A.val + 1) c s.val) (launchCredit (Pipeline.owing O₀) 0 (cell (2 * A.val + 1) c s.val))
    = (tallyAt (cell (2 * A.val + 1) c s.val) () ((vd c (2 * A.val + 1) s.val).toNat * N) : CellTallies nD τ sig Unit) := by
  unfold tallyAt; refine congrArg _ (Finsupp.ext fun u => ?_); cases u
  rw [Pipeline.launchCredit_owing, Finsupp.single_eq_same]
  refine (Finset.sum_congr rfl fun d _ => (OL_apply _ _).trans (cnt_cell (2 * A.val + 1) s.val (by have := A.isLt; omega) s.isLt c d)).trans ?_
  rw [← Finset.sum_mul]
  exact congrArg (· * N) (sumZ A s c)

theorem csem_injective : Function.Injective csem := fun i j h => by
  have := kcell_injective (a₁ := ((0 : Fin 16), i)) (a₂ := ((0 : Fin 16), j)) (congrArg (Prod.mk _) h)
  exact congrArg Prod.snd this

theorem row_cred (c : Dev nD) (A : Fin 4) : (bigSep (Finset.range 7) fun s => (cred (tallyOn (cell (2 * A.val + 1) c s) (launchCredit (Pipeline.owing O₀) 0 (cell (2 * A.val + 1) c s))) : sProp 𝕄)) ⊢ CR c (2 * A.val + 1) := by
  unfold CR
  refine bigSep_mono fun s hs => ?_
  have h := Finset.mem_range.mp hs
  rw [launch_cell A ⟨s, h⟩ c]
  show cred (tallyAt (cell (2 * A.val + 1) c s) () ((vd c (2 * A.val + 1) s).toNat * N)) ⊢ gd (vd c (2 * A.val + 1) s) (cred (tallyAt (cell (2 * A.val + 1) c s) () N))
  cases vd c (2 * A.val + 1) s with
  | true => rw [gd_true, show true.toNat * N = N from Nat.one_mul N]
  | false => rw [gd_false]; iintro H; iempintro

theorem creds (c : Dev nD) : (Pipeline.launchCred O₀ c : sProp 𝕄) ⊢ iprop(cred (tallyAt (barCell c) () 6) ∗ CR c 1 ∗ CR c 3 ∗ CR c 5 ∗ CR c 7) := by
  unfold Pipeline.launchCred
  refine (bigSep_subset (Finset.subset_univ (Finset.univ.map ⟨csem, csem_injective⟩))).trans ?_
  rw [bigSep_map]
  refine (Entails.of_eq (cells_eq c fun g => (cred (tallyOn g (launchCredit (Pipeline.owing O₀) 0 g)) : sProp 𝕄))).trans ?_
  rw [launch_bar]
  iintro ⟨HB, H0, H1, H2, H3, H4, H5, H6, H7⟩
  isplitl [HB]; · iexact HB
  isplitl [H1]; · iapply (row_cred (F := F) c 0); iexact H1
  isplitl [H3]; · iapply (row_cred (F := F) c 1); iexact H3
  isplitl [H5]; · iapply (row_cred (F := F) c 2); iexact H5
  iapply (row_cred (F := F) c 3); iexact H7

end Cert.KernelIdeal.Moe
end
-- ==== Proof.KI.Launch.lean ====
/-
The launch: every device's start, and the run of the whole program.
-/
module

public import proofs.«01_k».proof.Proof.KI.Duty
public import proofs.«01_k».proof.Proof.KI.Credits
public import Idealize.ShloMosaic.Lib.Pipeline.CollectiveSegs

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the launch element deals device `c`. -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_eq c
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, option_eq]
  iintro ⟨HS, HB⟩
  isplitl [HB]; · iexact HB
  iapply (Entails.of_eq (show (Pipeline.ownSems0 (Ix := Unit) (Name := ℕ) (U := UU) (Lvl := ℕ) (Val := Elt F) (τ := τ) osem c : sProp 𝕄) = bigSep Finset.univ fun i : Fin 56 => semVal (kcell (c, some i)) 0 from rfl))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × CI → ℕ) : sProp 𝕄 :=
  iprop((bigSep Finset.univ fun ck : Dev nD × CI => cellInv ER (sched m ρ) (K ck) (kcell ck)) ∗ bigSep Finset.univ fun ck : Dev nD × CI => reached ER (kcell ck) 0)
instance records_persistent (K : Dev nD × CI → ℕ) : BI.Persistent (records m ρ K) := by unfold records; infer_instance

/-- What stays with a device: its positions, and the tokens of the duties it pays. -/
def linear (c : Dev nD) : sProp 𝕄 := iprop((bigSep Finset.univ fun k : CI => atPos ER (kcell (c, k)) 0 ∅ 0) ∗ payToks c)
def G' (c : Dev nD) : sProp 𝕄 := iprop(∃ K, records m ρ K ∗ linear c)

theorem ghost_intro (K : Dev nD × CI → ℕ) (c : Dev nD) : iprop(records m ρ K ∗ linear c) ⊢ G' m ρ c := by
  unfold G'
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem pos_eq (c : Dev nD) : (bigSep Finset.univ fun k : CI => (atPos ER (kcell (c, k)) 0 ∅ 0 : sProp 𝕄))
    = iprop(atPos ER (barCell c) 0 ∅ 0 ∗ POS c 0 ∗ POS c 1 ∗ POS c 2 ∗ POS c 3 ∗ POS c 4 ∗ POS c 5 ∗ POS c 6 ∗ POS c 7) :=
  cells_eq c fun g => atPos ER g 0 ∅ 0

theorem toksP_of (c : Dev nD) : (payToks c : sProp 𝕄) ⊢ toksP c := by
  unfold payToks BP toksP
  iintro ⟨⟨D0, D1, D2, D3⟩, ⟨B1, B3, B2⟩, Z, K1, K3, K2⟩
  isplitl [D0]; · iexact D0
  isplitl [D1]; · iexact D1
  isplitl [D2]; · iexact D2
  isplitl [D3]; · iexact D3
  isplitl [B1]; · iexact B1
  isplitl [B3]; · iexact B3
  isplitl [B2]; · iexact B2
  isplitl [Z]; · iexact Z
  isplitl [K1]; · iexact K1
  isplitl [K3]; · iexact K3
  iexact K2

def restP (c : Dev nD) : sProp 𝕄 := ((c : Thread nD τ).loc main_arg1) ↦{fullShare} m ((c : Thread nD τ).loc main_arg1)

theorem rest_eq (c : Dev nD) : (Pipeline.unscopedRestP Pipeline.Prefetch.none cfg0.spec c (fun b => m ((c : Thread nD τ).loc b)) : sProp 𝕄) = restP m c :=
  (Pipeline.unscopedRestP_none _ _ _).trans (unscopedRest0_eq c _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ restP m c) := by
  rw [rest_eq]
  unfold G' linear records
  rw [pos_eq]
  iintro ⟨HR, Hlev, Hcr, -, ⟨%K, ⟨HI, HX⟩, ⟨PB, P0, P1, P2, P3, P4, P5, P6, P7⟩, HT⟩⟩
  ihave Hc := (creds (F := F) c) $$ Hcr
  icases Hc with ⟨CB, C1, C3, C5, C7⟩
  ihave HT := (toksP_of (F := F) c) $$ HT
  imodintro
  unfold start ghP PER
  isplitr [HR]
  · isplitl [HI HX Hlev]
    · iexists K
      isplitl [HI]; · iexact HI
      isplitl [HX]; · iexact HX
      iexact Hlev
    isplitl [HT]; · iexact HT
    isplitl [PB]; · iexact PB
    isplitl [CB]; · iexact CB
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [C1]; · iexact C1
    isplitl [C3]; · iexact C3
    isplitl [C5]; · iexact C5
    iexact C7
  · iexact HR

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem ownSems_of (c : Dev nD) : (iprop(SV c 0 ∗ SV c 1 ∗ SV c 2 ∗ SV c 3 ∗ SV c 4 ∗ SV c 5 ∗ SV c 6 ∗ SV c 7) : sProp 𝕄)
    = Pipeline.ownSems0 (Ix := Unit) (Name := ℕ) (U := UU) (Lvl := ℕ) (Val := Elt F) (τ := τ) osem c := by
  have e := rows (F := F) fun i => (semVal (kcell (c, some i)) 0 : sProp 𝕄)
  rw [row_cell c 0 (by decide) (fun g => semVal g 0), row_cell c 1 (by decide) (fun g => semVal g 0), row_cell c 2 (by decide) (fun g => semVal g 0), row_cell c 3 (by decide) (fun g => semVal g 0), row_cell c 4 (by decide) (fun g => semVal g 0), row_cell c 5 (by decide) (fun g => semVal g 0), row_cell c 6 (by decide) (fun g => semVal g 0), row_cell c 7 (by decide) (fun g => semVal g 0)] at e
  exact e.symm

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ← ownSems_of, unscopedSems0_eq]
  unfold Φ₁
  iintro ⟨⟨HS, HV⟩, HB⟩
  isplitl [HB]; · iexact HB
  isplitl [HV]; · iexact HV
  iexists (Yall m ρ c)
  iexact HS

theorem above_dues (c : Dev nD) : Above 0 (dues c) := by
  have h : Above 0 (afterBar c) := above_duesZ c 0 (by decide) _ (by decide)
  unfold dues
  exact above_cons ⟨rfl, Nat.one_pos⟩ (above_cons ⟨rfl, Nat.one_pos⟩ (above_cons ⟨rfl, Nat.one_pos⟩ (above_cons ⟨rfl, Nat.one_pos⟩ (above_cons ⟨rfl, Nat.one_pos⟩ (above_cons ⟨rfl, Nat.one_pos⟩ (above_cons ⟨rfl, Nat.one_pos⟩ h))))))

theorem mayWait_stage (c : Dev nD) (x : SemLoc sig) (hx : lvSem x = 0) (O : CellTallies nD τ sig Unit) (h : O = O₀ c ∨ O = 0) :
    (levAts L lv : sProp 𝕄) ⊢ MayWait (c : Thread nD τ) x () O := by
  rcases h with rfl | rfl
  · exact mayWait c x (dues c) (by rw [hx]; exact above_dues c)
  · exact mayWait c x [] (above_nil _)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

/-! ### The run -/

def finalA (c : Dev nD) (w : Fin cfg0.W) : Buf (Elt F) ((cfg0.win w).arr.view.loc (c : Thread nD τ)) := (dats m ρ 0 c).arrAt w cfg0.N

/-- Every device's arrays hold what the run leaves in them, and its second argument what it held. -/
def QC : PUnit × MemSt nD τ sig (Elt F) → Prop := fun r =>
  ∀ c : Dev nD, (∀ w : Fin cfg0.W, r.2.mem ((cfg0.win w).arr.view.loc (c : Thread nD τ)) = finalA m ρ c w) ∧
    r.2.mem ((c : Thread nD τ).loc main_arg1) = m ((c : Thread nD τ).loc main_arg1)

theorem rest_read (c : Dev nD) (s' : Phys nD τ sig (Elt F)) : iprop((unscopedSems0 c ∗ restP m c) ∗ SI s') ⊢
    (|={Set.univ}=> iprop(⌜(∀ sm : SemLoc sig, sm.isScoped .tc = false → s'.mem.sem ((c.tc : Thread nD τ), sm) = 0) ∧ s'.mem.mem ((c : Thread nD τ).loc main_arg1) = m ((c : Thread nD τ).loc main_arg1)⌝ ∗ SI s') : sProp 𝕄) := by
  unfold restP
  iintro ⟨⟨HU, HR⟩, HSI⟩
  ihave H := (pointsTo_read_all (Ix := Unit) (Name := ℕ) (U := UU) (Lvl := ℕ) ({()} : Finset Unit) (fun _ => (c : Thread nD τ).loc main_arg1) (fun _ => m ((c : Thread nD τ).loc main_arg1)) s') $$ [HR HSI]
  · rw [bigSep_singleton]
    isplitl [HR] <;> iassumption
  icases H with ⟨%h1, HSI⟩
  imod (Pipeline.unscopedSems0_read (X := unscopedSems0 c) (c := c) fupd_intro s') $$ [HU HSI] with ⟨%h2, HSI⟩
  · isplitl [HU] <;> iassumption
  imodintro
  isplitr; · ipureintro; exact ⟨h2, h1 () (Finset.mem_singleton_self _)⟩
  iexact HSI

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := restP m)
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = m ((c : Thread nD τ).loc main_arg1))
    (hY := fun c s' => by
      iintro ⟨Hu, HZ, HSI⟩
      iapply (rest_read m c s')
      isplitr [HSI]
      · isplitl [Hu] <;> iassumption
      iexact HSI)
    (hQ := fun _ h hs => ⟨fun c => ⟨fun w => (h c).1 w, (h c).2.2.2⟩, sem_eq_zero hs fun c => (h c).2.2.1⟩)

theorem final0 (c : Dev nD) : finalA m ρ c (0 : Fin 4) = m ((c : Thread nD τ).loc main_arg0) := (dats (F := F) m ρ 0 c).arrAt_in (0 : Fin 4) rfl _
theorem final1 (c : Dev nD) : finalA m ρ c (1 : Fin 4) = m ((c : Thread nD τ).loc main_arg3) := (dats (F := F) m ρ 0 c).arrAt_in (1 : Fin 4) rfl _
theorem final2 (c : Dev nD) : finalA m ρ c (2 : Fin 4) = m ((c : Thread nD τ).loc main_arg2) := (dats (F := F) m ρ 0 c).arrAt_in (2 : Fin 4) rfl _

/-- From any memory with zero counters, every fair execution ends with the arguments unchanged and every counter at zero. -/
theorem frame_run : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  (θ_run defs (onTc (τ := τ) (main (F := F))) (s₀ m ρ)).mono
    (fun r h => ⟨fun c => ⟨((h.1 c).1 (0 : Fin 4)).trans (final0 m ρ c), (h.1 c).2, ((h.1 c).1 (2 : Fin 4)).trans (final2 m ρ c), ((h.1 c).1 (1 : Fin 4)).trans (final1 m ρ c)⟩, h.2⟩)
    (run_main m ρ)

end Cert.KernelIdeal.Moe
end
-- ==== Proof.KI.Dropped.lean ====
/- What the kernel computes of the tokens that the capacity drops: the rows of zeros. -/
module

public import proofs.«01_k».proof.Proof.KI.Base
public import Idealize.ShloMosaic.Lib.Pointwise

@[expose] public section

noncomputable section

namespace Cert.KernelIdeal.Moe

open Idealize.ShloMosaic Idealize.SL.Sem
open Cert.KernelIdeal Cert.KernelIdeal.Gen

/-- An indicator bit as an extended real. -/
theorem bit_real (p : Prop) [Decidable p] : ((((BitVec.ofBool (decide p)).setWidth 32).toInt : ℝ) : EReal) = if p then 1 else 0 := by
  by_cases h : p <;> simp [h]

theorem sitofp_bit (p : Prop) [Decidable p] : (FloatOps.sitofp (F := Ideal) FTy.f32 ((BitVec.ofBool (decide p)).setWidth 32) : EReal) = if p then 1 else 0 :=
  bit_real p

theorem k20_apply (gp : IVec S1x1024 32) (r : Fin 1344) (t : Fin 1024) (h : gp (ix2 0 t) = 4294967295#32) :
    k0_pay20 (F := Ideal) gp (ix2 r t) = (0 : EReal) := by
  pointwise [k0_pay20, h]
  have hr := r.isLt
  have e : ¬ BitVec.ofNat 32 r.val = 4294967295#32 := by
    intro e
    have := congrArg BitVec.toNat e
    simp at this
    omega
  rw [show IntOp.cmpi .eq (BitVec.ofNat 32 r.val) 4294967295#32 = BitVec.ofBool (decide (BitVec.ofNat 32 r.val = 4294967295#32)) from rfl, sitofp_bit, if_neg e]

theorem k17_apply (k : IVec S1x1024 1) (a b d : IVec S1x1024 32) (t : Fin 1024) (h : k (ix2 0 t) = 0#1) :
    k0_pay17 k a b d (ix2 0 t) = 4294967295#32 := by
  pointwise [k0_pay17, h]

theorem k22_apply (oh : FVec Ideal S1344x1024 .bf16) (a : Vec Ideal S7x48x1024 .bf16) (b : Vec Ideal S21x48x1024 .bf16) (t o : Fin 1024)
    (h : ∀ r : Fin 1344, oh (ix2 r t) = (0 : EReal)) :
    k0_pay22 oh (k0_pay21 oh a) b (ix2 t o) = (0 : EReal) := by
  pointwise [k0_pay22, k0_pay21, h, dot_S336x1024_S336x1024_S1024x1024_0_0_1_1_n_n, dot_S1008x1024_S1008x1024_S1024x1024_0_0_1_1_n_n]
  rw [Finset.sum_eq_zero fun x _ => zero_mul _, Finset.sum_eq_zero fun x _ => zero_mul _]
  exact add_zero _

/-- The earlier tokens of a token's own expert. -/
def earlier (v : IVec S1024x1 32) (t : Fin 1024) : Finset (Fin 1024) :=
  Finset.univ.filter fun s => v (ix2 s 0) = v (ix2 t 0) ∧ s < t

theorem slt_fin (s t : Fin 1024) : IntOp.cmpi .slt (BitVec.ofNat 32 s.val) (BitVec.ofNat 32 t.val) = BitVec.ofBool (decide (s < t)) := by
  have hs := s.isLt
  have ht := t.isLt
  have es : (BitVec.ofNat 32 s.val).toInt = (s.val : Int) := by rw [BitVec.toInt_eq_toNat_cond]; simp; omega
  have et : (BitVec.ofNat 32 t.val).toInt = (t.val : Int) := by rw [BitVec.toInt_eq_toNat_cond]; simp; omega
  show BitVec.ofBool ((BitVec.ofNat 32 s.val).slt (BitVec.ofNat 32 t.val)) = _
  rw [BitVec.slt, es, et]
  exact congrArg BitVec.ofBool (decide_eq_decide.2 Int.ofNat_lt)

/-- A token of one of the 64 experts: the kernel's float rank is the count of the earlier tokens of its expert. -/
theorem k6_apply (v : IVec S1024x1 32) (t : Fin 1024) (h : (v (ix2 t 0)).toNat < 64) :
    k0_pay6 (F := Ideal) (k0_pay4 v) k0_pay5 (ix2 0 t) = (((earlier v t).card : ℝ) : EReal) := by
  pointwise [k0_pay6, k0_pay4, k0_pay3, k0_pay5, dot_S64x1024_S1024x1024_S64x1024_1_0_0_1_n_n]
  simp only [slt_fin, sitofp_bit, show ∀ a b : BitVec 32, IntOp.cmpi .eq a b = BitVec.ofBool (decide (a = b)) from fun _ _ => rfl]
  rw [Finset.sum_eq_single (⟨(v (ix2 t 0)).toNat, h⟩ : Fin 64)]
  · have e : BitVec.ofNat 32 (v (ix2 t 0)).toNat = v (ix2 t 0) := by simp
    simp only [e, if_true, mul_one, eq_comm (a := v (ix2 t 0))]
    rw [Finset.sum_congr rfl fun s _ => (show (if v (ix2 s 0) = v (ix2 t 0) then (1 : EReal) else 0) * (if s < t then (1 : EReal) else 0)
      = if v (ix2 s 0) = v (ix2 t 0) ∧ s < t then 1 else 0 by
        by_cases h1 : v (ix2 s 0) = v (ix2 t 0) <;> by_cases h2 : s < t <;> simp [h1, h2])]
    rw [Finset.sum_boole]
    rfl
  · intro x _ hx
    rw [if_neg, mul_zero]
    intro e
    apply hx
    apply Fin.ext
    have := congrArg BitVec.toNat e
    have hxl := x.isLt
    simp at this
    show x.val = (v (ix2 t 0)).toNat
    omega
  · intro hn
    exact absurd (Finset.mem_univ _) hn

theorem keep_zero (v : IVec S1024x1 32) (t : Fin 1024) (h : (v (ix2 t 0)).toNat < 64) (hc : 12 ≤ (earlier v t).card) :
    k0_pay7 (F := Ideal) (k0_pay4 v) k0_pay5 (ix2 0 t) = 0#1 := by
  pointwise [k0_pay7, k6_apply v t h]
  have e12 : Ideal.ofBits .f32 0x41400000#32 = ((12 : ℝ) : EReal) := by
    simp [Ideal.ofBits, Ideal.ieee]
    rw [← EReal.coe_mul]
    norm_num
  rw [e12, decide_eq_false]
  · rfl
  · rw [not_lt]
    exact EReal.coe_le_coe_iff.2 (by exact_mod_cast hc)

theorem out_zero (v : IVec S1024x1 32) (a b d : IVec S1x1024 32) (f : Vec Ideal S7x48x1024 .bf16) (g : Vec Ideal S21x48x1024 .bf16) (t o : Fin 1024)
    (h : (v (ix2 t 0)).toNat < 64) (hc : 12 ≤ (earlier v t).card) :
    k0_pay22 (k0_pay20 (k0_pay17 (k0_pay7 (F := Ideal) (k0_pay4 v) k0_pay5) a b d))
      (k0_pay21 (k0_pay20 (k0_pay17 (k0_pay7 (F := Ideal) (k0_pay4 v) k0_pay5) a b d)) f) g (ix2 t o) = (0 : EReal) :=
  k22_apply _ f g t o fun r => k20_apply _ r t (k17_apply _ a b d t (keep_zero v t h hc))

end Cert.KernelIdeal.Moe
end
-- ==== Proof.KI.Words.lean ====
/- The kernel's words: where in the scratch a token's result lies. -/
module

public import proofs.«01_k».proof.Proof.KI.Dropped

@[expose] public section

noncomputable section

namespace Cert.KernelIdeal.Moe

open Idealize.ShloMosaic Idealize.SL.Sem
open Cert.KernelIdeal Cert.KernelIdeal.Gen

/-- The slot of `c` in which the result of expert `n` lands. -/
def slotOf (c : Fin 16) (n : ℕ) : ℕ := (c.val % 4 + 4 - n / 4 % 4) % 4 * 7 + (n / 16 + 3 - c.val / 4)

theorem k8_apply (v : IVec S1024x1 32) (t : Fin 1024) (h : (v (ix2 t 0)).toNat < 64) (hc : (earlier v t).card < 12) :
    k0_pay8 (F := Ideal) (k0_pay4 v) k0_pay5 (ix2 0 t) = BitVec.ofNat 32 (earlier v t).card := by
  pointwise [k0_pay8, k6_apply v t h]
  generalize (earlier v t).card = n at hc
  have e : ∀ z : ℤ, -(2 : ℤ) ^ 31 ≤ z → z ≤ 2 ^ 31 - 1 → Ideal.fptosi 32 (((z : ℤ) : ℝ) : EReal) = BitVec.ofInt 32 z := by
    intro z h1 h2
    rw [Ideal.fptosi, Ideal.toIntClamped_coe, Int.floor_intCast, Int.ceil_intCast, ite_self]
    congr 1
    norm_num at h1 h2 ⊢
    omega
  have e' := e (n : ℤ) (by omega) (by omega)
  rw [Int.cast_natCast] at e'
  exact e'

theorem row_word (x : Fin 64) (rk : IVec S1x1024 32) (v : IVec S1024x1 32) (t : Fin 1024) (hx : v (ix2 t 0) = BitVec.ofNat 32 x.val) :
  k0_pay14 rk (Scalar.select (Scalar.cmpi .eq 4#32 0#32) 1#32 4#32) (k0_pay10 (k0_pay3 (F := Ideal) v)) (k0_pay11 (k0_pay3 (F := Ideal) v))
    (k0_pay12 (k0_pay3 (F := Ideal) v)) k0_pay13 (ix2 0 t) = BitVec.ofNat 32 (x.val % 4 * 12) + rk (ix2 0 t) := by
  pointwise [k0_pay14, k0_pay10, k0_pay11, k0_pay12, k0_pay13, k0_pay3, hx]
  clear hx
  refine congrArg (· + rk (ix2 0 t)) ?_
  revert x
  decide +kernel

theorem slot_word (x : Fin 64) (c : Fin 16) (v : IVec S1024x1 32) (t : Fin 1024) (hx : v (ix2 t 0) = BitVec.ofNat 32 x.val) :
  k0_pay15 (BitVec.ofNat 32 (c.val % 4)) (BitVec.ofNat 32 (c.val / 4)) (k0_pay9 (k0_pay3 (F := Ideal) v)) (ix2 0 t) + 3#32 = BitVec.ofNat 32 (slotOf c x.val) := by
  pointwise [k0_pay15, k0_pay9, k0_pay3, hx]
  clear hx
  revert x c
  decide +kernel

theorem slot_lt (c : Fin 16) (x : Fin 64) : slotOf c x.val < 28 := by
  have := c.isLt; have := x.isLt; unfold slotOf; omega

/-- The row of the scratch at which a kept token's result lies. -/
theorem place_word (k : IVec S1x1024 1) (v : IVec S1024x1 32) (rk : IVec S1x1024 32) (x : Fin 64) (n : ℕ) (c : Fin 16) (t : Fin 1024) (hx : v (ix2 t 0) = BitVec.ofNat 32 x.val)
    (hk : k (ix2 0 t) = 1#1) (hrk : rk (ix2 0 t) = BitVec.ofNat 32 n) :
    k0_pay17 k (k0_pay14 rk (Scalar.select (Scalar.cmpi .eq 4#32 0#32) 1#32 4#32) (k0_pay10 (k0_pay3 (F := Ideal) v)) (k0_pay11 (k0_pay3 (F := Ideal) v))
        (k0_pay12 (k0_pay3 (F := Ideal) v)) k0_pay13)
      (k0_pay15 (BitVec.ofNat 32 (c.val % 4)) (BitVec.ofNat 32 (c.val / 4)) (k0_pay9 (k0_pay3 (F := Ideal) v))) k0_pay16 (ix2 0 t)
      = BitVec.ofNat 32 (slotOf c x.val * 48 + (x.val % 4 * 12 + n)) := by
  have h1 := row_word x rk v t hx
  have h2 := slot_word x c v t hx
  generalize k0_pay14 rk (Scalar.select (Scalar.cmpi .eq 4#32 0#32) 1#32 4#32) (k0_pay10 (k0_pay3 (F := Ideal) v)) (k0_pay11 (k0_pay3 (F := Ideal) v))
        (k0_pay12 (k0_pay3 (F := Ideal) v)) k0_pay13 = A at h1 ⊢
  generalize k0_pay15 (BitVec.ofNat 32 (c.val % 4)) (BitVec.ofNat 32 (c.val / 4)) (k0_pay9 (k0_pay3 (F := Ideal) v)) = B at h2 ⊢
  pointwise [k0_pay17, k0_pay16, hk]
  show (B (ix2 0 t) + 3#32) * 48#32 + A (ix2 0 t) = _
  rw [h1, h2, hrk, BitVec.ofNat_add, BitVec.ofNat_add, BitVec.ofNat_mul (slotOf c x.val) 48]

theorem keep_one (v : IVec S1024x1 32) (t : Fin 1024) (h : (v (ix2 t 0)).toNat < 64) (hc : (earlier v t).card < 12) :
    k0_pay7 (F := Ideal) (k0_pay4 v) k0_pay5 (ix2 0 t) = 1#1 := by
  pointwise [k0_pay7, k6_apply v t h]
  have e12 : Ideal.ofBits .f32 0x41400000#32 = ((12 : ℝ) : EReal) := by
    simp [Ideal.ofBits, Ideal.ieee]
    rw [← EReal.coe_mul]
    norm_num
  rw [e12, decide_eq_true]
  · rfl
  · exact EReal.coe_lt_coe_iff.2 (by exact_mod_cast hc)

/-- Two tokens of one expert with as many earlier tokens are one token. -/
theorem rank_inj (v : IVec S1024x1 32) (s t : Fin 1024) (h : v (ix2 s 0) = v (ix2 t 0)) (hc : (earlier v s).card = (earlier v t).card) : s = t := by
  have key : ∀ a b : Fin 1024, v (ix2 a 0) = v (ix2 b 0) → a < b → (earlier v a).card < (earlier v b).card := by
    intro a b e hab
    apply Finset.card_lt_card
    rw [Finset.ssubset_iff_of_subset]
    · exact ⟨a, Finset.mem_filter.2 ⟨Finset.mem_univ _, e, hab⟩, fun hm => lt_irrefl _ (Finset.mem_filter.1 hm).2.2⟩
    · intro y hy
      have hy := (Finset.mem_filter.1 hy).2
      exact Finset.mem_filter.2 ⟨Finset.mem_univ _, hy.1.trans e, lt_trans hy.2 hab⟩
  rcases lt_trichotomy s t with hl | he | hl
  · have := key s t h hl; omega
  · exact he
  · have := key t s h.symm hl; omega

/-- The products of the kernel's last two contractions: the scratch's row at a token's place. -/
theorem gather_at (gp : IVec S1x1024 32) (a : Vec Ideal S7x48x1024 .bf16) (b : Vec Ideal S21x48x1024 .bf16) (Y : S28x48x1024.Idx → EReal) (t o : Fin 1024)
    (ha : ∀ (j : Fin 7) (r : Fin 48), a (ix3 j r o) = Y (ix3 (⟨j.val, by omega⟩ : Fin 28) r o))
    (hb : ∀ (j : Fin 21) (r : Fin 48), b (ix3 j r o) = Y (ix3 (⟨7 + j.val, by omega⟩ : Fin 28) r o))
    (j : Fin 28) (r : Fin 48) (hg : gp (ix2 0 t) = BitVec.ofNat 32 (j.val * 48 + r.val)) :
    k0_pay22 (k0_pay20 gp) (k0_pay21 (k0_pay20 gp) a) b (ix2 t o) = Y (ix3 j r o) := by
  pointwise [k0_pay22, k0_pay21, k0_pay20, dot_S336x1024_S336x1024_S1024x1024_0_0_1_1_n_n, dot_S1008x1024_S1008x1024_S1024x1024_0_0_1_1_n_n, hg, ha, hb]
  simp only [sitofp_bit, show ∀ a b : BitVec 32, IntOp.cmpi .eq a b = BitVec.ofBool (decide (a = b)) from fun _ _ => rfl]
  have hj := j.isLt
  have hr := r.isLt
  have eqn : ∀ x : ℕ, x < 1344 → (BitVec.ofNat 32 x = BitVec.ofNat 32 (j.val * 48 + r.val) ↔ x = j.val * 48 + r.val) := by
    intro x hx
    constructor
    · intro e
      have := congrArg BitVec.toNat e
      rw [BitVec.toNat_ofNat, BitVec.toNat_ofNat] at this
      omega
    · intro e; rw [e]
  by_cases hlt : j.val < 7
  · rw [Finset.sum_eq_single (⟨j.val * 48 + r.val, by omega⟩ : Fin 336), Finset.sum_eq_zero, add_zero, if_pos ((eqn _ (by omega)).2 rfl), one_mul]
    · refine congrArg Y ?_
      congr 1
      · exact Fin.ext (by show (j.val * 48 + r.val) / 48 = j.val; omega)
      · exact Fin.ext (by show (j.val * 48 + r.val) % 48 = r.val; omega)
    · intro x _
      rw [if_neg, zero_mul]
      intro e
      have := (eqn (336 + x.val) (by omega)).1 e
      omega
    · intro x _ hx
      rw [if_neg, zero_mul]
      intro e
      exact hx (Fin.ext ((eqn x.val (by omega)).1 e))
    · intro hn; exact absurd (Finset.mem_univ _) hn
  · rw [Finset.sum_eq_zero, zero_add, Finset.sum_eq_single (⟨j.val * 48 + r.val - 336, by omega⟩ : Fin 1008), if_pos ((eqn _ (by omega)).2 (by show 336 + (j.val * 48 + r.val - 336) = _; omega)), one_mul]
    · refine congrArg Y ?_
      congr 1
      · exact Fin.ext (by show 7 + (j.val * 48 + r.val - 336) / 48 = j.val; omega)
      · exact Fin.ext (by show (j.val * 48 + r.val - 336) % 48 = r.val; omega)
    · intro x _ hx
      rw [if_neg, zero_mul]
      intro e
      have := (eqn (336 + x.val) (by omega)).1 e
      exact hx (Fin.ext (by show x.val = j.val * 48 + r.val - 336; omega))
    · intro hn; exact absurd (Finset.mem_univ _) hn
    · intro x _
      rw [if_neg, zero_mul]
      intro e
      have := (eqn x.val (by omega)).1 e
      omega

end Cert.KernelIdeal.Moe
end
-- ==== Proof.KI.Reads.lean ====
/- The kernel's loads, read at an index. -/
module

public import proofs.«01_k».proof.Proof.KI.Dropped
public import proofs.«01_k».proof.Proof.KI.Loads

@[expose] public section

noncomputable section

namespace Cert.KernelIdeal.Moe

open Idealize.ShloMosaic Idealize.SL.Sem
open Cert.KernelIdeal Cert.KernelIdeal.Gen

variable (m : (ℓ : Loc nD τ sig) → Buf (Elt Ideal) ℓ) (ρ : Dev nD → PrngReg)

theorem out0_at (c : Dev nD) (j : Fin 7) (r : Fin 48) (o : Fin 1024) : out0 m ρ c (ix3 j r o) = Yall m ρ c (ix3 (⟨j.val, by omega⟩ : Fin 28) r o) := by
  refine congrArg (Yall m ρ c) (funext fun a => Fin.ext ?_)
  match a with
  | ⟨0, _⟩ => show 0 + 1 * j.val = j.val; omega
  | ⟨1, _⟩ => show 0 + 1 * r.val = r.val; omega
  | ⟨2, _⟩ => show 0 + 1 * o.val = o.val; omega
theorem out3_at (c : Dev nD) (j : Fin 21) (r : Fin 48) (o : Fin 1024) : out3 m ρ c (ix3 j r o) = Yall m ρ c (ix3 (⟨7 + j.val, by omega⟩ : Fin 28) r o) := by
  refine congrArg (Yall m ρ c) (funext fun a => Fin.ext ?_)
  match a with
  | ⟨0, _⟩ => show 7 + 1 * j.val = 7 + j.val; omega
  | ⟨1, _⟩ => show 0 + 1 * r.val = r.val; omega
  | ⟨2, _⟩ => show 0 + 1 * o.val = o.val; omega
theorem iV_at (c : Dev nD) (t : Fin 1024) : iV m ρ c (ix2 t 0) = m ((c.tc : Thread nD τ).loc main_arg2) (ix2 t (0 : Fin 1)) := by
  refine congrArg (m ((c.tc : Thread nD τ).loc main_arg2)) (funext fun a => Fin.ext ?_)
  match a with
  | ⟨0, _⟩ => show 0 + 1 * (0 + 1 * t.val) = t.val; omega
  | ⟨1, _⟩ => rfl
theorem xV_at (c : Dev nD) (t : Fin 1024) (k : Fin 512) : xV m ρ c (ix2 t k) = m ((c.tc : Thread nD τ).loc main_arg0) (ix2 t k) := by
  refine congrArg (m ((c.tc : Thread nD τ).loc main_arg0)) (funext fun a => Fin.ext ?_)
  match a with
  | ⟨0, _⟩ => show 0 + 1 * (0 + 1 * t.val) = t.val; omega
  | ⟨1, _⟩ => show 0 + 1 * (0 + 1 * k.val) = k.val; omega
theorem wV0_at (c : Dev nD) (d : Fin 512) (k : Fin 1024) : wV0 m ρ c (ix3 0 d k) = m ((c.tc : Thread nD τ).loc main_arg3) (ix3 (0 : Fin 4) d k) := by
  refine congrArg (m ((c.tc : Thread nD τ).loc main_arg3)) (funext fun a => Fin.ext ?_)
  match a with
  | ⟨0, _⟩ => rfl
  | ⟨1, _⟩ => show 0 + 1 * (0 + 1 * d.val) = d.val; omega
  | ⟨2, _⟩ => show 0 + 1 * (0 + 1 * k.val) = k.val; omega
theorem wV1_at (c : Dev nD) (d : Fin 512) (k : Fin 1024) : wV1 m ρ c (ix3 0 d k) = m ((c.tc : Thread nD τ).loc main_arg3) (ix3 (1 : Fin 4) d k) := by
  refine congrArg (m ((c.tc : Thread nD τ).loc main_arg3)) (funext fun a => Fin.ext ?_)
  match a with
  | ⟨0, _⟩ => rfl
  | ⟨1, _⟩ => show 0 + 1 * (0 + 1 * d.val) = d.val; omega
  | ⟨2, _⟩ => show 0 + 1 * (0 + 1 * k.val) = k.val; omega
theorem wV2_at (c : Dev nD) (d : Fin 512) (k : Fin 1024) : wV2 m ρ c (ix3 0 d k) = m ((c.tc : Thread nD τ).loc main_arg3) (ix3 (2 : Fin 4) d k) := by
  refine congrArg (m ((c.tc : Thread nD τ).loc main_arg3)) (funext fun a => Fin.ext ?_)
  match a with
  | ⟨0, _⟩ => rfl
  | ⟨1, _⟩ => show 0 + 1 * (0 + 1 * d.val) = d.val; omega
  | ⟨2, _⟩ => show 0 + 1 * (0 + 1 * k.val) = k.val; omega
theorem wV3_at (c : Dev nD) (d : Fin 512) (k : Fin 1024) : wV3 m ρ c (ix3 0 d k) = m ((c.tc : Thread nD τ).loc main_arg3) (ix3 (3 : Fin 4) d k) := by
  refine congrArg (m ((c.tc : Thread nD τ).loc main_arg3)) (funext fun a => Fin.ext ?_)
  match a with
  | ⟨0, _⟩ => rfl
  | ⟨1, _⟩ => show 0 + 1 * (0 + 1 * d.val) = d.val; omega
  | ⟨2, _⟩ => show 0 + 1 * (0 + 1 * k.val) = k.val; omega
end Cert.KernelIdeal.Moe
end
-- ==== Proof.KI.Value.lean ====
/- What the kernel's run leaves in the result: the sum the reference takes, for a kept token, and zero for a dropped one. -/
module

public import proofs.«01_k».proof.Proof.KI.Words
public import proofs.«01_k».proof.Proof.KI.Reads
public import proofs.«01_k».proof.Proof.KI.Body
public import Idealize.ShloMosaic.Lib.Layout

@[expose] public section

noncomputable section

namespace Cert.KernelIdeal.Moe

open Idealize.ShloMosaic Idealize.SL.Sem
open Cert.KernelIdeal Cert.KernelIdeal.Gen

variable (m : (ℓ : Loc nD τ sig) → Buf (Elt Ideal) ℓ) (ρ : Dev nD → PrngReg)

/-- A device's own product, at a row that takes token `t` alone. -/
theorem own_at (k : IVec S1x1024 1) (a b d : IVec S1x1024 32) (x : Vec Ideal S1024x512 .f32) (w0 w1 w2 w3 : Vec Ideal S1x512x1024 .f32) (r : Fin 48) (t o : Fin 1024)
    (Wf : Fin 512 → EReal)
    (hs : ∀ s : Fin 1024, BitVec.ofNat 32 r.val = k0_pay17 k a b d (ix2 0 s) - 144#32 ↔ s = t)
    (h0 : r.val < 12 → ∀ i : Fin 512, w0 (ix3 0 i o) = Wf i) (h1 : 12 ≤ r.val → r.val < 24 → ∀ i : Fin 512, w1 (ix3 0 i o) = Wf i)
    (h2 : 24 ≤ r.val → r.val < 36 → ∀ i : Fin 512, w2 (ix3 0 i o) = Wf i) (h3 : 36 ≤ r.val → ∀ i : Fin 512, w3 (ix3 0 i o) = Wf i) :
    k0_pay18 k a b d x w0 w1 w2 w3 (ix2 r o) = ∑ i : Fin 512, (x (ix2 t i) : EReal) * Wf i := by
  have inner : ∀ (r' : ℕ) (i : Fin 512), r' = r.val →
      ∑ s : Fin 1024, (FloatOps.sitofp (F := Ideal) FTy.f32 (BitVec.setWidth 32 (IntOp.cmpi CmpIPredicate.eq (BitVec.ofNat 32 r')
                (IntOp.subi (k0_pay17 k a b d (ix2 0 s)) 144#32))) : EReal) * x (ix2 s i) = x (ix2 t i) := by
    intro r' i hr
    subst hr
    rw [Finset.sum_eq_single t]
    · show (FloatOps.sitofp (F := Ideal) FTy.f32 ((BitVec.ofBool (decide (BitVec.ofNat 32 r.val = k0_pay17 k a b d (ix2 0 t) - 144#32))).setWidth 32) : EReal) * _ = _
      rw [sitofp_bit, if_pos ((hs t).2 rfl), one_mul]
    · intro s _ hne
      show (FloatOps.sitofp (F := Ideal) FTy.f32 ((BitVec.ofBool (decide (BitVec.ofNat 32 r.val = k0_pay17 k a b d (ix2 0 s) - 144#32))).setWidth 32) : EReal) * _ = _
      rw [sitofp_bit, if_neg (fun e => hne ((hs s).1 e)), zero_mul]
    · intro hn; exact absurd (Finset.mem_univ _) hn
  have hr := r.isLt
  pointwise [k0_pay18, dot_S48x1024_S1024x512_S48x512_1_0_0_1_n_n, dot_S12x512_S512x1024_S12x1024_1_0_0_1_n_n]
  split_ifs with c1 c2 c3
  · exact Finset.sum_congr rfl fun i _ => by rw [inner _ i rfl, h0 c1]
  · exact Finset.sum_congr rfl fun i _ => by rw [inner _ i (by omega), h1 (by omega) (by omega)]
  · exact Finset.sum_congr rfl fun i _ => by rw [inner _ i (by omega), h2 (by omega) (by omega)]
  · exact Finset.sum_congr rfl fun i _ => by rw [inner _ i (by omega), h3 (by omega)]

theorem row_pin (R S : ℕ) (hR : R < 48) (hS : S < 1344) (h : BitVec.ofNat 32 R = BitVec.ofNat 32 S - 144#32) : S = R + 144 := by
  have h' : BitVec.ofNat 32 (R + 144) = BitVec.ofNat 32 S := by
    rw [BitVec.ofNat_add R 144, h, BitVec.sub_add_cancel]
  have hh := congrArg BitVec.toNat h'
  rw [BitVec.toNat_ofNat, BitVec.toNat_ofNat, Nat.mod_eq_of_lt (by omega), Nat.mod_eq_of_lt (by omega)] at hh
  exact hh.symm

theorem row_ne (R : ℕ) (hR : R < 48) : BitVec.ofNat 32 R ≠ 4294967295#32 - 144#32 := by
  intro h
  have hh := congrArg BitVec.toNat h
  rw [show (4294967295#32 - 144#32 : BitVec 32) = BitVec.ofNat 32 4294967151 from rfl, BitVec.toNat_ofNat, BitVec.toNat_ofNat, Nat.mod_eq_of_lt (by omega),
    Nat.mod_eq_of_lt (by norm_num)] at hh
  omega

theorem slot_own : ∀ (c : Fin 16) (x : Fin 64), zv c (slotOf c x.val % 7) = true ∧ (own c (slotOf c x.val)).val = x.val / 4 := by decide +kernel
theorem slot_self : ∀ (c : Fin 16) (x : Fin 64), slotOf c x.val = 3 ↔ x.val / 4 = c.val := by decide +kernel

theorem iV_eq (c : Dev nD) : iV m ρ c = m ((c.tc : Thread nD τ).loc main_arg2) := by
  funext i
  refine congrArg (m ((c.tc : Thread nD τ).loc main_arg2)) (funext fun a => Fin.ext ?_)
  match a with
  | ⟨0, _⟩ => show 0 + 1 * (0 + 1 * (i 0).val) = (i 0).val; omega
  | ⟨1, _⟩ => show 0 + 1 * (0 + 1 * (i 1).val) = (i 1).val; omega

section Routed
variable (X : FVec Ideal S1024x512 .f32) (V : IVec S1024x1 32) (W : FVec Ideal (⟨3, ![64, 512, 1024]⟩ : Shape) .f32) (e : Fin 1024 → Fin 64)
variable (hT : Layout.Tiles ⟨3, ![4, 512, 1024]⟩ ⟨3, ![64, 512, 1024]⟩ 0 16)
variable (hX : ∀ c : Dev nD, m ((c.tc : Thread nD τ).loc main_arg0) = X) (hV : ∀ c : Dev nD, m ((c.tc : Thread nD τ).loc main_arg2) = V)
variable (hW : ∀ c : Dev nD, m ((c.tc : Thread nD τ).loc main_arg3) = Layout.block ⟨3, ![4, 512, 1024]⟩ ⟨3, ![64, 512, 1024]⟩ 0 16 c W hT)
variable (he : ∀ t : Fin 1024, V (ix2 t 0) = BitVec.ofNat 32 (e t).val)

include he in
theorem in_range (t : Fin 1024) : (V (ix2 t 0)).toNat < 64 := by
  have := (e t).isLt
  rw [he, BitVec.toNat_ofNat]; omega

include hV he in
theorem gp_kept (c : Dev nD) (t : Fin 1024) (hc : (earlier V t).card < 12) :
    gpV m ρ c (ix2 0 t) = BitVec.ofNat 32 (slotOf c (e t).val * 48 + ((e t).val % 4 * 12 + (earlier V t).card)) := by
  unfold gpV keepV rowV slV rankV qW pW
  rw [iV_eq, hV]
  exact place_word _ V _ (e t) _ c t (he t) (keep_one V t (in_range V e he t) hc) (k8_apply V t (in_range V e he t) hc)

include hV he in
theorem gp_dropped (c : Dev nD) (t : Fin 1024) (hc : 12 ≤ (earlier V t).card) : gpV m ρ c (ix2 0 t) = 4294967295#32 := by
  unfold gpV keepV
  rw [iV_eq, hV]
  exact k17_apply _ _ _ _ t (keep_zero V t (in_range V e he t) hc)

include hV he in
/-- The row of its own device that token `t` takes is taken by no other token. -/
theorem own_row (d : Dev nD) (t s : Fin 1024) (hd : (e t).val / 4 = d.val) (hc : (earlier V t).card < 12) :
    BitVec.ofNat 32 ((e t).val % 4 * 12 + (earlier V t).card) = gpV m ρ d (ix2 0 s) - 144#32 ↔ s = t := by
  have hs3 := (slot_self d (e t)).2 hd
  constructor
  · intro h
    by_cases hcs : (earlier V s).card < 12
    · rw [gp_kept m ρ V e hV he d s hcs] at h
      have hl := slot_lt d (e s)
      have hsl := slot_self d (e s)
      have hh := row_pin _ _ (by omega) (by omega) h
      have e3 : slotOf d (e s).val = 3 := by omega
      have eq4 := hsl.1 e3
      rw [e3] at hh
      have ee : (e s).val = (e t).val := by omega
      refine rank_inj V s t ?_ (by omega)
      rw [he, he, ee]
    · rw [gp_dropped m ρ V e hV he d s (by omega)] at h
      exact absurd h (row_ne _ (by omega))
  · rintro rfl
    rw [gp_kept m ρ V e hV he d s hc, hs3]
    rw [BitVec.ofNat_add (3 * 48), BitVec.add_comm, BitVec.add_sub_cancel]

include hX hV hW he in
theorem y_kept (d : Dev nD) (t o : Fin 1024) (hd : (e t).val / 4 = d.val) (hc : (earlier V t).card < 12) (r : Fin 48)
    (hr : r.val = (e t).val % 4 * 12 + (earlier V t).card) :
    yV m ρ d (ix2 r o) = ∑ i : Fin 512, (X (ix2 t i) : EReal) * W (ix3 (e t) i o) := by
  have hb : ∀ (a : Fin 4) (i : Fin 512), a.val = (e t).val % 4 → m ((d.tc : Thread nD τ).loc main_arg3) (ix3 a i o) = W (ix3 (e t) i o) := by
    intro a i ha
    rw [hW]
    refine congrArg W (funext fun z => Fin.ext ?_)
    match z with
    | ⟨0, _⟩ => show d.val * 4 + a.val = (e t).val; omega
    | ⟨1, _⟩ => rfl
    | ⟨2, _⟩ => rfl
  have key := own_at (keepV m ρ d) (rowV m ρ d) (slV m ρ d) k0_pay16 (xV m ρ d) (wV0 m ρ d) (wV1 m ρ d) (wV2 m ρ d) (wV3 m ρ d) r t o
    (fun i => W (ix3 (e t) i o)) (fun s => by rw [hr]; exact own_row m ρ V e hV he d t s hd hc)
    (fun h i => by rw [wV0_at]; exact hb 0 i (by show 0 = _; omega))
    (fun h h' i => by rw [wV1_at]; exact hb 1 i (by show 1 = _; omega))
    (fun h h' i => by rw [wV2_at]; exact hb 2 i (by show 2 = _; omega))
    (fun h i => by rw [wV3_at]; exact hb 3 i (by show 3 = _; omega))
  unfold yV
  rw [key]
  exact Finset.sum_congr rfl fun i _ => by rw [xV_at, hX]

include hX hV hW he in
/-- What the body leaves in the result's stage. -/
theorem outV_at (c : Dev nD) (t o : Fin 1024) :
    outV m ρ c (ix2 t o) = if (earlier V t).card < 12 then ∑ i : Fin 512, (X (ix2 t i) : EReal) * W (ix3 (e t) i o) else (0 : EReal) := by
  unfold outV
  by_cases hc : (earlier V t).card < 12
  · rw [if_pos hc]
    have hrow : (e t).val % 4 * 12 + (earlier V t).card < 48 := by omega
    rw [gather_at (gpV m ρ c) (out0 m ρ c) (out3 m ρ c) (Yall m ρ c) t o (fun j r => out0_at m ρ c j r o) (fun j r => out3_at m ρ c j r o)
      ⟨slotOf c (e t).val, slot_lt c (e t)⟩ ⟨_, hrow⟩ (gp_kept m ρ V e hV he c t hc)]
    have ⟨hz, ho⟩ := slot_own c (e t)
    unfold Yall
    refine (if_pos (show zv c (slotOf c (e t).val % 7) = true from hz)).trans ?_
    show y3 m ρ (own c (slotOf c (e t).val)) _ = _
    rw [show inSlot (ix3 (⟨slotOf c (e t).val, slot_lt c (e t)⟩ : Fin 28) (⟨_, hrow⟩ : Fin 48) o) = ix3 (0 : Fin 1) (⟨_, hrow⟩ : Fin 48) o from by
      funext a
      match a with
      | ⟨0, _⟩ => rfl
      | ⟨1, _⟩ => rfl
      | ⟨2, _⟩ => rfl]
    unfold y3
    rw [show k0_pay19 (yV m ρ (own c (slotOf c (e t).val))) (ix3 (0 : Fin 1) (⟨_, hrow⟩ : Fin 48) o) = yV m ρ (own c (slotOf c (e t).val)) (ix2 (⟨_, hrow⟩ : Fin 48) o) from by
      pointwise [k0_pay19]]
    exact y_kept m ρ X V W e hT hX hV hW he _ t o ho.symm hc _ rfl
  · rw [if_neg hc]
    exact k22_apply _ _ _ t o fun r => k20_apply _ r t (gp_dropped m ρ V e hV he c t (by omega))

end Routed
end Cert.KernelIdeal.Moe
end
-- ==== Proof.KI.Ref.lean ====
/- The reference's result, read at an index. -/
module

public import proofs.«01_k».proof.Proof.KI.Dropped
public import proofs.«01_k».proof.Proof.Gen.ReferenceIdeal.Run
public import Idealize.ShloMosaic.Lib.IndicatorCount

@[expose] public section

noncomputable section

namespace Cert.ReferenceIdeal.Value

open Idealize.ShloMosaic Idealize.SL.Sem
open Cert.ReferenceIdeal Cert.ReferenceIdeal.Gen

/-- The reference's result, of its arguments. -/
def refV (x : FVec Ideal S1024x512 .f32) (v : IVec S1024x1 32) (w : FVec Ideal S64x512x1024 .f32) : FVec Ideal S1024x1024 .f32 :=
  select (broadcastInDim S1024x1024 ![0, 1] bcast_S1024x1_S1024x1024_0_1 (broadcastInDim S1024x1 ![0] bcast_S1024_S1024x1_0 (cmpi .slt (Host.reduce IntOp.addi (extui 32 (andi (cmpi .eq (broadcastInDim S1024x1024 ![0, 1] bcast_S1x1024_S1024x1024_0_1 (broadcastInDim S1x1024 ![1] bcast_S1024_S1x1024_1 (shapeCast _ v shapeCasts_S1024x1_S1024))) (broadcastInDim S1024x1024 ![0, 1] bcast_S1024x1_S1024x1024_0_1 (broadcastInDim S1024x1 ![0] bcast_S1024_S1024x1_0 (shapeCast _ v shapeCasts_S1024x1_S1024)))) (cmpi .slt (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) natLt_1_32) (constantI S_ 32 0#32) reducesTo_S1024x1024_S1024_d1 h_S_) (broadcastInDim S1024 ![] bcast_S_S1024 (constantI S_ 32 12#32))))) (Host.dotGeneral dot_S1024x512_S1024x512x1024_S1024x1024_1_1_n_2_0_0 none x (Host.gather gather_S64x512x1024_S1024x1_S1024x512x1024_12_0_n_n_0_1_15121024 w (broadcastInDim S1024x1 ![0] bcast_S1024_S1024x1_0 (select (cmpi .slt (shapeCast _ v shapeCasts_S1024x1_S1024) (broadcastInDim S1024 ![] bcast_S_S1024 (constantI S_ 32 0#32))) (addi (shapeCast _ v shapeCasts_S1024x1_S1024) (broadcastInDim S1024 ![] bcast_S_S1024 (constantI S_ 32 64#32))) (shapeCast _ v shapeCasts_S1024x1_S1024))))) (broadcastInDim S1024x1024 ![] bcast_S_S1024x1024 (id (constant S_ .f32 0x00000000#32)))

/-- One row of the table per index of one word, the word in range. -/
theorem gather_plane {w' : ℕ} (x : S64x512x1024.Idx → EReal) (idx : IVec S1024x1 w') (t : Fin 1024) (k : Fin 512) (o : Fin 1024) (e : Fin 64)
    (he : (idx (ix2 t 0)).toInt = (e.val : ℤ)) :
    Host.gather gather_S64x512x1024_S1024x1_S1024x512x1024_12_0_n_n_0_1_15121024 x idx (ix3 t k o) = x (ix3 e k o) := by
  unfold Host.gather
  refine congrArg x (funext fun a => Fin.ext ?_)
  have hl := e.isLt
  set d := gather_S64x512x1024_S1024x1_S1024x512x1024_12_0_n_n_0_1_15121024 with hd
  show d.start (ix3 t k o) idx a + d.batchCoord (ix3 t k o) a + d.offCoord (ix3 t k o) a = _
  rw [GatherDims.batchCoord_eq_zero _ _ _ (fun h => by simp [hd, gather_S64x512x1024_S1024x1_S1024x512x1024_12_0_n_n_0_1_15121024] at h)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ d.startIndexMap from List.mem_singleton.mpr rfl)]
    have hsi : d.siIdx (ix3 t k o) ⟨List.idxOf (⟨0, by decide⟩ : Fin 3) d.startIndexMap, List.idxOf_lt_length_iff.2 (List.mem_singleton.mpr rfl)⟩ = ix2 t (0 : Fin 1) := by
      funext b; refine Fin.ext ?_
      match b with
      | ⟨0, _⟩ => rfl
      | ⟨1, _⟩ => rfl
    rw [hsi, he]
    show min (e.val : ℤ).toNat (64 - 1) = e.val
    rw [Int.toNat_natCast]
    omega
  | ⟨1, _⟩ =>
    have hs : d.start (ix3 t k o) idx (⟨1, by decide⟩ : Fin 3) = 0 := by
      unfold GatherDims.start
      rw [dif_neg (by rw [hd]; decide)]
    rw [hs, Nat.zero_add]
    rfl
  | ⟨2, _⟩ =>
    have hs : d.start (ix3 t k o) idx (⟨2, by decide⟩ : Fin 3) = 0 := by
      unfold GatherDims.start
      rw [dif_neg (by rw [hd]; decide)]
    rw [hs, Nat.zero_add]
    rfl

/-- The reference's rank is the count of the earlier tokens of the token's expert. -/
theorem rank_ref (v : IVec S1024x1 32) (t : Fin 1024) :
    (Finset.univ : Finset (Fin 1024)).fold IntOp.addi (0#32) (fun x => BitVec.setWidth 32
              (IntOp.andi (IntOp.cmpi CmpIPredicate.eq (v (ix2 x 0)) (v (ix2 t 0)))
                (IntOp.cmpi CmpIPredicate.slt (BitVec.ofNat 32 x.val) (BitVec.ofNat 32 t.val))))
      = BitVec.ofNat 32 (Cert.KernelIdeal.Moe.earlier v t).card := by
  rw [IndicatorCount.fold_addi_setWidth_eq_card]
  congr 2
  unfold Cert.KernelIdeal.Moe.earlier
  apply Finset.filter_congr
  intro s _
  rw [Cert.KernelIdeal.Moe.slt_fin, show ∀ a b : BitVec 32, IntOp.cmpi .eq a b = BitVec.ofBool (decide (a = b)) from fun _ _ => rfl]
  by_cases h1 : v (ix2 s 0) = v (ix2 t 0) <;> by_cases h2 : s < t <;> simp [h1, h2, IntOp.andi]

theorem refV_at (x : FVec Ideal S1024x512 .f32) (v : IVec S1024x1 32) (w : FVec Ideal S64x512x1024 .f32) (t o : Fin 1024) (e : Fin 64)
    (he : v (ix2 t 0) = BitVec.ofNat 32 e.val) :
    refV x v w (ix2 t o) = if (Cert.KernelIdeal.Moe.earlier v t).card < 12 then ∑ k : Fin 512, x (ix2 t k) * w (ix3 e k o) else (0 : EReal) := by
  pointwise [refV, dot_S1024x512_S1024x512x1024_S1024x1024_1_1_n_2_0_0]
  rw [rank_ref]
  have hcard : (Cert.KernelIdeal.Moe.earlier v t).card ≤ 1024 := (Finset.card_le_univ _).trans (by simp)
  have hl := e.isLt
  have ei : (BitVec.ofNat 32 e.val).toInt = (e.val : ℤ) := by rw [BitVec.toInt_eq_toNat_cond]; simp; omega
  simp only [fun k : Fin 512 => gather_plane w
    (broadcastInDim S1024x1 ![0] bcast_S1024_S1024x1_0
              (select
                (cmpi CmpIPredicate.slt (shapeCast S1024 v shapeCasts_S1024x1_S1024)
                  (broadcastInDim S1024 ![] bcast_S_S1024 (constantI S_ 32 0#32)))
                (addi (shapeCast S1024 v shapeCasts_S1024x1_S1024)
                  (broadcastInDim S1024 ![] bcast_S_S1024 (constantI S_ 32 64#32)))
                (shapeCast S1024 v shapeCasts_S1024x1_S1024))) t k o e (by
      pointwise [he]
      clear he hcard ei hl
      revert e
      decide +kernel)]
  have hsl : IntOp.cmpi .slt (BitVec.ofNat 32 (Cert.KernelIdeal.Moe.earlier v t).card) 12#32 = BitVec.ofBool (decide ((Cert.KernelIdeal.Moe.earlier v t).card < 12)) := by
    generalize (Cert.KernelIdeal.Moe.earlier v t).card = n at hcard
    have es : (BitVec.ofNat 32 n).toInt = (n : ℤ) := by rw [BitVec.toInt_eq_toNat_cond]; simp; omega
    show BitVec.ofBool ((BitVec.ofNat 32 n).slt 12#32) = _
    rw [BitVec.slt, es]
    exact congrArg BitVec.ofBool (decide_eq_decide.2 (by show (n : ℤ) < 12 ↔ _; omega))
  rw [hsl]
  by_cases hc : (Cert.KernelIdeal.Moe.earlier v t).card < 12
  · rw [decide_eq_true hc, if_pos hc]; rfl
  · rw [decide_eq_false hc, if_neg hc]
    exact Ideal.ofBits_zero .f32

end Cert.ReferenceIdeal.Value
end
-- ==== Proof.KI.Alg.lean ====
/- The result array at the end of the kernel's run, and its equality with the reference's result. -/
module

public import proofs.«01_k».proof.Defs
public import proofs.«01_k».proof.Proof.KI.Value
public import proofs.«01_k».proof.Proof.KI.Ref
public import proofs.«01_k».proof.Proof.KI.Launch
public import proofs.«01_k».proof.Proof.Gen.Pre_routes_in_range_KernelIdeal

@[expose] public section

noncomputable section

namespace Cert.KernelIdeal.Moe

open Idealize.ShloMosaic Idealize.SL.Sem Idealize.ShloMosaic.Pipeline
open Cert.KernelIdeal Cert.KernelIdeal.Gen

section Final
variable {F : FTy → Type} [FloatOps F]
variable (m : (ℓ : Loc nD τ sig) → Buf (Elt F) ℓ) (ρ : Dev nD → PrngReg)

/-- The result array ends holding what the body left in its stage. -/
theorem final3 (c : Dev nD) : finalA m ρ c (3 : Fin 4) = outV m ρ c := by
  refine (dats (F := F) m ρ 0 c).arrAt_eq_of_cover (3 : Fin 4) (outV m ρ c) ?_ ?_
  · intro t _
    funext i
    refine congrArg (outV m ρ c) (funext fun a => Fin.ext ?_)
    match a with
    | ⟨0, _⟩ => show (i 0).val = 0 + 1 * (i 0).val; omega
    | ⟨1, _⟩ => show (i 1).val = 0 + 1 * (i 1).val; omega
  · intro i
    refine ⟨⟨0, by decide⟩, by decide +kernel, ?_⟩
    refine Finset.mem_map.2 ⟨i, Finset.mem_univ _, funext fun a => Fin.ext ?_⟩
    match a with
    | ⟨0, _⟩ => show 0 + 1 * (i 0).val = (i 0).val; omega
    | ⟨1, _⟩ => show 0 + 1 * (i 1).val = (i 1).val; omega

end Final

/-- What the precondition says of one token's word. -/
theorem pre_word (x : FVec Ideal S1024x512 .f32) (g : FVec Ideal S512x64 .f32) (v : IVec S1024x1 32) (w : FVec Ideal S4x512x1024 .f32)
    (h : Cert.Pre_routes_in_range_KernelIdeal.fn (F := Ideal) x g v w = fun _ => 1#1) (t : Fin 1024) : (v (ix2 t 0)).toNat < 64 := by
  have ht := congrFun h (ix2 t 0)
  revert ht
  pointwise [Cert.Pre_routes_in_range_KernelIdeal.fn]
  generalize v (ix2 t 0) = y
  intro ht
  have h1 : ((0#32).sle y && y.slt 64#32) = true := by
    change BitVec.ofBool ((0#32).sle y) &&& BitVec.ofBool (y.slt 64#32) = 1#1 at ht
    cases ha : (0#32).sle y <;> cases hb : y.slt 64#32 <;> rw [ha, hb] at ht <;> revert ht <;> decide
  rw [Bool.and_eq_true, BitVec.sle_iff_toInt_le, BitVec.slt_iff_toInt_lt] at h1
  have e0 : (0#32 : BitVec 32).toInt = 0 := by decide
  have e1 : (64#32 : BitVec 32).toInt = 64 := by decide
  rw [e0, e1, BitVec.toInt_eq_toNat_cond] at h1
  have hy := y.isLt
  split_ifs at h1 <;> omega

/-- The kernel's result is the reference's, of the same arguments, the device's experts its block of the reference's. -/
theorem outV_eq (m : (ℓ : Loc nD τ sig) → Buf (Elt Ideal) ℓ) (ρ : Dev nD → PrngReg)
    (X : FVec Ideal S1024x512 .f32) (V : IVec S1024x1 32) (W : FVec Ideal (⟨3, ![64, 512, 1024]⟩ : Shape) .f32)
    (hT : Layout.Tiles ⟨3, ![4, 512, 1024]⟩ ⟨3, ![64, 512, 1024]⟩ 0 16) (hX : ∀ c : Dev nD, m ((c.tc : Thread nD τ).loc main_arg0) = X) (hV : ∀ c : Dev nD, m ((c.tc : Thread nD τ).loc main_arg2) = V)
    (hW : ∀ c : Dev nD, m ((c.tc : Thread nD τ).loc main_arg3) = Layout.block ⟨3, ![4, 512, 1024]⟩ ⟨3, ![64, 512, 1024]⟩ 0 16 c W hT)
    (hr : ∀ t : Fin 1024, (V (ix2 t 0)).toNat < 64) (c : Dev nD) : outV m ρ c = Cert.ReferenceIdeal.Value.refV X V W := by
  have he : ∀ t : Fin 1024, V (ix2 t 0) = BitVec.ofNat 32 ((fun t => (⟨(V (ix2 t 0)).toNat, hr t⟩ : Fin 64)) t).val := fun t =>
    (BitVec.eq_of_toNat_eq (by rw [BitVec.toNat_ofNat, Nat.mod_eq_of_lt (V (ix2 t 0)).isLt]))
  funext i
  have hi : i = ix2 (i 0) (i 1) := by
    funext a
    match a with
    | ⟨0, _⟩ => rfl
    | ⟨1, _⟩ => rfl
  rw [hi]
  exact (outV_at m ρ X V W _ hT hX hV hW he c (i 0) (i 1)).trans (Cert.ReferenceIdeal.Value.refV_at X V W (i 0) (i 1) _ (he (i 0))).symm

end Cert.KernelIdeal.Moe
end
-- ==== Proof.K.Same.lean ====
/-
The module as compiled and the module as read ideally.
-/
module

public import proofs.«01_k».proof.Kernel
public import proofs.«01_k».proof.KernelIdeal
public import proofs.«01_k».proof.Proof.Gen.Kernel
public import proofs.«01_k».proof.Proof.Gen.KernelIdeal

@[expose] public section

set_option maxRecDepth 16384

noncomputable section

namespace Cert.Moe
open Idealize.ShloMosaic

theorem nD_same : Cert.Kernel.nD = Cert.KernelIdeal.nD := rfl
theorem τ_same : Cert.Kernel.τ = Cert.KernelIdeal.τ := rfl
theorem sig_same : Cert.Kernel.sig = Cert.KernelIdeal.sig := rfl
variable {F : FTy → Type} [FloatOps F]
attribute [local instance] Cert.Kernel.Gen.facts Cert.KernelIdeal.Gen.facts
/-- The kernels' bodies are the same table. -/
theorem defs₀_same : Cert.Kernel.defs₀ (F := F) = Cert.KernelIdeal.defs₀ (F := F) :=
  congrArg (Defs.onTc (nD := Cert.KernelIdeal.nD) (τ := Cert.KernelIdeal.τ) (sig := Cert.KernelIdeal.sig) (Val := Elt F) (Λ := Cert.KernelIdeal.Λ₀)) (by
    funext l x
    match l, x with
    | 0, (t, s) => rfl
    | ⟨_ + 1, h⟩, _ => exact absurd h (Nat.not_lt.2 (Nat.le_add_left _ _)))
theorem defs_same : Cert.Kernel.defs (F := F) = Cert.KernelIdeal.defs (F := F) :=
  congrArg (Pipeline.defs (Cert.KernelIdeal.pcfgs (F := F))) defs₀_same
theorem main_same : Cert.Kernel.main (F := F) = Cert.KernelIdeal.main (F := F) := rfl

end Cert.Moe
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run

public import proofs.«01_k».proof.Proof.Gen.Pre_routes_in_range_KernelIdeal
public import proofs.«01_k».proof.Proof.Gen.Pre_routes_in_range_ReferenceIdeal
public import proofs.«01_k».proof.Proof.KI.Launch
public import proofs.«01_k».proof.Proof.KI.Alg
public import proofs.«01_k».proof.Proof.K.Same
public import Idealize.ShloMosaic.Lib.Pipeline.Kit

@[expose] public section

noncomputable section

namespace Cert.Proof

open Idealize.ShloMosaic Idealize.SL.Sem

/-- The kernel read ideally ends with its arguments unchanged and every counter at zero. -/
theorem frame_ideal : Cert.quiescent_KernelIdeal := fun m ρ _ => Cert.KernelIdeal.Moe.frame_run (F := Ideal) m ρ

/-- So does the kernel read at bits: it is the same text. -/
theorem frame_kernel : Cert.quiescent_Kernel := by
  intro m ρ _
  rw [Cert.Moe.defs_same]
  exact Cert.KernelIdeal.Moe.frame_run (F := Bits) m ρ

/-- The reference ends with its arguments unchanged and every counter at zero. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- With every route in range, the two results are the same. -/
theorem value : Cert.algebraic_KernelIdeal_ReferenceIdeal_pre_routes_in_range_KernelIdeal := by
  intro m g m' g' hpre hin
  have hT : Layout.Tiles ⟨3, ![4, 512, 1024]⟩ ⟨3, ![64, 512, 1024]⟩ 0 16 := by decide
  have hr := fun t => Cert.KernelIdeal.Moe.pre_word _ _ _ _ (hpre 0) t
  rw [(hin 0).2.2.1] at hr
  refine ⟨Cert.ReferenceIdeal.Value.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono
      (fun r h c => ⟨((h.1 c).1 (3 : Fin 4)).trans ((Cert.KernelIdeal.Moe.final3 m g c).trans
          (Cert.KernelIdeal.Moe.outV_eq m g _ _ _ hT (fun c => (hin c).1) (fun c => (hin c).2.2.1) (fun c => (hin c).2.2.2) hr c)),
        ((h.1 c).1 (0 : Fin 4)).trans (Cert.KernelIdeal.Moe.final0 m g c), (h.1 c).2,
        ((h.1 c).1 (2 : Fin 4)).trans (Cert.KernelIdeal.Moe.final2 m g c), ((h.1 c).1 (1 : Fin 4)).trans (Cert.KernelIdeal.Moe.final1 m g c)⟩)
      (Cert.KernelIdeal.Moe.run_main (F := Ideal) m g)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_routes_in_range_KernelIdeal.Gen.facts,
    Cert.Pre_routes_in_range_ReferenceIdeal.Gen.facts, frame_kernel, frame_ideal, fun m g _ => frame_ideal m g trivial, frame_reference,
    fun m g _ => frame_reference m g trivial, trivial, value⟩

end Cert.Proof

end
